-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Plan (m : (ℓ : Loc Cert.Plan.nD Cert.Plan.τ Cert.Plan.sig) → Buf (Elt Bits) ℓ) : Prop :=
  True

def Pre_PlanIdeal (m : (ℓ : Loc Cert.PlanIdeal.nD Cert.PlanIdeal.τ Cert.PlanIdeal.sig) → Buf (Elt Ideal) ℓ) : Prop :=
  True

def Pre_PlanIdeal_in_range [hPre_in_range : Cert.Pre_in_range.Facts] (m : (ℓ : Loc Cert.PlanIdeal.nD Cert.PlanIdeal.τ Cert.PlanIdeal.sig) → Buf (Elt Ideal) ℓ) : Prop :=
  ∀ c : Dev Cert.PlanIdeal.nD,
    (Cert.Pre_in_range.fn (F := Ideal) (m ((c.tc : Thread Cert.PlanIdeal.nD Cert.PlanIdeal.τ).loc Cert.PlanIdeal.main_arg0)) (m ((c.tc : Thread Cert.PlanIdeal.nD Cert.PlanIdeal.τ).loc Cert.PlanIdeal.main_arg1)) (m ((c.tc : Thread Cert.PlanIdeal.nD Cert.PlanIdeal.τ).loc Cert.PlanIdeal.main_arg2))) = (fun _ => 1#1)

def Pre_PlanReferenceIdeal (m : (ℓ : Loc Cert.PlanReferenceIdeal.nD Cert.PlanReferenceIdeal.τ Cert.PlanReferenceIdeal.sig) → Buf (Elt Ideal) ℓ) : Prop :=
  True

def Pre_PlanReferenceIdeal_in_range [hPre_in_range : Cert.Pre_in_range.Facts] (m : (ℓ : Loc Cert.PlanReferenceIdeal.nD Cert.PlanReferenceIdeal.τ Cert.PlanReferenceIdeal.sig) → Buf (Elt Ideal) ℓ) : Prop :=
  ∀ c : Dev Cert.PlanReferenceIdeal.nD,
    (Cert.Pre_in_range.fn (F := Ideal) (m ((c.tc : Thread Cert.PlanReferenceIdeal.nD Cert.PlanReferenceIdeal.τ).loc Cert.PlanReferenceIdeal.main_arg0)) (m ((c.tc : Thread Cert.PlanReferenceIdeal.nD Cert.PlanReferenceIdeal.τ).loc Cert.PlanReferenceIdeal.main_arg1)) (m ((c.tc : Thread Cert.PlanReferenceIdeal.nD Cert.PlanReferenceIdeal.τ).loc Cert.PlanReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Plan [hPlan : Cert.Plan.Facts] : Prop :=
  ∀ (m : (ℓ : Loc Cert.Plan.nD Cert.Plan.τ Cert.Plan.sig) → Buf (Elt Bits) ℓ) (g : Dev Cert.Plan.nD → PrngReg), Pre_Plan m →
    θ_run (Cert.Plan.defs (F := Bits)) (onTc (τ := Cert.Plan.τ) (Cert.Plan.main (F := Bits))) ⟨m, fun _ => 0, g⟩ (fun r => (∀ c : Dev Cert.Plan.nD,
      r.2.mem ((c.tc : Thread Cert.Plan.nD Cert.Plan.τ).loc Cert.Plan.main_arg0) = m ((c.tc : Thread Cert.Plan.nD Cert.Plan.τ).loc Cert.Plan.main_arg0)
      ∧ r.2.mem ((c.tc : Thread Cert.Plan.nD Cert.Plan.τ).loc Cert.Plan.main_arg1) = m ((c.tc : Thread Cert.Plan.nD Cert.Plan.τ).loc Cert.Plan.main_arg1)
      ∧ r.2.mem ((c.tc : Thread Cert.Plan.nD Cert.Plan.τ).loc Cert.Plan.main_arg2) = m ((c.tc : Thread Cert.Plan.nD Cert.Plan.τ).loc Cert.Plan.main_arg2))
      ∧ r.2.sem = fun _ => 0)

def quiescent_PlanIdeal [hPlanIdeal : Cert.PlanIdeal.Facts] : Prop :=
  ∀ (m : (ℓ : Loc Cert.PlanIdeal.nD Cert.PlanIdeal.τ Cert.PlanIdeal.sig) → Buf (Elt Ideal) ℓ) (g : Dev Cert.PlanIdeal.nD → PrngReg), Pre_PlanIdeal m →
    θ_run (Cert.PlanIdeal.defs (F := Ideal)) (onTc (τ := Cert.PlanIdeal.τ) (Cert.PlanIdeal.main (F := Ideal))) ⟨m, fun _ => 0, g⟩ (fun r => (∀ c : Dev Cert.PlanIdeal.nD,
      r.2.mem ((c.tc : Thread Cert.PlanIdeal.nD Cert.PlanIdeal.τ).loc Cert.PlanIdeal.main_arg0) = m ((c.tc : Thread Cert.PlanIdeal.nD Cert.PlanIdeal.τ).loc Cert.PlanIdeal.main_arg0)
      ∧ r.2.mem ((c.tc : Thread Cert.PlanIdeal.nD Cert.PlanIdeal.τ).loc Cert.PlanIdeal.main_arg1) = m ((c.tc : Thread Cert.PlanIdeal.nD Cert.PlanIdeal.τ).loc Cert.PlanIdeal.main_arg1)
      ∧ r.2.mem ((c.tc : Thread Cert.PlanIdeal.nD Cert.PlanIdeal.τ).loc Cert.PlanIdeal.main_arg2) = m ((c.tc : Thread Cert.PlanIdeal.nD Cert.PlanIdeal.τ).loc Cert.PlanIdeal.main_arg2))
      ∧ r.2.sem = fun _ => 0)

def quiescent_PlanIdeal_pre_in_range [hPlanIdeal : Cert.PlanIdeal.Facts] [hPre_in_range : Cert.Pre_in_range.Facts] : Prop :=
  ∀ (m : (ℓ : Loc Cert.PlanIdeal.nD Cert.PlanIdeal.τ Cert.PlanIdeal.sig) → Buf (Elt Ideal) ℓ) (g : Dev Cert.PlanIdeal.nD → PrngReg), Pre_PlanIdeal_in_range m →
    θ_run (Cert.PlanIdeal.defs (F := Ideal)) (onTc (τ := Cert.PlanIdeal.τ) (Cert.PlanIdeal.main (F := Ideal))) ⟨m, fun _ => 0, g⟩ (fun r => (∀ c : Dev Cert.PlanIdeal.nD,
      r.2.mem ((c.tc : Thread Cert.PlanIdeal.nD Cert.PlanIdeal.τ).loc Cert.PlanIdeal.main_arg0) = m ((c.tc : Thread Cert.PlanIdeal.nD Cert.PlanIdeal.τ).loc Cert.PlanIdeal.main_arg0)
      ∧ r.2.mem ((c.tc : Thread Cert.PlanIdeal.nD Cert.PlanIdeal.τ).loc Cert.PlanIdeal.main_arg1) = m ((c.tc : Thread Cert.PlanIdeal.nD Cert.PlanIdeal.τ).loc Cert.PlanIdeal.main_arg1)
      ∧ r.2.mem ((c.tc : Thread Cert.PlanIdeal.nD Cert.PlanIdeal.τ).loc Cert.PlanIdeal.main_arg2) = m ((c.tc : Thread Cert.PlanIdeal.nD Cert.PlanIdeal.τ).loc Cert.PlanIdeal.main_arg2))
      ∧ r.2.sem = fun _ => 0)

def quiescent_PlanReferenceIdeal [hPlanReferenceIdeal : Cert.PlanReferenceIdeal.Facts] : Prop :=
  ∀ (m : (ℓ : Loc Cert.PlanReferenceIdeal.nD Cert.PlanReferenceIdeal.τ Cert.PlanReferenceIdeal.sig) → Buf (Elt Ideal) ℓ) (g : Dev Cert.PlanReferenceIdeal.nD → PrngReg), Pre_PlanReferenceIdeal m →
    θ_run (Cert.PlanReferenceIdeal.defs (F := Ideal)) (onTc (τ := Cert.PlanReferenceIdeal.τ) (Cert.PlanReferenceIdeal.main (F := Ideal))) ⟨m, fun _ => 0, g⟩ (fun r => (∀ c : Dev Cert.PlanReferenceIdeal.nD,
      r.2.mem ((c.tc : Thread Cert.PlanReferenceIdeal.nD Cert.PlanReferenceIdeal.τ).loc Cert.PlanReferenceIdeal.main_arg0) = m ((c.tc : Thread Cert.PlanReferenceIdeal.nD Cert.PlanReferenceIdeal.τ).loc Cert.PlanReferenceIdeal.main_arg0)
      ∧ r.2.mem ((c.tc : Thread Cert.PlanReferenceIdeal.nD Cert.PlanReferenceIdeal.τ).loc Cert.PlanReferenceIdeal.main_arg1) = m ((c.tc : Thread Cert.PlanReferenceIdeal.nD Cert.PlanReferenceIdeal.τ).loc Cert.PlanReferenceIdeal.main_arg1)
      ∧ r.2.mem ((c.tc : Thread Cert.PlanReferenceIdeal.nD Cert.PlanReferenceIdeal.τ).loc Cert.PlanReferenceIdeal.main_arg2) = m ((c.tc : Thread Cert.PlanReferenceIdeal.nD Cert.PlanReferenceIdeal.τ).loc Cert.PlanReferenceIdeal.main_arg2))
      ∧ r.2.sem = fun _ => 0)

def quiescent_PlanReferenceIdeal_pre_in_range [hPlanReferenceIdeal : Cert.PlanReferenceIdeal.Facts] [hPre_in_range : Cert.Pre_in_range.Facts] : Prop :=
  ∀ (m : (ℓ : Loc Cert.PlanReferenceIdeal.nD Cert.PlanReferenceIdeal.τ Cert.PlanReferenceIdeal.sig) → Buf (Elt Ideal) ℓ) (g : Dev Cert.PlanReferenceIdeal.nD → PrngReg), Pre_PlanReferenceIdeal_in_range m →
    θ_run (Cert.PlanReferenceIdeal.defs (F := Ideal)) (onTc (τ := Cert.PlanReferenceIdeal.τ) (Cert.PlanReferenceIdeal.main (F := Ideal))) ⟨m, fun _ => 0, g⟩ (fun r => (∀ c : Dev Cert.PlanReferenceIdeal.nD,
      r.2.mem ((c.tc : Thread Cert.PlanReferenceIdeal.nD Cert.PlanReferenceIdeal.τ).loc Cert.PlanReferenceIdeal.main_arg0) = m ((c.tc : Thread Cert.PlanReferenceIdeal.nD Cert.PlanReferenceIdeal.τ).loc Cert.PlanReferenceIdeal.main_arg0)
      ∧ r.2.mem ((c.tc : Thread Cert.PlanReferenceIdeal.nD Cert.PlanReferenceIdeal.τ).loc Cert.PlanReferenceIdeal.main_arg1) = m ((c.tc : Thread Cert.PlanReferenceIdeal.nD Cert.PlanReferenceIdeal.τ).loc Cert.PlanReferenceIdeal.main_arg1)
      ∧ r.2.mem ((c.tc : Thread Cert.PlanReferenceIdeal.nD Cert.PlanReferenceIdeal.τ).loc Cert.PlanReferenceIdeal.main_arg2) = m ((c.tc : Thread Cert.PlanReferenceIdeal.nD Cert.PlanReferenceIdeal.τ).loc Cert.PlanReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Proj_ProjIdeal : Prop :=
  IdealRules.named_const.Statement Cert.ProjIdeal.κ "q_scale" .f32 0x3E0293EE#32 (((Real.sqrt 128)⁻¹ * (Real.log 2)⁻¹ : ℝ) : EReal)

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v24)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v24) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v64) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v23) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_Out_OutIdeal : Prop :=
  IdealRules.bf16_pair.BufferStatement Cert.OutIdeal.S16384x2x2048 Cert.OutIdeal.S16384x1x2048
  ∧ IdealRules.bf16_pair.BufferStatement Cert.OutIdeal.S512x2x2048 Cert.OutIdeal.S512x1x2048
  ∧ IdealRules.bf16_pair.Statement Cert.OutIdeal.S512x2x512 Cert.OutIdeal.S512x1x512
  ∧ IdealRules.bf16_pack.Statement Cert.OutIdeal.S512x512

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3_0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v28) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v23) = v0 c
          ∧ r.2.mem ((c.tc : Thread Cert.NormReferenceIdeal.nD Cert.NormReferenceIdeal.τ).loc Cert.NormReferenceIdeal.main_v24) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Plan_PlanIdeal : Prop :=
  True

def algebraic_PlanIdeal_PlanReferenceIdeal_pre_in_range [hPlanIdeal : Cert.PlanIdeal.Facts] [hPlanReferenceIdeal : Cert.PlanReferenceIdeal.Facts] [hPre_in_range : Cert.Pre_in_range.Facts] : Prop :=
  ∀ (m : (ℓ : Loc Cert.PlanIdeal.nD Cert.PlanIdeal.τ Cert.PlanIdeal.sig) → Buf (Elt Ideal) ℓ) (g : Dev Cert.PlanIdeal.nD → PrngReg)
    (m' : (ℓ : Loc Cert.PlanReferenceIdeal.nD Cert.PlanReferenceIdeal.τ Cert.PlanReferenceIdeal.sig) → Buf (Elt Ideal) ℓ) (g' : Dev Cert.PlanReferenceIdeal.nD → PrngReg), Pre_PlanIdeal_in_range m →
    (∀ c : Dev Cert.PlanIdeal.nD,
      m' ((c.tc : Thread Cert.PlanReferenceIdeal.nD Cert.PlanReferenceIdeal.τ).loc Cert.PlanReferenceIdeal.main_arg0) = m ((c.tc : Thread Cert.PlanIdeal.nD Cert.PlanIdeal.τ).loc Cert.PlanIdeal.main_arg0)
      ∧ m' ((c.tc : Thread Cert.PlanReferenceIdeal.nD Cert.PlanReferenceIdeal.τ).loc Cert.PlanReferenceIdeal.main_arg1) = m ((c.tc : Thread Cert.PlanIdeal.nD Cert.PlanIdeal.τ).loc Cert.PlanIdeal.main_arg1)
      ∧ m' ((c.tc : Thread Cert.PlanReferenceIdeal.nD Cert.PlanReferenceIdeal.τ).loc Cert.PlanReferenceIdeal.main_arg2) = m ((c.tc : Thread Cert.PlanIdeal.nD Cert.PlanIdeal.τ).loc Cert.PlanIdeal.main_arg2)) →
    ∃ (v0 : (c : Dev Cert.PlanIdeal.nD) → Buf (Elt Ideal) ((c.tc : Thread Cert.PlanIdeal.nD Cert.PlanIdeal.τ).loc Cert.PlanIdeal.main_v1)),
      θ_run (Cert.PlanIdeal.defs (F := Ideal)) (onTc (τ := Cert.PlanIdeal.τ) (Cert.PlanIdeal.main (F := Ideal))) ⟨m, fun _ => 0, g⟩ (fun r => ∀ c : Dev Cert.PlanIdeal.nD,
          r.2.mem ((c.tc : Thread Cert.PlanIdeal.nD Cert.PlanIdeal.τ).loc Cert.PlanIdeal.main_v1) = v0 c
          ∧ r.2.mem ((c.tc : Thread Cert.PlanIdeal.nD Cert.PlanIdeal.τ).loc Cert.PlanIdeal.main_arg0) = m ((c.tc : Thread Cert.PlanIdeal.nD Cert.PlanIdeal.τ).loc Cert.PlanIdeal.main_arg0)
          ∧ r.2.mem ((c.tc : Thread Cert.PlanIdeal.nD Cert.PlanIdeal.τ).loc Cert.PlanIdeal.main_arg1) = m ((c.tc : Thread Cert.PlanIdeal.nD Cert.PlanIdeal.τ).loc Cert.PlanIdeal.main_arg1)
          ∧ r.2.mem ((c.tc : Thread Cert.PlanIdeal.nD Cert.PlanIdeal.τ).loc Cert.PlanIdeal.main_arg2) = m ((c.tc : Thread Cert.PlanIdeal.nD Cert.PlanIdeal.τ).loc Cert.PlanIdeal.main_arg2))
      ∧ θ_run (Cert.PlanReferenceIdeal.defs (F := Ideal)) (onTc (τ := Cert.PlanReferenceIdeal.τ) (Cert.PlanReferenceIdeal.main (F := Ideal))) ⟨m', fun _ => 0, g'⟩ (fun r => ∀ c : Dev Cert.PlanReferenceIdeal.nD,
          r.2.mem ((c.tc : Thread Cert.PlanReferenceIdeal.nD Cert.PlanReferenceIdeal.τ).loc Cert.PlanReferenceIdeal.main_v7) = v0 c
          ∧ r.2.mem ((c.tc : Thread Cert.PlanReferenceIdeal.nD Cert.PlanReferenceIdeal.τ).loc Cert.PlanReferenceIdeal.main_arg0) = m' ((c.tc : Thread Cert.PlanReferenceIdeal.nD Cert.PlanReferenceIdeal.τ).loc Cert.PlanReferenceIdeal.main_arg0)
          ∧ r.2.mem ((c.tc : Thread Cert.PlanReferenceIdeal.nD Cert.PlanReferenceIdeal.τ).loc Cert.PlanReferenceIdeal.main_arg1) = m' ((c.tc : Thread Cert.PlanReferenceIdeal.nD Cert.PlanReferenceIdeal.τ).loc Cert.PlanReferenceIdeal.main_arg1)
          ∧ r.2.mem ((c.tc : Thread Cert.PlanReferenceIdeal.nD Cert.PlanReferenceIdeal.τ).loc Cert.PlanReferenceIdeal.main_arg2) = m' ((c.tc : Thread Cert.PlanReferenceIdeal.nD Cert.PlanReferenceIdeal.τ).loc Cert.PlanReferenceIdeal.main_arg2))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hMix : Cert.Mix.Facts) (hMixIdeal : Cert.MixIdeal.Facts) (hMixReferenceIdeal : Cert.MixReferenceIdeal.Facts) (hOut : Cert.Out.Facts) (hOutIdeal : Cert.OutIdeal.Facts) (hOutReferenceIdeal : Cert.OutReferenceIdeal.Facts) (hNorm : Cert.Norm.Facts) (hNormIdeal : Cert.NormIdeal.Facts) (hNormReferenceIdeal : Cert.NormReferenceIdeal.Facts) (hPlan : Cert.Plan.Facts) (hPlanIdeal : Cert.PlanIdeal.Facts) (hPlanReferenceIdeal : Cert.PlanReferenceIdeal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjReferenceIdeal (hProjReferenceIdeal := hProjReferenceIdeal)
    ∧ quiescent_Mix (hMix := hMix)
    ∧ quiescent_MixIdeal (hMixIdeal := hMixIdeal)
    ∧ quiescent_MixReferenceIdeal (hMixReferenceIdeal := hMixReferenceIdeal)
    ∧ quiescent_Out (hOut := hOut)
    ∧ quiescent_OutIdeal (hOutIdeal := hOutIdeal)
    ∧ quiescent_OutReferenceIdeal (hOutReferenceIdeal := hOutReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Plan (hPlan := hPlan)
    ∧ quiescent_PlanIdeal (hPlanIdeal := hPlanIdeal)
    ∧ quiescent_PlanIdeal_pre_in_range (hPlanIdeal := hPlanIdeal) (hPre_in_range := hPre_in_range)
    ∧ quiescent_PlanReferenceIdeal (hPlanReferenceIdeal := hPlanReferenceIdeal)
    ∧ quiescent_PlanReferenceIdeal_pre_in_range (hPlanReferenceIdeal := hPlanReferenceIdeal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjReferenceIdeal (hProjIdeal := hProjIdeal) (hProjReferenceIdeal := hProjReferenceIdeal)
    ∧ preserves_Mix_MixIdeal
    ∧ algebraic_MixIdeal_MixReferenceIdeal (hMixIdeal := hMixIdeal) (hMixReferenceIdeal := hMixReferenceIdeal)
    ∧ preserves_Out_OutIdeal
    ∧ algebraic_OutIdeal_OutReferenceIdeal (hOutIdeal := hOutIdeal) (hOutReferenceIdeal := hOutReferenceIdeal)
    ∧ preserves_Norm_NormIdeal
    ∧ algebraic_NormIdeal_NormReferenceIdeal (hNormIdeal := hNormIdeal) (hNormReferenceIdeal := hNormReferenceIdeal)
    ∧ preserves_Plan_PlanIdeal
    ∧ algebraic_PlanIdeal_PlanReferenceIdeal_pre_in_range (hPlanIdeal := hPlanIdeal) (hPlanReferenceIdeal := hPlanReferenceIdeal) (hPre_in_range := hPre_in_range)
-- ==== Pre_finite.lean ====
abbrev S16384x28672 : Shape := ⟨2, ![16384, 28672]⟩
abbrev S1 : Shape := ⟨1, ![1]⟩
abbrev S256 : Shape := ⟨1, ![256]⟩
abbrev S16384x12288 : Shape := ⟨2, ![16384, 12288]⟩
abbrev S_ : Shape := ⟨0, ![]⟩

class Facts : Prop where
  slices_S16384x28672_S16384x12288_0_0 : S16384x28672.Slices ![0, 0] S16384x12288
  bcast_S_S16384x12288 : S_.BroadcastsInDim S16384x12288 (![] : Fin 0 → Fin S16384x12288.rank)
  shapeCasts_S1_S_ : S1.ShapeCasts S_

variable [Facts]

def fn {F : FTy → Type} [FloatOps F] (main_arg0 : FVec F S16384x28672 .bf16) (main_arg1 : FVec F S1 .f32) (main_arg2 : FVec F S256 .f32) : IVec S16384x12288 1 :=
  let main_v0 : FVec F S16384x12288 .bf16 := (extractStridedSlice S16384x12288 ![0, 0] · slices_S16384x28672_S16384x12288_0_0) main_arg0
  let main_v1 : FVec F S16384x12288 .bf16 := Host.absf main_v0
  let main_cst : FVec F S_ .bf16 := constant S_ .bf16 0x7F80#16
  let main_v2 : FVec F S16384x12288 .bf16 := broadcastInDim S16384x12288 ![] bcast_S_S16384x12288 main_cst
  let main_v3 : IVec S16384x12288 1 := cmpf .olt main_v1 main_v2
  let main_v4 : FVec F S_ .f32 := shapeCast S_ main_arg1 shapeCasts_S1_S_
  let main_v5 : FVec F S_ .f32 := Host.absf main_v4
  let main_cst_0 : FVec F S_ .f32 := constant S_ .f32 0x7F800000#32
  let main_v6 : IVec S_ 1 := cmpf .olt main_v5 main_cst_0
  let main_v7 : IVec S16384x12288 1 := broadcastInDim S16384x12288 ![] bcast_S_S16384x12288 main_v6
  let main_v8 : IVec S16384x12288 1 := andi main_v3 main_v7
  main_v8
-- ==== Pre_in_range.lean ====
abbrev S16384x128 : Shape := ⟨2, ![16384, 128]⟩
abbrev S128 : Shape := ⟨1, ![128]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : IVec S16384x128 32) (main_arg1 : IVec S16384x128 32) (main_arg2 : IVec S128 32) : IVec S16384x128 1 :=
  let main_c : IVec S_ 32 := constantI S_ 32 4294967168#32
  let main_v0 : IVec S16384x128 32 := broadcastInDim S16384x128 ![] bcast_S_S16384x128 main_c
  let main_v1 : IVec S16384x128 1 := cmpi .sge main_arg0 main_v0
  let main_c_0 : IVec S_ 32 := constantI S_ 32 128#32
  let main_v2 : IVec S16384x128 32 := broadcastInDim S16384x128 ![] bcast_S_S16384x128 main_c_0
  let main_v3 : IVec S16384x128 1 := cmpi .slt main_arg0 main_v2
  let main_v4 : IVec S16384x128 1 := andi main_v1 main_v3
  main_v4
-- ==== Kernel.lean ====
abbrev S16384x28672 : Shape := ⟨2, ![16384, 28672]⟩
abbrev S1 : Shape := ⟨1, ![1]⟩
abbrev S256 : Shape := ⟨1, ![256]⟩
abbrev S1x256 : Shape := ⟨2, ![1, 256]⟩
abbrev S16384x4096 : Shape := ⟨2, ![16384, 4096]⟩
abbrev S1024x256 : Shape := ⟨2, ![1024, 256]⟩
abbrev S4096x256 : Shape := ⟨2, ![4096, 256]⟩
abbrev S256x1024 : Shape := ⟨2, ![256, 1024]⟩
abbrev S4x272x1024 : Shape := ⟨3, ![4, 272, 1024]⟩
abbrev S4x2x1024x1024 : Shape := ⟨4, ![4, 2, 1024, 1024]⟩
abbrev S2x272x1024 : Shape := ⟨3, ![2, 272, 1024]⟩
abbrev S1x256x1024 : Shape := ⟨3, ![1, 256, 1024]⟩
abbrev S16x1024 : Shape := ⟨2, ![16, 1024]⟩
abbrev S1x16x1024 : Shape := ⟨3, ![1, 16, 1024]⟩
abbrev S1x1024 : Shape := ⟨2, ![1, 1024]⟩
abbrev S1024x128 : Shape := ⟨2, ![1024, 128]⟩
abbrev S128x1024 : Shape := ⟨2, ![128, 1024]⟩
abbrev S1024x1024 : Shape := ⟨2, ![1024, 1024]⟩
abbrev S1x1x1024x1024 : Shape := ⟨4, ![1, 1, 1024, 1024]⟩
abbrev S1024 : Shape := ⟨1, ![1024]⟩
abbrev S1x272x1024 : Shape := ⟨3, ![1, 272, 1024]⟩
abbrev S272x1024 : Shape := ⟨2, ![272, 1024]⟩
abbrev S1x1x1024 : Shape := ⟨3, ![1, 1, 1024]⟩

abbrev nBuf : Space → Nat
  | .hbm => 5
  | .vmem => 13
  | .smem => 1
  | _ => 0

abbrev bufTy : (tb : Table) → Fin (tcTables nBuf tb) → BufTy
  | .hbm, ⟨0, _⟩ => ⟨S16384x28672, .bf16⟩
  | .hbm, ⟨1, _⟩ => ⟨S1, .f32⟩
  | .hbm, ⟨2, _⟩ => ⟨S256, .f32⟩
  | .hbm, ⟨3, _⟩ => ⟨S1x256, .f32⟩
  | .hbm, ⟨4, _⟩ => ⟨S16384x4096, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x256, .f32⟩
  | .local _ .vmem, ⟨7, _⟩ => ⟨S1024x256, .bf16⟩
  | .local _ .vmem, ⟨8, _⟩ => ⟨S1024x256, .bf16⟩
  | .local _ .vmem, ⟨9, _⟩ => ⟨S256x1024, .bf16⟩
  | .local _ .vmem, ⟨10, _⟩ => ⟨S4x272x1024, .bf16⟩
  | .local _ .vmem, ⟨11, _⟩ => ⟨S4x2x1024x1024, .f32⟩
  | .local _ .vmem, ⟨12, _⟩ => ⟨S2x272x1024, .f32⟩
  | .local _ .smem, ⟨0, _⟩ => ⟨S1, .f32⟩
  | _, _ => ⟨S16384x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 16, 4], ![false, false, false]⟩

@[reducible] def k0_t1_loop (i : grid0.Coords) : Scf.Loop 32 :=
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_12 : BitVec 32 := 1#32
  ⟨c0_i32_10, v33, c1_i32_12⟩
def k0_mult1 (i : grid0.Coords) (k0_t1 : Fin (k0_t1_loop i).trips) : BitVec 32 :=
  let c2_i32_101 : BitVec 32 := 2#32
  let c0_i32_10 : BitVec 32 := 0#32
  let c1_i32_12 : BitVec 32 := 1#32
  let arg13 : BitVec 32 := Scf.iv c0_i32_10 c1_i32_12 k0_t1
  let v212 : BitVec 32 := Scalar.muli c2_i32_101 arg13
  let c1024_i32_102 : BitVec 32 := 1024#32
  let v213 : BitVec 32 := Scalar.muli v212 c1024_i32_102
  v213
def k0_off1 (i : grid0.Coords) (k0_t1 : Fin (k0_t1_loop i).trips) : Fin 2 → Nat :=
  let c2_i32_101 : BitVec 32 := 2#32
  let c0_i32_10 : BitVec 32 := 0#32
  let c1_i32_12 : BitVec 32 := 1#32
  let arg13 : BitVec 32 := Scf.iv c0_i32_10 c1_i32_12 k0_t1
  let v212 : BitVec 32 := Scalar.muli c2_i32_101 arg13
  let c1024_i32_102 : BitVec 32 := 1024#32
  let v213 : BitVec 32 := Scalar.muli v212 c1024_i32_102
  let v214 : BitVec 32 := v213
  let v215 : Index := Scalar.indexCast v214
  let c0_103 : Index := 0#32
  ![v215.toNat, 0]
def k0_off2 (i : grid0.Coords) (k0_t1 : Fin (k0_t1_loop i).trips) : Fin 4 → Nat :=
  let c2_i32_101 : BitVec 32 := 2#32
  let c0_i32_10 : BitVec 32 := 0#32
  let c1_i32_12 : BitVec 32 := 1#32
  let arg13 : BitVec 32 := Scf.iv c0_i32_10 c1_i32_12 k0_t1
  let v212 : BitVec 32 := Scalar.muli c2_i32_101 arg13
  let v219 : Index := Scalar.indexCast v212
  let c0_107 : Index := 0#32
  let c0_108 : Index := 0#32
  let c0_109 : Index := 0#32
  ![v219.toNat, 0, 0, 0]
def k0_mult2 (i : grid0.Coords) (k0_t1 : Fin (k0_t1_loop i).trips) : BitVec 32 :=
  let c2_i32_101 : BitVec 32 := 2#32
  let c0_i32_10 : BitVec 32 := 0#32
  let c1_i32_12 : BitVec 32 := 1#32
  let arg13 : BitVec 32 := Scf.iv c0_i32_10 c1_i32_12 k0_t1
  let v212 : BitVec 32 := Scalar.muli c2_i32_101 arg13
  let c1024_i32_111 : BitVec 32 := 1024#32
  let v226 : BitVec 32 := Scalar.muli v212 c1024_i32_111
  v226
def k0_off3 (i : grid0.Coords) (k0_t1 : Fin (k0_t1_loop i).trips) : Fin 2 → Nat :=
  let c2_i32_101 : BitVec 32 := 2#32
  let c0_i32_10 : BitVec 32 := 0#32
  let c1_i32_12 : BitVec 32 := 1#32
  let arg13 : BitVec 32 := Scf.iv c0_i32_10 c1_i32_12 k0_t1
  let v212 : BitVec 32 := Scalar.muli c2_i32_101 arg13
  let c1024_i32_111 : BitVec 32 := 1024#32
  let v226 : BitVec 32 := Scalar.muli v212 c1024_i32_111
  let v227 : BitVec 32 := v226
  let v228 : Index := Scalar.indexCast v227
  let c128_112 : Index := 128#32
  ![v228.toNat, 128]
def k0_off4 (i : grid0.Coords) (k0_t1 : Fin (k0_t1_loop i).trips) : Fin 4 → Nat :=
  let c2_i32_101 : BitVec 32 := 2#32
  let c0_i32_10 : BitVec 32 := 0#32
  let c1_i32_12 : BitVec 32 := 1#32
  let arg13 : BitVec 32 := Scf.iv c0_i32_10 c1_i32_12 k0_t1
  let v212 : BitVec 32 := Scalar.muli c2_i32_101 arg13
  let v232 : Index := Scalar.indexCast v212
  let c1_116 : Index := 1#32
  let c0_117 : Index := 0#32
  let c0_118 : Index := 0#32
  ![v232.toNat, 1, 0, 0]
def k0_mult3 (i : grid0.Coords) (k0_t1 : Fin (k0_t1_loop i).trips) : BitVec 32 :=
  let c2_i32_99 : BitVec 32 := 2#32
  let c0_i32_10 : BitVec 32 := 0#32
  let c1_i32_12 : BitVec 32 := 1#32
  let arg13 : BitVec 32 := Scf.iv c0_i32_10 c1_i32_12 k0_t1
  let v210 : BitVec 32 := Scalar.muli c2_i32_99 arg13
  let c1_i32_100 : BitVec 32 := 1#32
  let v211 : BitVec 32 := Scalar.addi v210 c1_i32_100
  let c1024_i32_120 : BitVec 32 := 1024#32
  let v239 : BitVec 32 := Scalar.muli v211 c1024_i32_120
  v239
def k0_off5 (i : grid0.Coords) (k0_t1 : Fin (k0_t1_loop i).trips) : Fin 2 → Nat :=
  let c2_i32_99 : BitVec 32 := 2#32
  let c0_i32_10 : BitVec 32 := 0#32
  let c1_i32_12 : BitVec 32 := 1#32
  let arg13 : BitVec 32 := Scf.iv c0_i32_10 c1_i32_12 k0_t1
  let v210 : BitVec 32 := Scalar.muli c2_i32_99 arg13
  let c1_i32_100 : BitVec 32 := 1#32
  let v211 : BitVec 32 := Scalar.addi v210 c1_i32_100
  let c1024_i32_120 : BitVec 32 := 1024#32
  let v239 : BitVec 32 := Scalar.muli v211 c1024_i32_120
  let v240 : BitVec 32 := v239
  let v241 : Index := Scalar.indexCast v240
  let c0_121 : Index := 0#32
  ![v241.toNat, 0]
def k0_off6 (i : grid0.Coords) (k0_t1 : Fin (k0_t1_loop i).trips) : Fin 4 → Nat :=
  let c2_i32_99 : BitVec 32 := 2#32
  let c0_i32_10 : BitVec 32 := 0#32
  let c1_i32_12 : BitVec 32 := 1#32
  let arg13 : BitVec 32 := Scf.iv c0_i32_10 c1_i32_12 k0_t1
  let v210 : BitVec 32 := Scalar.muli c2_i32_99 arg13
  let c1_i32_100 : BitVec 32 := 1#32
  let v211 : BitVec 32 := Scalar.addi v210 c1_i32_100
  let v245 : Index := Scalar.indexCast v211
  let c0_125 : Index := 0#32
  let c0_126 : Index := 0#32
  let c0_127 : Index := 0#32
  ![v245.toNat, 0, 0, 0]
def k0_mult4 (i : grid0.Coords) (k0_t1 : Fin (k0_t1_loop i).trips) : BitVec 32 :=
  let c2_i32_99 : BitVec 32 := 2#32
  let c0_i32_10 : BitVec 32 := 0#32
  let c1_i32_12 : BitVec 32 := 1#32
  let arg13 : BitVec 32 := Scf.iv c0_i32_10 c1_i32_12 k0_t1
  let v210 : BitVec 32 := Scalar.muli c2_i32_99 arg13
  let c1_i32_100 : BitVec 32 := 1#32
  let v211 : BitVec 32 := Scalar.addi v210 c1_i32_100
  let c1024_i32_129 : BitVec 32 := 1024#32
  let v252 : BitVec 32 := Scalar.muli v211 c1024_i32_129
  v252
def k0_off7 (i : grid0.Coords) (k0_t1 : Fin (k0_t1_loop i).trips) : Fin 2 → Nat :=
  let c2_i32_99 : BitVec 32 := 2#32
  let c0_i32_10 : BitVec 32 := 0#32
  let c1_i32_12 : BitVec 32 := 1#32
  let arg13 : BitVec 32 := Scf.iv c0_i32_10 c1_i32_12 k0_t1
  let v210 : BitVec 32 := Scalar.muli c2_i32_99 arg13
  let c1_i32_100 : BitVec 32 := 1#32
  let v211 : BitVec 32 := Scalar.addi v210 c1_i32_100
  let c1024_i32_129 : BitVec 32 := 1024#32
  let v252 : BitVec 32 := Scalar.muli v211 c1024_i32_129
  let v253 : BitVec 32 := v252
  let v254 : Index := Scalar.indexCast v253
  let c128_130 : Index := 128#32
  ![v254.toNat, 128]
def k0_off8 (i : grid0.Coords) (k0_t1 : Fin (k0_t1_loop i).trips) : Fin 4 → Nat :=
  let c2_i32_99 : BitVec 32 := 2#32
  let c0_i32_10 : BitVec 32 := 0#32
  let c1_i32_12 : BitVec 32 := 1#32
  let arg13 : BitVec 32 := Scf.iv c0_i32_10 c1_i32_12 k0_t1
  let v210 : BitVec 32 := Scalar.muli c2_i32_99 arg13
  let c1_i32_100 : BitVec 32 := 1#32
  let v211 : BitVec 32 := Scalar.addi v210 c1_i32_100
  let v258 : Index := Scalar.indexCast v211
  let c1_134 : Index := 1#32
  let c0_135 : Index := 0#32
  let c0_136 : Index := 0#32
  ![v258.toNat, 1, 0, 0]
@[reducible] def k0_t2_loop (i : grid0.Coords) : Scf.Loop 32 :=
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let v30 : BitVec 32 := Scalar.addi c0_i32_10 v29
  let c1_i32_13 : BitVec 32 := 1#32
  ⟨v33, v30, c1_i32_13⟩
def k0_mult5 (i : grid0.Coords) (k0_t2 : Fin (k0_t2_loop i).trips) : BitVec 32 :=
  let c2_i32_101 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v212 : BitVec 32 := Scalar.muli c2_i32_101 arg13
  let c1024_i32_102 : BitVec 32 := 1024#32
  let v213 : BitVec 32 := Scalar.muli v212 c1024_i32_102
  v213
def k0_off9 (i : grid0.Coords) (k0_t2 : Fin (k0_t2_loop i).trips) : Fin 2 → Nat :=
  let c2_i32_101 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v212 : BitVec 32 := Scalar.muli c2_i32_101 arg13
  let c1024_i32_102 : BitVec 32 := 1024#32
  let v213 : BitVec 32 := Scalar.muli v212 c1024_i32_102
  let v214 : BitVec 32 := v213
  let v215 : Index := Scalar.indexCast v214
  let c0_103 : Index := 0#32
  ![v215.toNat, 0]
def k0_off10 (i : grid0.Coords) (k0_t2 : Fin (k0_t2_loop i).trips) : Fin 4 → Nat :=
  let c2_i32_101 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v212 : BitVec 32 := Scalar.muli c2_i32_101 arg13
  let v219 : Index := Scalar.indexCast v212
  let c0_107 : Index := 0#32
  let c0_108 : Index := 0#32
  let c0_109 : Index := 0#32
  ![v219.toNat, 0, 0, 0]
def k0_mult6 (i : grid0.Coords) (k0_t2 : Fin (k0_t2_loop i).trips) : BitVec 32 :=
  let c2_i32_101 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v212 : BitVec 32 := Scalar.muli c2_i32_101 arg13
  let c1024_i32_111 : BitVec 32 := 1024#32
  let v226 : BitVec 32 := Scalar.muli v212 c1024_i32_111
  v226
def k0_off11 (i : grid0.Coords) (k0_t2 : Fin (k0_t2_loop i).trips) : Fin 2 → Nat :=
  let c2_i32_101 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v212 : BitVec 32 := Scalar.muli c2_i32_101 arg13
  let c1024_i32_111 : BitVec 32 := 1024#32
  let v226 : BitVec 32 := Scalar.muli v212 c1024_i32_111
  let v227 : BitVec 32 := v226
  let v228 : Index := Scalar.indexCast v227
  let c128_112 : Index := 128#32
  ![v228.toNat, 128]
def k0_off12 (i : grid0.Coords) (k0_t2 : Fin (k0_t2_loop i).trips) : Fin 4 → Nat :=
  let c2_i32_101 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v212 : BitVec 32 := Scalar.muli c2_i32_101 arg13
  let v232 : Index := Scalar.indexCast v212
  let c1_116 : Index := 1#32
  let c0_117 : Index := 0#32
  let c0_118 : Index := 0#32
  ![v232.toNat, 1, 0, 0]
def k0_mult7 (i : grid0.Coords) (k0_t2 : Fin (k0_t2_loop i).trips) : BitVec 32 :=
  let c2_i32_99 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v210 : BitVec 32 := Scalar.muli c2_i32_99 arg13
  let c1_i32_100 : BitVec 32 := 1#32
  let v211 : BitVec 32 := Scalar.addi v210 c1_i32_100
  let c1024_i32_120 : BitVec 32 := 1024#32
  let v239 : BitVec 32 := Scalar.muli v211 c1024_i32_120
  v239
def k0_off13 (i : grid0.Coords) (k0_t2 : Fin (k0_t2_loop i).trips) : Fin 2 → Nat :=
  let c2_i32_99 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v210 : BitVec 32 := Scalar.muli c2_i32_99 arg13
  let c1_i32_100 : BitVec 32 := 1#32
  let v211 : BitVec 32 := Scalar.addi v210 c1_i32_100
  let c1024_i32_120 : BitVec 32 := 1024#32
  let v239 : BitVec 32 := Scalar.muli v211 c1024_i32_120
  let v240 : BitVec 32 := v239
  let v241 : Index := Scalar.indexCast v240
  let c0_121 : Index := 0#32
  ![v241.toNat, 0]
def k0_off14 (i : grid0.Coords) (k0_t2 : Fin (k0_t2_loop i).trips) : Fin 4 → Nat :=
  let c2_i32_99 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v210 : BitVec 32 := Scalar.muli c2_i32_99 arg13
  let c1_i32_100 : BitVec 32 := 1#32
  let v211 : BitVec 32 := Scalar.addi v210 c1_i32_100
  let v245 : Index := Scalar.indexCast v211
  let c0_125 : Index := 0#32
  let c0_126 : Index := 0#32
  let c0_127 : Index := 0#32
  ![v245.toNat, 0, 0, 0]
def k0_mult8 (i : grid0.Coords) (k0_t2 : Fin (k0_t2_loop i).trips) : BitVec 32 :=
  let c2_i32_99 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v210 : BitVec 32 := Scalar.muli c2_i32_99 arg13
  let c1_i32_100 : BitVec 32 := 1#32
  let v211 : BitVec 32 := Scalar.addi v210 c1_i32_100
  let c1024_i32_129 : BitVec 32 := 1024#32
  let v252 : BitVec 32 := Scalar.muli v211 c1024_i32_129
  v252
def k0_off15 (i : grid0.Coords) (k0_t2 : Fin (k0_t2_loop i).trips) : Fin 2 → Nat :=
  let c2_i32_99 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v210 : BitVec 32 := Scalar.muli c2_i32_99 arg13
  let c1_i32_100 : BitVec 32 := 1#32
  let v211 : BitVec 32 := Scalar.addi v210 c1_i32_100
  let c1024_i32_129 : BitVec 32 := 1024#32
  let v252 : BitVec 32 := Scalar.muli v211 c1024_i32_129
  let v253 : BitVec 32 := v252
  let v254 : Index := Scalar.indexCast v253
  let c128_130 : Index := 128#32
  ![v254.toNat, 128]
def k0_off16 (i : grid0.Coords) (k0_t2 : Fin (k0_t2_loop i).trips) : Fin 4 → Nat :=
  let c2_i32_99 : BitVec 32 := 2#32
  let c0_i32_10 : BitVec 32 := 0#32
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .slt arg2 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi arg2 c2_i32
  let c0_i32_9 : BitVec 32 := 0#32
  let v25 : BitVec 1 := Scalar.cmpi .ne v24 c0_i32_9
  let v26 : BitVec 1 := Scalar.andi v23 v25
  let v12 : BitVec 32 := Scalar.divsi arg2 c2_i32
  let c1_i32 : BitVec 32 := 1#32
  let v27 : BitVec 32 := Scalar.subi v12 c1_i32
  let v28 : BitVec 32 := Scalar.select v26 v27 v12
  let v29 : BitVec 32 := Scalar.subi v28 c0_i32_10
  let c1_i32_11 : BitVec 32 := 1#32
  let v31 : BitVec 32 := Scalar.divsi v29 c1_i32_11
  let v32 : BitVec 32 := Scalar.muli v31 c1_i32_11
  let v33 : BitVec 32 := Scalar.addi c0_i32_10 v32
  let c1_i32_13 : BitVec 32 := 1#32
  let arg13 : BitVec 32 := Scf.iv v33 c1_i32_13 k0_t2
  let v210 : BitVec 32 := Scalar.muli c2_i32_99 arg13
  let c1_i32_100 : BitVec 32 := 1#32
  let v211 : BitVec 32 := Scalar.addi v210 c1_i32_100
  let v258 : Index := Scalar.indexCast v211
  let c1_134 : Index := 1#32
  let c0_135 : Index := 0#32
  let c0_136 : Index := 0#32
  ![v258.toNat, 1, 0, 0]
def k0_cond2 (i : grid0.Coords) : BitVec 1 :=
  let arg2 : BitVec 32 := BitVec.ofNat 32 (i 2).val
  let c2_i32_14 : BitVec 32 := 2#32
  let c0_i32_15 : BitVec 32 := 0#32
  let v36 : BitVec 1 := Scalar.cmpi .eq c2_i32_14 c0_i32_15
  let c1_i32_16 : BitVec 32 := 1#32
  let v37 : BitVec 32 := Scalar.select v36 c1_i32_16 c2_i32_14
  let v38 : BitVec 32 := Scalar.remsi arg2 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let c1_i32_20 : BitVec 32 := 1#32
  let v46 : BitVec 1 := Scalar.cmpi .eq v45 c1_i32_20
  let v47 : BitVec 32 := Scalar.extui v46
  let c0_i32_21 : BitVec 32 := 0#32
  let v48 : BitVec 1 := Scalar.cmpi .ne v47 c0_i32_21
  v48

def k0_mult9 (i : grid0.Coords) : BitVec 32 :=
  let arg2 : BitVec 32 := BitVec.ofNat 32 (i 2).val
  let c1_i32_99 : BitVec 32 := 1#32
  let v210 : BitVec 32 := Scalar.subi arg2 c1_i32_99
  let c1024_i32_100 : BitVec 32 := 1024#32
  let v211 : BitVec 32 := Scalar.muli v210 c1024_i32_100
  v211
def k0_off17 (i : grid0.Coords) : Fin 2 → Nat :=
  let arg2 : BitVec 32 := BitVec.ofNat 32 (i 2).val
  let c1_i32_99 : BitVec 32 := 1#32
  let v210 : BitVec 32 := Scalar.subi arg2 c1_i32_99
  let c1024_i32_100 : BitVec 32 := 1024#32
  let v211 : BitVec 32 := Scalar.muli v210 c1024_i32_100
  let v212 : BitVec 32 := v211
  let v213 : Index := Scalar.indexCast v212
  let c0_101 : Index := 0#32
  ![v213.toNat, 0]
def k0_off18 (i : grid0.Coords) : Fin 4 → Nat :=
  let arg2 : BitVec 32 := BitVec.ofNat 32 (i 2).val
  let c1_i32_99 : BitVec 32 := 1#32
  let v210 : BitVec 32 := Scalar.subi arg2 c1_i32_99
  let v217 : Index := Scalar.indexCast v210
  let c0_105 : Index := 0#32
  let c0_106 : Index := 0#32
  let c0_107 : Index := 0#32
  ![v217.toNat, 0, 0, 0]
def k0_mult10 (i : grid0.Coords) : BitVec 32 :=
  let arg2 : BitVec 32 := BitVec.ofNat 32 (i 2).val
  let c1_i32_99 : BitVec 32 := 1#32
  let v210 : BitVec 32 := Scalar.subi arg2 c1_i32_99
  let c1024_i32_109 : BitVec 32 := 1024#32
  let v224 : BitVec 32 := Scalar.muli v210 c1024_i32_109
  v224
def k0_off19 (i : grid0.Coords) : Fin 2 → Nat :=
  let arg2 : BitVec 32 := BitVec.ofNat 32 (i 2).val
  let c1_i32_99 : BitVec 32 := 1#32
  let v210 : BitVec 32 := Scalar.subi arg2 c1_i32_99
  let c1024_i32_109 : BitVec 32 := 1024#32
  let v224 : BitVec 32 := Scalar.muli v210 c1024_i32_109
  let v225 : BitVec 32 := v224
  let v226 : Index := Scalar.indexCast v225
  let c128_110 : Index := 128#32
  ![v226.toNat, 128]
def k0_off20 (i : grid0.Coords) : Fin 4 → Nat :=
  let arg2 : BitVec 32 := BitVec.ofNat 32 (i 2).val
  let c1_i32_99 : BitVec 32 := 1#32
  let v210 : BitVec 32 := Scalar.subi arg2 c1_i32_99
  let v230 : Index := Scalar.indexCast v210
  let c1_114 : Index := 1#32
  let c0_115 : Index := 0#32
  let c0_116 : Index := 0#32
  ![v230.toNat, 1, 0, 0]
def k0_mult11 (i : grid0.Coords) : BitVec 32 :=
  let arg2 : BitVec 32 := BitVec.ofNat 32 (i 2).val
  let c1024_i32 : BitVec 32 := 1024#32
  let v101 : BitVec 32 := Scalar.muli arg2 c1024_i32
  v101
def k0_off21 (i : grid0.Coords) : Fin 2 → Nat :=
  let arg2 : BitVec 32 := BitVec.ofNat 32 (i 2).val
  let c1024_i32 : BitVec 32 := 1024#32
  let v101 : BitVec 32 := Scalar.muli arg2 c1024_i32
  let v102 : BitVec 32 := v101
  let v103 : Index := Scalar.indexCast v102
  let c0_35 : Index := 0#32
  ![v103.toNat, 0]
def k0_off22 (i : grid0.Coords) : Fin 4 → Nat :=
  let arg2 : BitVec 32 := BitVec.ofNat 32 (i 2).val
  let v109 : Index := Scalar.indexCast arg2
  let c0_40 : Index := 0#32
  let c0_41 : Index := 0#32
  let c0_42 : Index := 0#32
  ![v109.toNat, 0, 0, 0]
def k0_mult12 (i : grid0.Coords) : BitVec 32 :=
  let arg2 : BitVec 32 := BitVec.ofNat 32 (i 2).val
  let c1024_i32_44 : BitVec 32 := 1024#32
  let v116 : BitVec 32 := Scalar.muli arg2 c1024_i32_44
  v116
def k0_off23 (i : grid0.Coords) : Fin 2 → Nat :=
  let arg2 : BitVec 32 := BitVec.ofNat 32 (i 2).val
  let c1024_i32_44 : BitVec 32 := 1024#32
  let v116 : BitVec 32 := Scalar.muli arg2 c1024_i32_44
  let v117 : BitVec 32 := v116
  let v118 : Index := Scalar.indexCast v117
  let c128 : Index := 128#32
  ![v118.toNat, 128]
def k0_off24 (i : grid0.Coords) : Fin 4 → Nat :=
  let arg2 : BitVec 32 := BitVec.ofNat 32 (i 2).val
  let v124 : Index := Scalar.indexCast arg2
  let c1 : Index := 1#32
  let c0_49 : Index := 0#32
  let c0_50 : Index := 0#32
  ![v124.toNat, 1, 0, 0]
@[reducible] def k0_t3_loop (i : grid0.Coords) : Scf.Loop 32 :=
  let c0_i32_65 : BitVec 32 := 0#32
  let arg2 : BitVec 32 := BitVec.ofNat 32 (i 2).val
  let c1_i32_56 : BitVec 32 := 1#32
  let v135 : BitVec 32 := Scalar.addi arg2 c1_i32_56
  let c0_i32_58 : BitVec 32 := 0#32
  let v137 : BitVec 1 := Scalar.cmpi .sgt v135 c0_i32_58
  let v138 : BitVec 32 := Scalar.extui v137
  let c0_i32_59 : BitVec 32 := 0#32
  let v139 : BitVec 1 := Scalar.cmpi .slt v135 c0_i32_59
  let v140 : BitVec 32 := Scalar.extui v139
  let v141 : BitVec 32 := Scalar.subi v138 v140
  let c2_i32_57 : BitVec 32 := 2#32
  let c0_i32_60 : BitVec 32 := 0#32
  let v142 : BitVec 1 := Scalar.cmpi .sgt c2_i32_57 c0_i32_60
  let v143 : BitVec 32 := Scalar.extui v142
  let c0_i32_61 : BitVec 32 := 0#32
  let v144 : BitVec 1 := Scalar.cmpi .slt c2_i32_57 c0_i32_61
  let v145 : BitVec 32 := Scalar.extui v144
  let v146 : BitVec 32 := Scalar.subi v143 v145
  let v147 : BitVec 1 := Scalar.cmpi .ne v141 v146
  let v148 : BitVec 32 := Scalar.remsi v135 c2_i32_57
  let c0_i32_62 : BitVec 32 := 0#32
  let v149 : BitVec 1 := Scalar.cmpi .ne v148 c0_i32_62
  let v150 : BitVec 1 := Scalar.andi v147 v149
  let v136 : BitVec 32 := Scalar.divsi v135 c2_i32_57
  let c1_i32_63 : BitVec 32 := 1#32
  let v151 : BitVec 32 := Scalar.subi v136 c1_i32_63
  let v152 : BitVec 32 := Scalar.select v150 v151 v136
  let v153 : BitVec 32 := Scalar.subi v152 c0_i32_65
  let c1_i32_66 : BitVec 32 := 1#32
  let v155 : BitVec 32 := Scalar.divsi v153 c1_i32_66
  let v156 : BitVec 32 := Scalar.muli v155 c1_i32_66
  let v157 : BitVec 32 := Scalar.addi c0_i32_65 v156
  let c1_i32_67 : BitVec 32 := 1#32
  ⟨c0_i32_65, v157, c1_i32_67⟩
def k0_off25 (i : grid0.Coords) (k0_t3 : Fin (k0_t3_loop i).trips) : Fin 3 → Nat :=
  let c2_i32_101 : BitVec 32 := 2#32
  let c0_i32_65 : BitVec 32 := 0#32
  let c1_i32_67 : BitVec 32 := 1#32
  let arg13 : BitVec 32 := Scf.iv c0_i32_65 c1_i32_67 k0_t3
  let v212 : BitVec 32 := Scalar.muli c2_i32_101 arg13
  let v213 : Index := Scalar.indexCast v212
  let c0_102 : Index := 0#32
  let c0_103 : Index := 0#32
  ![v213.toNat, 0, 0]
def k0_off26 (i : grid0.Coords) (k0_t3 : Fin (k0_t3_loop i).trips) : Fin 4 → Nat :=
  let c2_i32_101 : BitVec 32 := 2#32
  let c0_i32_65 : BitVec 32 := 0#32
  let c1_i32_67 : BitVec 32 := 1#32
  let arg13 : BitVec 32 := Scf.iv c0_i32_65 c1_i32_67 k0_t3
  let v212 : BitVec 32 := Scalar.muli c2_i32_101 arg13
  let v216 : Index := Scalar.indexCast v212
  let c0_104 : Index := 0#32
  let c0_105 : Index := 0#32
  let c0_106 : Index := 0#32
  ![v216.toNat, 0, 0, 0]
def k0_off27 (i : grid0.Coords) (k0_t3 : Fin (k0_t3_loop i).trips) : Fin 4 → Nat :=
  let c2_i32_101 : BitVec 32 := 2#32
  let c0_i32_65 : BitVec 32 := 0#32
  let c1_i32_67 : BitVec 32 := 1#32
  let arg13 : BitVec 32 := Scf.iv c0_i32_65 c1_i32_67 k0_t3
  let v212 : BitVec 32 := Scalar.muli c2_i32_101 arg13
  let v230 : Index := Scalar.indexCast v212
  let c1_114 : Index := 1#32
  let c0_115 : Index := 0#32
  let c0_116 : Index := 0#32
  ![v230.toNat, 1, 0, 0]
def k0_off28 (i : grid0.Coords) (k0_t3 : Fin (k0_t3_loop i).trips) : Fin 3 → Nat :=
  let c2_i32_99 : BitVec 32 := 2#32
  let c0_i32_65 : BitVec 32 := 0#32
  let c1_i32_67 : BitVec 32 := 1#32
  let arg13 : BitVec 32 := Scf.iv c0_i32_65 c1_i32_67 k0_t3
  let v210 : BitVec 32 := Scalar.muli c2_i32_99 arg13
  let c1_i32_100 : BitVec 32 := 1#32
  let v211 : BitVec 32 := Scalar.addi v210 c1_i32_100
  let v244 : Index := Scalar.indexCast v211
  let c0_124 : Index := 0#32
  let c0_125 : Index := 0#32
  ![v244.toNat, 0, 0]
def k0_off29 (i : grid0.Coords) (k0_t3 : Fin (k0_t3_loop i).trips) : Fin 4 → Nat :=
  let c2_i32_99 : BitVec 32 := 2#32
  let c0_i32_65 : BitVec 32 := 0#32
  let c1_i32_67 : BitVec 32 := 1#32
  let arg13 : BitVec 32 := Scf.iv c0_i32_65 c1_i32_67 k0_t3
  let v210 : BitVec 32 := Scalar.muli c2_i32_99 arg13
  let c1_i32_100 : BitVec 32 := 1#32
  let v211 : BitVec 32 := Scalar.addi v210 c1_i32_100
  let v247 : Index := Scalar.indexCast v211
  let c0_126 : Index := 0#32
  let c0_127 : Index := 0#32
  let c0_128 : Index := 0#32
  ![v247.toNat, 0, 0, 0]
def k0_off30 (i : grid0.Coords) (k0_t3 : Fin (k0_t3_loop i).trips) : Fin 4 → Nat :=
  let c2_i32_99 : BitVec 32 := 2#32
  let c0_i32_65 : BitVec 32 := 0#32
  let c1_i32_67 : BitVec 32 := 1#32
  let arg13 : BitVec 32 := Scf.iv c0_i32_65 c1_i32_67 k0_t3
  let v210 : BitVec 32 := Scalar.muli c2_i32_99 arg13
  let c1_i32_100 : BitVec 32 := 1#32
  let v211 : BitVec 32 := Scalar.addi v210 c1_i32_100
  let v261 : Index := Scalar.indexCast v211
  let c1_136 : Index := 1#32
  let c0_137 : Index := 0#32
  let c0_138 : Index := 0#32
  ![v261.toNat, 1, 0, 0]
@[reducible] def k0_t4_loop (i : grid0.Coords) : Scf.Loop 32 :=
  let c0_i32_65 : BitVec 32 := 0#32
  let arg2 : BitVec 32 := BitVec.ofNat 32 (i 2).val
  let c1_i32_56 : BitVec 32 := 1#32
  let v135 : BitVec 32 := Scalar.addi arg2 c1_i32_56
  let c0_i32_58 : BitVec 32 := 0#32
  let v137 : BitVec 1 := Scalar.cmpi .sgt v135 c0_i32_58
  let v138 : BitVec 32 := Scalar.extui v137
  let c0_i32_59 : BitVec 32 := 0#32
  let v139 : BitVec 1 := Scalar.cmpi .slt v135 c0_i32_59
  let v140 : BitVec 32 := Scalar.extui v139
  let v141 : BitVec 32 := Scalar.subi v138 v140
  let c2_i32_57 : BitVec 32 := 2#32
  let c0_i32_60 : BitVec 32 := 0#32
  let v142 : BitVec 1 := Scalar.cmpi .sgt c2_i32_57 c0_i32_60
  let v143 : BitVec 32 := Scalar.extui v142
  let c0_i32_61 : BitVec 32 := 0#32
  let v144 : BitVec 1 := Scalar.cmpi .slt c2_i32_57 c0_i32_61
  let v145 : BitVec 32 := Scalar.extui v144
  let v146 : BitVec 32 := Scalar.subi v143 v145
  let v147 : BitVec 1 := Scalar.cmpi .ne v141 v146
  let v148 : BitVec 32 := Scalar.remsi v135 c2_i32_57
  let c0_i32_62 : BitVec 32 := 0#32
  let v149 : BitVec 1 := Scalar.cmpi .ne v148 c0_i32_62
  let v150 : BitVec 1 := Scalar.andi v147 v149
  let v136 : BitVec 32 := Scalar.divsi v135 c2_i32_57
  let c1_i32_63 : BitVec 32 := 1#32
  let v151 : BitVec 32 := Scalar.subi v136 c1_i32_63
  let v152 : BitVec 32 := Scalar.select v150 v151 v136
  let v153 : BitVec 32 := Scalar.subi v152 c0_i32_65
  let c1_i32_66 : BitVec 32 := 1#32
  let v155 : BitVec 32 := Scalar.divsi v153 c1_i32_66
  let v156 : BitVec 32 := Scalar.muli v155 c1_i32_66
  let v157 : BitVec 32 := Scalar.addi c0_i32_65 v156
  let v154 : BitVec 32 := Scalar.addi c0_i32_65 v153
  let c1_i32_68 : BitVec 32 := 1#32
  ⟨v157, v154, c1_i32_68⟩
def k0_off31 (i : grid0.Coords) (k0_t4 : Fin (k0_t4_loop i).trips) : Fin 3 → Nat :=
  let c2_i32_101 : BitVec 32 := 2#32
  let c0_i32_65 : BitVec 32 := 0#32
  let arg2 : BitVec 32 := BitVec.ofNat 32 (i 2).val
  let c1_i32_56 : BitVec 32 := 1#32
  let v135 : BitVec 32 := Scalar.addi arg2 c1_i32_56
  let c0_i32_58 : BitVec 32 := 0#32
  let v137 : BitVec 1 := Scalar.cmpi .sgt v135 c0_i32_58
  let v138 : BitVec 32 := Scalar.extui v137
  let c0_i32_59 : BitVec 32 := 0#32
  let v139 : BitVec 1 := Scalar.cmpi .slt v135 c0_i32_59
  let v140 : BitVec 32 := Scalar.extui v139
  let v141 : BitVec 32 := Scalar.subi v138 v140
  let c2_i32_57 : BitVec 32 := 2#32
  let c0_i32_60 : BitVec 32 := 0#32
  let v142 : BitVec 1 := Scalar.cmpi .sgt c2_i32_57 c0_i32_60
  let v143 : BitVec 32 := Scalar.extui v142
  let c0_i32_61 : BitVec 32 := 0#32
  let v144 : BitVec 1 := Scalar.cmpi .slt c2_i32_57 c0_i32_61
  let v145 : BitVec 32 := Scalar.extui v144
  let v146 : BitVec 32 := Scalar.subi v143 v145
  let v147 : BitVec 1 := Scalar.cmpi .ne v141 v146
  let v148 : BitVec 32 := Scalar.remsi v135 c2_i32_57
  let c0_i32_62 : BitVec 32 := 0#32
  let v149 : BitVec 1 := Scalar.cmpi .ne v148 c0_i32_62
  let v150 : BitVec 1 := Scalar.andi v147 v149
  let v136 : BitVec 32 := Scalar.divsi v135 c2_i32_57
  let c1_i32_63 : BitVec 32 := 1#32
  let v151 : BitVec 32 := Scalar.subi v136 c1_i32_63
  let v152 : BitVec 32 := Scalar.select v150 v151 v136
  let v153 : BitVec 32 := Scalar.subi v152 c0_i32_65
  let c1_i32_66 : BitVec 32 := 1#32
  let v155 : BitVec 32 := Scalar.divsi v153 c1_i32_66
  let v156 : BitVec 32 := Scalar.muli v155 c1_i32_66
  let v157 : BitVec 32 := Scalar.addi c0_i32_65 v156
  let c1_i32_68 : BitVec 32 := 1#32
  let arg13 : BitVec 32 := Scf.iv v157 c1_i32_68 k0_t4
  let v212 : BitVec 32 := Scalar.muli c2_i32_101 arg13
  let v213 : Index := Scalar.indexCast v212
  let c0_102 : Index := 0#32
  let c0_103 : Index := 0#32
  ![v213.toNat, 0, 0]
def k0_off32 (i : grid0.Coords) (k0_t4 : Fin (k0_t4_loop i).trips) : Fin 4 → Nat :=
  let c2_i32_101 : BitVec 32 := 2#32
  let c0_i32_65 : BitVec 32 := 0#32
  let arg2 : BitVec 32 := BitVec.ofNat 32 (i 2).val
  let c1_i32_56 : BitVec 32 := 1#32
  let v135 : BitVec 32 := Scalar.addi arg2 c1_i32_56
  let c0_i32_58 : BitVec 32 := 0#32
  let v137 : BitVec 1 := Scalar.cmpi .sgt v135 c0_i32_58
  let v138 : BitVec 32 := Scalar.extui v137
  let c0_i32_59 : BitVec 32 := 0#32
  let v139 : BitVec 1 := Scalar.cmpi .slt v135 c0_i32_59
  let v140 : BitVec 32 := Scalar.extui v139
  let v141 : BitVec 32 := Scalar.subi v138 v140
  let c2_i32_57 : BitVec 32 := 2#32
  let c0_i32_60 : BitVec 32 := 0#32
  let v142 : BitVec 1 := Scalar.cmpi .sgt c2_i32_57 c0_i32_60
  let v143 : BitVec 32 := Scalar.extui v142
  let c0_i32_61 : BitVec 32 := 0#32
  let v144 : BitVec 1 := Scalar.cmpi .slt c2_i32_57 c0_i32_61
  let v145 : BitVec 32 := Scalar.extui v144
  let v146 : BitVec 32 := Scalar.subi v143 v145
  let v147 : BitVec 1 := Scalar.cmpi .ne v141 v146
  let v148 : BitVec 32 := Scalar.remsi v135 c2_i32_57
  let c0_i32_62 : BitVec 32 := 0#32
  let v149 : BitVec 1 := Scalar.cmpi .ne v148 c0_i32_62
  let v150 : BitVec 1 := Scalar.andi v147 v149
  let v136 : BitVec 32 := Scalar.divsi v135 c2_i32_57
  let c1_i32_63 : BitVec 32 := 1#32
  let v151 : BitVec 32 := Scalar.subi v136 c1_i32_63
  let v152 : BitVec 32 := Scalar.select v150 v151 v136
  let v153 : BitVec 32 := Scalar.subi v152 c0_i32_65
  let c1_i32_66 : BitVec 32 := 1#32
  let v155 : BitVec 32 := Scalar.divsi v153 c1_i32_66
  let v156 : BitVec 32 := Scalar.muli v155 c1_i32_66
  let v157 : BitVec 32 := Scalar.addi c0_i32_65 v156
  let c1_i32_68 : BitVec 32 := 1#32
  let arg13 : BitVec 32 := Scf.iv v157 c1_i32_68 k0_t4
  let v212 : BitVec 32 := Scalar.muli c2_i32_101 arg13
  let v216 : Index := Scalar.indexCast v212
  let c0_104 : Index := 0#32
  let c0_105 : Index := 0#32
  let c0_106 : Index := 0#32
  ![v216.toNat, 0, 0, 0]
def k0_off33 (i : grid0.Coords) (k0_t4 : Fin (k0_t4_loop i).trips) : Fin 4 → Nat :=
  let c2_i32_101 : BitVec 32 := 2#32
  let c0_i32_65 : BitVec 32 := 0#32
  let arg2 : BitVec 32 := BitVec.ofNat 32 (i 2).val
  let c1_i32_56 : BitVec 32 := 1#32
  let v135 : BitVec 32 := Scalar.addi arg2 c1_i32_56
  let c0_i32_58 : BitVec 32 := 0#32
  let v137 : BitVec 1 := Scalar.cmpi .sgt v135 c0_i32_58
  let v138 : BitVec 32 := Scalar.extui v137
  let c0_i32_59 : BitVec 32 := 0#32
  let v139 : BitVec 1 := Scalar.cmpi .slt v135 c0_i32_59
  let v140 : BitVec 32 := Scalar.extui v139
  let v141 : BitVec 32 := Scalar.subi v138 v140
  let c2_i32_57 : BitVec 32 := 2#32
  let c0_i32_60 : BitVec 32 := 0#32
  let v142 : BitVec 1 := Scalar.cmpi .sgt c2_i32_57 c0_i32_60
  let v143 : BitVec 32 := Scalar.extui v142
  let c0_i32_61 : BitVec 32 := 0#32
  let v144 : BitVec 1 := Scalar.cmpi .slt c2_i32_57 c0_i32_61
  let v145 : BitVec 32 := Scalar.extui v144
  let v146 : BitVec 32 := Scalar.subi v143 v145
  let v147 : BitVec 1 := Scalar.cmpi .ne v141 v146
  let v148 : BitVec 32 := Scalar.remsi v135 c2_i32_57
  let c0_i32_62 : BitVec 32 := 0#32
  let v149 : BitVec 1 := Scalar.cmpi .ne v148 c0_i32_62
  let v150 : BitVec 1 := Scalar.andi v147 v149
  let v136 : BitVec 32 := Scalar.divsi v135 c2_i32_57
  let c1_i32_63 : BitVec 32 := 1#32
  let v151 : BitVec 32 := Scalar.subi v136 c1_i32_63
  let v152 : BitVec 32 := Scalar.select v150 v151 v136
  let v153 : BitVec 32 := Scalar.subi v152 c0_i32_65
  let c1_i32_66 : BitVec 32 := 1#32
  let v155 : BitVec 32 := Scalar.divsi v153 c1_i32_66
  let v156 : BitVec 32 := Scalar.muli v155 c1_i32_66
  let v157 : BitVec 32 := Scalar.addi c0_i32_65 v156
  let c1_i32_68 : BitVec 32 := 1#32
  let arg13 : BitVec 32 := Scf.iv v157 c1_i32_68 k0_t4
  let v212 : BitVec 32 := Scalar.muli c2_i32_101 arg13
  let v230 : Index := Scalar.indexCast v212
  let c1_114 : Index := 1#32
  let c0_115 : Index := 0#32
  let c0_116 : Index := 0#32
  ![v230.toNat, 1, 0, 0]
def k0_off34 (i : grid0.Coords) (k0_t4 : Fin (k0_t4_loop i).trips) : Fin 3 → Nat :=
  let c2_i32_99 : BitVec 32 := 2#32
  let c0_i32_65 : BitVec 32 := 0#32
  let arg2 : BitVec 32 := BitVec.ofNat 32 (i 2).val
  let c1_i32_56 : BitVec 32 := 1#32
  let v135 : BitVec 32 := Scalar.addi arg2 c1_i32_56
  let c0_i32_58 : BitVec 32 := 0#32
  let v137 : BitVec 1 := Scalar.cmpi .sgt v135 c0_i32_58
  let v138 : BitVec 32 := Scalar.extui v137
  let c0_i32_59 : BitVec 32 := 0#32
  let v139 : BitVec 1 := Scalar.cmpi .slt v135 c0_i32_59
  let v140 : BitVec 32 := Scalar.extui v139
  let v141 : BitVec 32 := Scalar.subi v138 v140
  let c2_i32_57 : BitVec 32 := 2#32
  let c0_i32_60 : BitVec 32 := 0#32
  let v142 : BitVec 1 := Scalar.cmpi .sgt c2_i32_57 c0_i32_60
  let v143 : BitVec 32 := Scalar.extui v142
  let c0_i32_61 : BitVec 32 := 0#32
  let v144 : BitVec 1 := Scalar.cmpi .slt c2_i32_57 c0_i32_61
  let v145 : BitVec 32 := Scalar.extui v144
  let v146 : BitVec 32 := Scalar.subi v143 v145
  let v147 : BitVec 1 := Scalar.cmpi .ne v141 v146
  let v148 : BitVec 32 := Scalar.remsi v135 c2_i32_57
  let c0_i32_62 : BitVec 32 := 0#32
  let v149 : BitVec 1 := Scalar.cmpi .ne v148 c0_i32_62
  let v150 : BitVec 1 := Scalar.andi v147 v149
  let v136 : BitVec 32 := Scalar.divsi v135 c2_i32_57
  let c1_i32_63 : BitVec 32 := 1#32
  let v151 : BitVec 32 := Scalar.subi v136 c1_i32_63
  let v152 : BitVec 32 := Scalar.select v150 v151 v136
  let v153 : BitVec 32 := Scalar.subi v152 c0_i32_65
  let c1_i32_66 : BitVec 32 := 1#32
  let v155 : BitVec 32 := Scalar.divsi v153 c1_i32_66
  let v156 : BitVec 32 := Scalar.muli v155 c1_i32_66
  let v157 : BitVec 32 := Scalar.addi c0_i32_65 v156
  let c1_i32_68 : BitVec 32 := 1#32
  let arg13 : BitVec 32 := Scf.iv v157 c1_i32_68 k0_t4
  let v210 : BitVec 32 := Scalar.muli c2_i32_99 arg13
  let c1_i32_100 : BitVec 32 := 1#32
  let v211 : BitVec 32 := Scalar.addi v210 c1_i32_100
  let v244 : Index := Scalar.indexCast v211
  let c0_124 : Index := 0#32
  let c0_125 : Index := 0#32
  ![v244.toNat, 0, 0]
def k0_off35 (i : grid0.Coords) (k0_t4 : Fin (k0_t4_loop i).trips) : Fin 4 → Nat :=
  let c2_i32_99 : BitVec 32 := 2#32
  let c0_i32_65 : BitVec 32 := 0#32
  let arg2 : BitVec 32 := BitVec.ofNat 32 (i 2).val
  let c1_i32_56 : BitVec 32 := 1#32
  let v135 : BitVec 32 := Scalar.addi arg2 c1_i32_56
  let c0_i32_58 : BitVec 32 := 0#32
  let v137 : BitVec 1 := Scalar.cmpi .sgt v135 c0_i32_58
  let v138 : BitVec 32 := Scalar.extui v137
  let c0_i32_59 : BitVec 32 := 0#32
  let v139 : BitVec 1 := Scalar.cmpi .slt v135 c0_i32_59
  let v140 : BitVec 32 := Scalar.extui v139
  let v141 : BitVec 32 := Scalar.subi v138 v140
  let c2_i32_57 : BitVec 32 := 2#32
  let c0_i32_60 : BitVec 32 := 0#32
  let v142 : BitVec 1 := Scalar.cmpi .sgt c2_i32_57 c0_i32_60
  let v143 : BitVec 32 := Scalar.extui v142
  let c0_i32_61 : BitVec 32 := 0#32
  let v144 : BitVec 1 := Scalar.cmpi .slt c2_i32_57 c0_i32_61
  let v145 : BitVec 32 := Scalar.extui v144
  let v146 : BitVec 32 := Scalar.subi v143 v145
  let v147 : BitVec 1 := Scalar.cmpi .ne v141 v146
  let v148 : BitVec 32 := Scalar.remsi v135 c2_i32_57
  let c0_i32_62 : BitVec 32 := 0#32
  let v149 : BitVec 1 := Scalar.cmpi .ne v148 c0_i32_62
  let v150 : BitVec 1 := Scalar.andi v147 v149
  let v136 : BitVec 32 := Scalar.divsi v135 c2_i32_57
  let c1_i32_63 : BitVec 32 := 1#32
  let v151 : BitVec 32 := Scalar.subi v136 c1_i32_63
  let v152 : BitVec 32 := Scalar.select v150 v151 v136
  let v153 : BitVec 32 := Scalar.subi v152 c0_i32_65
  let c1_i32_66 : BitVec 32 := 1#32
  let v155 : BitVec 32 := Scalar.divsi v153 c1_i32_66
  let v156 : BitVec 32 := Scalar.muli v155 c1_i32_66
  let v157 : BitVec 32 := Scalar.addi c0_i32_65 v156
  let c1_i32_68 : BitVec 32 := 1#32
  let arg13 : BitVec 32 := Scf.iv v157 c1_i32_68 k0_t4
  let v210 : BitVec 32 := Scalar.muli c2_i32_99 arg13
  let c1_i32_100 : BitVec 32 := 1#32
  let v211 : BitVec 32 := Scalar.addi v210 c1_i32_100
  let v247 : Index := Scalar.indexCast v211
  let c0_126 : Index := 0#32
  let c0_127 : Index := 0#32
  let c0_128 : Index := 0#32
  ![v247.toNat, 0, 0, 0]
def k0_off36 (i : grid0.Coords) (k0_t4 : Fin (k0_t4_loop i).trips) : Fin 4 → Nat :=
  let c2_i32_99 : BitVec 32 := 2#32
  let c0_i32_65 : BitVec 32 := 0#32
  let arg2 : BitVec 32 := BitVec.ofNat 32 (i 2).val
  let c1_i32_56 : BitVec 32 := 1#32
  let v135 : BitVec 32 := Scalar.addi arg2 c1_i32_56
  let c0_i32_58 : BitVec 32 := 0#32
  let v137 : BitVec 1 := Scalar.cmpi .sgt v135 c0_i32_58
  let v138 : BitVec 32 := Scalar.extui v137
  let c0_i32_59 : BitVec 32 := 0#32
  let v139 : BitVec 1 := Scalar.cmpi .slt v135 c0_i32_59
  let v140 : BitVec 32 := Scalar.extui v139
  let v141 : BitVec 32 := Scalar.subi v138 v140
  let c2_i32_57 : BitVec 32 := 2#32
  let c0_i32_60 : BitVec 32 := 0#32
  let v142 : BitVec 1 := Scalar.cmpi .sgt c2_i32_57 c0_i32_60
  let v143 : BitVec 32 := Scalar.extui v142
  let c0_i32_61 : BitVec 32 := 0#32
  let v144 : BitVec 1 := Scalar.cmpi .slt c2_i32_57 c0_i32_61
  let v145 : BitVec 32 := Scalar.extui v144
  let v146 : BitVec 32 := Scalar.subi v143 v145
  let v147 : BitVec 1 := Scalar.cmpi .ne v141 v146
  let v148 : BitVec 32 := Scalar.remsi v135 c2_i32_57
  let c0_i32_62 : BitVec 32 := 0#32
  let v149 : BitVec 1 := Scalar.cmpi .ne v148 c0_i32_62
  let v150 : BitVec 1 := Scalar.andi v147 v149
  let v136 : BitVec 32 := Scalar.divsi v135 c2_i32_57
  let c1_i32_63 : BitVec 32 := 1#32
  let v151 : BitVec 32 := Scalar.subi v136 c1_i32_63
  let v152 : BitVec 32 := Scalar.select v150 v151 v136
  let v153 : BitVec 32 := Scalar.subi v152 c0_i32_65
  let c1_i32_66 : BitVec 32 := 1#32
  let v155 : BitVec 32 := Scalar.divsi v153 c1_i32_66
  let v156 : BitVec 32 := Scalar.muli v155 c1_i32_66
  let v157 : BitVec 32 := Scalar.addi c0_i32_65 v156
  let c1_i32_68 : BitVec 32 := 1#32
  let arg13 : BitVec 32 := Scf.iv v157 c1_i32_68 k0_t4
  let v210 : BitVec 32 := Scalar.muli c2_i32_99 arg13
  let c1_i32_100 : BitVec 32 := 1#32
  let v211 : BitVec 32 := Scalar.addi v210 c1_i32_100
  let v261 : Index := Scalar.indexCast v211
  let c1_136 : Index := 1#32
  let c0_137 : Index := 0#32
  let c0_138 : Index := 0#32
  ![v261.toNat, 1, 0, 0]
def k0_cond3 (i : grid0.Coords) : BitVec 1 :=
  let arg2 : BitVec 32 := BitVec.ofNat 32 (i 2).val
  let c1_i32_56 : BitVec 32 := 1#32
  let v135 : BitVec 32 := Scalar.addi arg2 c1_i32_56
  let c2_i32_69 : BitVec 32 := 2#32
  let c0_i32_70 : BitVec 32 := 0#32
  let v158 : BitVec 1 := Scalar.cmpi .eq c2_i32_69 c0_i32_70
  let c1_i32_71 : BitVec 32 := 1#32
  let v159 : BitVec 32 := Scalar.select v158 c1_i32_71 c2_i32_69
  let v160 : BitVec 32 := Scalar.remsi v135 v159
  let c0_i32_73 : BitVec 32 := 0#32
  let v162 : BitVec 1 := Scalar.cmpi .slt v160 c0_i32_73
  let c0_i32_74 : BitVec 32 := 0#32
  let v163 : BitVec 1 := Scalar.cmpi .slt v159 c0_i32_74
  let v164 : BitVec 1 := Scalar.xori v162 v163
  let c0_i32_72 : BitVec 32 := 0#32
  let v161 : BitVec 1 := Scalar.cmpi .ne v160 c0_i32_72
  let v165 : BitVec 1 := Scalar.andi v164 v161
  let v166 : BitVec 32 := Scalar.addi v160 v159
  let v167 : BitVec 32 := Scalar.select v165 v166 v160
  let c1_i32_75 : BitVec 32 := 1#32
  let v168 : BitVec 1 := Scalar.cmpi .eq v167 c1_i32_75
  let v169 : BitVec 32 := Scalar.extui v168
  let c0_i32_76 : BitVec 32 := 0#32
  let v170 : BitVec 1 := Scalar.cmpi .ne v169 c0_i32_76
  v170

def k0_off37 (i : grid0.Coords) : Fin 3 → Nat :=
  let arg2 : BitVec 32 := BitVec.ofNat 32 (i 2).val
  let c1_i32_56 : BitVec 32 := 1#32
  let v135 : BitVec 32 := Scalar.addi arg2 c1_i32_56
  let c1_i32_99 : BitVec 32 := 1#32
  let v210 : BitVec 32 := Scalar.subi v135 c1_i32_99
  let v211 : Index := Scalar.indexCast v210
  let c0_100 : Index := 0#32
  let c0_101 : Index := 0#32
  ![v211.toNat, 0, 0]
def k0_off38 (i : grid0.Coords) : Fin 4 → Nat :=
  let arg2 : BitVec 32 := BitVec.ofNat 32 (i 2).val
  let c1_i32_56 : BitVec 32 := 1#32
  let v135 : BitVec 32 := Scalar.addi arg2 c1_i32_56
  let c1_i32_99 : BitVec 32 := 1#32
  let v210 : BitVec 32 := Scalar.subi v135 c1_i32_99
  let v214 : Index := Scalar.indexCast v210
  let c0_102 : Index := 0#32
  let c0_103 : Index := 0#32
  let c0_104 : Index := 0#32
  ![v214.toNat, 0, 0, 0]
def k0_off39 (i : grid0.Coords) : Fin 4 → Nat :=
  let arg2 : BitVec 32 := BitVec.ofNat 32 (i 2).val
  let c1_i32_56 : BitVec 32 := 1#32
  let v135 : BitVec 32 := Scalar.addi arg2 c1_i32_56
  let c1_i32_99 : BitVec 32 := 1#32
  let v210 : BitVec 32 := Scalar.subi v135 c1_i32_99
  let v228 : Index := Scalar.indexCast v210
  let c1_112 : Index := 1#32
  let c0_113 : Index := 0#32
  let c0_114 : Index := 0#32
  ![v228.toNat, 1, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x28672 : Shape := ⟨2, ![16384, 28672]⟩
abbrev S1 : Shape := ⟨1, ![1]⟩
abbrev S256 : Shape := ⟨1, ![256]⟩
abbrev S16384x4096 : Shape := ⟨2, ![16384, 4096]⟩
abbrev S4x4096x16x2x128 : Shape := ⟨5, ![4, 4096, 16, 2, 128]⟩
abbrev S4x16x2x4096x128 : Shape := ⟨5, ![4, 16, 2, 4096, 128]⟩
abbrev S4x4096x16x256 : Shape := ⟨4, ![4, 4096, 16, 256]⟩
abbrev S4x16x4096x256 : Shape := ⟨4, ![4, 16, 4096, 256]⟩
abbrev S4x16x2x4096x4096 : Shape := ⟨5, ![4, 16, 2, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x2x4096 : Shape := ⟨4, ![4, 16, 2, 4096]⟩
abbrev S4x16x2x4096x1 : Shape := ⟨5, ![4, 16, 2, 4096, 1]⟩
abbrev S4x16x1x4096x4096 : Shape := ⟨5, ![4, 16, 1, 4096, 4096]⟩
abbrev S4x16x4096x4096 : Shape := ⟨4, ![4, 16, 4096, 4096]⟩
abbrev S4x16x4096 : Shape := ⟨3, ![4, 16, 4096]⟩
abbrev S4x16x4096x1 : Shape := ⟨4, ![4, 16, 4096, 1]⟩
abbrev S1x1x1x256 : Shape := ⟨4, ![1, 1, 1, 256]⟩

abbrev nBuf : Space → Nat
  | .hbm => 111
  | .vmem => 0
  | .smem => 0
  | _ => 0

abbrev bufTy : (tb : Table) → Fin (tcTables nBuf tb) → BufTy
  | .hbm, ⟨0, _⟩ => ⟨S16384x28672, .bf16⟩
  | .hbm, ⟨1, _⟩ => ⟨S1, .f32⟩
  | .hbm, ⟨2, _⟩ => ⟨S256, .f32⟩
  | .hbm, ⟨3, _⟩ => ⟨S16384x28672, .f32⟩
  | .hbm, ⟨4, _⟩ => ⟨S16384x4096, .f32⟩
  | .hbm, ⟨5, _⟩ => ⟨S4x4096x16x2x128, .f32⟩
  | .hbm, ⟨6, _⟩ => ⟨S4x16x2x4096x128, .f32⟩
  | .hbm, ⟨7, _⟩ => ⟨S16384x4096, .f32⟩
  | .hbm, ⟨8, _⟩ => ⟨S4x4096x16x2x128, .f32⟩
  | .hbm, ⟨9, _⟩ => ⟨S4x16x2x4096x128, .f32⟩
  | .hbm, ⟨10, _⟩ => ⟨S16384x4096, .f32⟩
  | .hbm, ⟨11, _⟩ => ⟨S4x4096x16x256, .f32⟩
  | .hbm, ⟨12, _⟩ => ⟨S4x16x4096x256, .f32⟩
  | .hbm, ⟨13, _⟩ => ⟨S4x16x2x4096x4096, .f32⟩
  | .hbm, ⟨14, _⟩ => ⟨S_, .f32⟩
  | .hbm, ⟨15, _⟩ => ⟨S_, .f32⟩
  | .hbm, ⟨16, _⟩ => ⟨S4x16x2x4096x4096, .f32⟩
  | .hbm, ⟨17, _⟩ => ⟨S4x16x2x4096x4096, .f32⟩
  | .hbm, ⟨18, _⟩ => ⟨S4096, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S1x4096, .i32⟩
  | .hbm, ⟨38, _⟩ => ⟨S4096, .i32⟩
  | .hbm, ⟨39, _⟩ => ⟨S_, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S4096, .i32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x4096, .i32⟩
  | .hbm, ⟨59, _⟩ => ⟨S4096x4096, .i32⟩
  | .hbm, ⟨60, _⟩ => ⟨S4096x4096, .i1⟩
  | .hbm, ⟨61, _⟩ => ⟨S_, .f32⟩
  | .hbm, ⟨62, _⟩ => ⟨S_, .f32⟩
  | .hbm, ⟨63, _⟩ => ⟨S4x16x2x4096x4096, .i1⟩
  | .hbm, ⟨64, _⟩ => ⟨S4x16x2x4096x4096, .f32⟩
  | .hbm, ⟨65, _⟩ => ⟨S4x16x2x4096x4096, .f32⟩
  | .hbm, ⟨66, _⟩ => ⟨S_, .f32⟩
  | .hbm, ⟨67, _⟩ => ⟨S4x16x2x4096, .f32⟩
  | .hbm, ⟨68, _⟩ => ⟨S_, .f32⟩
  | .hbm, ⟨69, _⟩ => ⟨S4x16x2x4096, .f32⟩
  | .hbm, ⟨70, _⟩ => ⟨S4x16x2x4096, .f32⟩
  | .hbm, ⟨71, _⟩ => ⟨S4x16x2x4096x1, .f32⟩
  | .hbm, ⟨72, _⟩ => ⟨S4x16x2x4096x4096, .f32⟩
  | .hbm, ⟨73, _⟩ => ⟨S4x16x2x4096x4096, .f32⟩
  | .hbm, ⟨74, _⟩ => ⟨S4x16x2x4096x4096, .f32⟩
  | .hbm, ⟨75, _⟩ => ⟨S_, .f32⟩
  | .hbm, ⟨76, _⟩ => ⟨S4x16x2x4096, .f32⟩
  | .hbm, ⟨77, _⟩ => ⟨S4x16x2x4096x1, .f32⟩
  | .hbm, ⟨78, _⟩ => ⟨S4x16x2x4096x4096, .f32⟩
  | .hbm, ⟨79, _⟩ => ⟨S4x16x2x4096x4096, .f32⟩
  | .hbm, ⟨80, _⟩ => ⟨S4x16x1x4096x4096, .f32⟩
  | .hbm, ⟨81, _⟩ => ⟨S4x16x4096x4096, .f32⟩
  | .hbm, ⟨82, _⟩ => ⟨S_, .f32⟩
  | .hbm, ⟨83, _⟩ => ⟨S4x16x1x4096x4096, .f32⟩
  | .hbm, ⟨84, _⟩ => ⟨S4x16x4096x4096, .f32⟩
  | .hbm, ⟨85, _⟩ => ⟨S4x16x4096x4096, .f32⟩
  | .hbm, ⟨86, _⟩ => ⟨S4x16x4096x4096, .f32⟩
  | .hbm, ⟨87, _⟩ => ⟨S4x16x4096x4096, .f32⟩
  | .hbm, ⟨88, _⟩ => ⟨S4x16x4096x256, .f32⟩
  | .hbm, ⟨89, _⟩ => ⟨S4x16x4096x256, .f32⟩
  | .hbm, ⟨90, _⟩ => ⟨S_, .f32⟩
  | .hbm, ⟨91, _⟩ => ⟨S4x16x4096, .f32⟩
  | .hbm, ⟨92, _⟩ => ⟨S4x16x4096x1, .f32⟩
  | .hbm, ⟨93, _⟩ => ⟨S_, .f32⟩
  | .hbm, ⟨94, _⟩ => ⟨S4x16x4096x1, .f32⟩
  | .hbm, ⟨95, _⟩ => ⟨S4x16x4096x1, .f32⟩
  | .hbm, ⟨96, _⟩ => ⟨S_, .f32⟩
  | .hbm, ⟨97, _⟩ => ⟨S4x16x4096x1, .f32⟩
  | .hbm, ⟨98, _⟩ => ⟨S4x16x4096x1, .f32⟩
  | .hbm, ⟨99, _⟩ => ⟨S4x16x4096x1, .f32⟩
  | .hbm, ⟨100, _⟩ => ⟨S4x16x4096x256, .f32⟩
  | .hbm, ⟨101, _⟩ => ⟨S4x16x4096x256, .f32⟩
  | .hbm, ⟨102, _⟩ => ⟨S1x1x1x256, .f32⟩
  | .hbm, ⟨103, _⟩ => ⟨S4x16x4096x256, .f32⟩
  | .hbm, ⟨104, _⟩ => ⟨S4x16x4096x256, .f32⟩
  | .hbm, ⟨105, _⟩ => ⟨S_, .f32⟩
  | .hbm, ⟨106, _⟩ => ⟨S4x16x4096x256, .f32⟩
  | .hbm, ⟨107, _⟩ => ⟨S4x16x4096x256, .f32⟩
  | .hbm, ⟨108, _⟩ => ⟨S4x4096x16x256, .f32⟩
  | .hbm, ⟨109, _⟩ => ⟨S16384x4096, .f32⟩
  | .hbm, ⟨110, _⟩ => ⟨S16384x4096, .bf16⟩
  | _, _ => ⟨S16384x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v23 : Ref sig .tc := ⟨.hbm, 65, rfl⟩
abbrev main_cst_2 : Ref sig .tc := ⟨.hbm, 66, rfl⟩
abbrev main_v24 : Ref sig .tc := ⟨.hbm, 67, rfl⟩
abbrev main_cst_3 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_4 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_5 : Ref sig .tc := ⟨.hbm, 90, rfl⟩
abbrev main_v45 : Ref sig .tc := ⟨.hbm, 91, rfl⟩
abbrev main_v46 : Ref sig .tc := ⟨.hbm, 92, rfl⟩
abbrev main_cst_6 : Ref sig .tc := ⟨.hbm, 93, rfl⟩
abbrev main_v47 : Ref sig .tc := ⟨.hbm, 94, rfl⟩
abbrev main_v48 : Ref sig .tc := ⟨.hbm, 95, rfl⟩
abbrev main_cst_7 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_8 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩

abbrev nD : Nat := 1
abbrev τ : Topo := Topo.v7x

variable {F : FTy → Type} [FloatOps F]
-- ==== Proj.lean ====
abbrev S16384x4096 : Shape := ⟨2, ![16384, 4096]⟩
abbrev S4096x28672 : Shape := ⟨2, ![4096, 28672]⟩
abbrev S4x4096 : Shape := ⟨2, ![4, 4096]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S16384x28672 : Shape := ⟨2, ![16384, 28672]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 34
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x28672, .f32⟩
  | .hbm, ⟨2, _⟩ => ⟨S4x4096, .i32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4x4096, .f32⟩
  | .hbm, ⟨18, _⟩ => ⟨S16384x1, .f32⟩
  | .hbm, ⟨19, _⟩ => ⟨S1x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S_, .f32⟩
  | .hbm, ⟨26, _⟩ => ⟨S16384x96, .f32⟩
  | .hbm, ⟨27, _⟩ => ⟨S16384x128, .f32⟩
  | .hbm, ⟨28, _⟩ => ⟨S16384x16, .f32⟩
  | .hbm, ⟨29, _⟩ => ⟨S_, .f32⟩
  | .hbm, ⟨30, _⟩ => ⟨S16384x96, .f32⟩
  | .hbm, ⟨31, _⟩ => ⟨S16384x128, .f32⟩
  | .hbm, ⟨32, _⟩ => ⟨S4096x28672, .bf16⟩
  | .hbm, ⟨33, _⟩ => ⟨S16384x28672, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjIdeal.lean ====
variable {F : FTy → Type} [FloatOps F] [Named F]
def κ : String → Option EReal := fun
  | "q_scale" => some (((Real.sqrt 128)⁻¹ * (Real.log 2)⁻¹ : ℝ) : EReal)
  | _ => none
-- ==== ProjReferenceIdeal.lean ====
abbrev S16384x4096 : Shape := ⟨2, ![16384, 4096]⟩
abbrev S4096x28672 : Shape := ⟨2, ![4096, 28672]⟩
abbrev S4x4096 : Shape := ⟨2, ![4, 4096]⟩
abbrev S16 : Shape := ⟨1, ![16]⟩
abbrev S_ : Shape := ⟨0, ![]⟩
abbrev S4x4096x1 : Shape := ⟨3, ![4, 4096, 1]⟩
abbrev S1x1x16 : Shape := ⟨3, ![1, 1, 16]⟩
abbrev S4x4096x16 : Shape := ⟨3, ![4, 4096, 16]⟩
abbrev S4x4096x1x1x16 : Shape := ⟨5, ![4, 4096, 1, 1, 16]⟩
abbrev S16384x28672 : Shape := ⟨2, ![16384, 28672]⟩
abbrev S4x4096x16x2x128 : Shape := ⟨5, ![4, 4096, 16, 2, 128]⟩
abbrev S4x4096x16x2x16 : Shape := ⟨5, ![4, 4096, 16, 2, 16]⟩
abbrev S4x4096x16x2x96 : Shape := ⟨5, ![4, 4096, 16, 2, 96]⟩
abbrev S16384x20480 : Shape := ⟨2, ![16384, 20480]⟩

abbrev nBuf : Space → Nat
  | .hbm => 74
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x28672, .f32⟩
  | .hbm, ⟨2, _⟩ => ⟨S4x4096, .i32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4x4096, .f32⟩
  | .hbm, ⟨18, _⟩ => ⟨S4x4096x1, .f32⟩
  | .hbm, ⟨19, _⟩ => ⟨S1x1x16, .f32⟩
  | .hbm, ⟨20, _⟩ => ⟨S4x4096x16, .f32⟩
  | .hbm, ⟨21, _⟩ => ⟨S4x4096x16, .f32⟩
  | .hbm, ⟨22, _⟩ => ⟨S4x4096x16, .f32⟩
  | .hbm, ⟨23, _⟩ => ⟨S4x4096x16, .f32⟩
  | .hbm, ⟨24, _⟩ => ⟨S4x4096x1x1x16, .f32⟩
  | .hbm, ⟨25, _⟩ => ⟨S4x4096x16, .f32⟩
  | .hbm, ⟨26, _⟩ => ⟨S4x4096x1x1x16, .f32⟩
  | .hbm, ⟨27, _⟩ => ⟨S16384x4096, .f32⟩
  | .hbm, ⟨28, _⟩ => ⟨S16384x28672, .f32⟩
  | .hbm, ⟨29, _⟩ => ⟨S16384x4096, .f32⟩
  | .hbm, ⟨30, _⟩ => ⟨S4x4096x16x2x128, .f32⟩
  | .hbm, ⟨31, _⟩ => ⟨S16384x4096, .f32⟩
  | .hbm, ⟨32, _⟩ => ⟨S4x4096x16x2x128, .f32⟩
  | .hbm, ⟨33, _⟩ => ⟨S4x4096x16x2x16, .f32⟩
  | .hbm, ⟨34, _⟩ => ⟨S4x4096x16x2x16, .f32⟩
  | .hbm, ⟨35, _⟩ => ⟨S4x4096x16x2x16, .f32⟩
  | .hbm, ⟨36, _⟩ => ⟨S4x4096x16x2x16, .f32⟩
  | .hbm, ⟨37, _⟩ => ⟨S4x4096x16x2x16, .f32⟩
  | .hbm, ⟨38, _⟩ => ⟨S4x4096x16x2x16, .f32⟩
  | .hbm, ⟨39, _⟩ => ⟨S4x4096x16x2x16, .f32⟩
  | .hbm, ⟨40, _⟩ => ⟨S4x4096x16x2x16, .f32⟩
  | .hbm, ⟨41, _⟩ => ⟨S4x4096x16x2x16, .f32⟩
  | .hbm, ⟨42, _⟩ => ⟨S4x4096x16x2x16, .f32⟩
  | .hbm, ⟨43, _⟩ => ⟨S4x4096x16x2x16, .f32⟩
  | .hbm, ⟨44, _⟩ => ⟨S4x4096x16x2x16, .f32⟩
  | .hbm, ⟨45, _⟩ => ⟨S4x4096x16x2x96, .f32⟩
  | .hbm, ⟨46, _⟩ => ⟨S4x4096x16x2x128, .f32⟩
  | .hbm, ⟨47, _⟩ => ⟨S_, .f32⟩
  | .hbm, ⟨48, _⟩ => ⟨S_, .f32⟩
  | .hbm, ⟨49, _⟩ => ⟨S4x4096x16x2x128, .f32⟩
  | .hbm, ⟨50, _⟩ => ⟨S4x4096x16x2x128, .f32⟩
  | .hbm, ⟨51, _⟩ => ⟨S_, .f32⟩
  | .hbm, ⟨52, _⟩ => ⟨S_, .f32⟩
  | .hbm, ⟨53, _⟩ => ⟨S4x4096x16x2x128, .f32⟩
  | .hbm, ⟨54, _⟩ => ⟨S4x4096x16x2x128, .f32⟩
  | .hbm, ⟨55, _⟩ => ⟨S16384x4096, .f32⟩
  | .hbm, ⟨56, _⟩ => ⟨S4x4096x16x2x16, .f32⟩
  | .hbm, ⟨57, _⟩ => ⟨S4x4096x16x2x16, .f32⟩
  | .hbm, ⟨58, _⟩ => ⟨S4x4096x16x2x16, .f32⟩
  | .hbm, ⟨59, _⟩ => ⟨S4x4096x16x2x16, .f32⟩
  | .hbm, ⟨60, _⟩ => ⟨S4x4096x16x2x16, .f32⟩
  | .hbm, ⟨61, _⟩ => ⟨S4x4096x16x2x16, .f32⟩
  | .hbm, ⟨62, _⟩ => ⟨S4x4096x16x2x16, .f32⟩
  | .hbm, ⟨63, _⟩ => ⟨S4x4096x16x2x16, .f32⟩
  | .hbm, ⟨64, _⟩ => ⟨S4x4096x16x2x16, .f32⟩
  | .hbm, ⟨65, _⟩ => ⟨S4x4096x16x2x16, .f32⟩
  | .hbm, ⟨66, _⟩ => ⟨S4x4096x16x2x16, .f32⟩
  | .hbm, ⟨67, _⟩ => ⟨S4x4096x16x2x16, .f32⟩
  | .hbm, ⟨68, _⟩ => ⟨S4x4096x16x2x96, .f32⟩
  | .hbm, ⟨69, _⟩ => ⟨S4x4096x16x2x128, .f32⟩
  | .hbm, ⟨70, _⟩ => ⟨S16384x4096, .f32⟩
  | .hbm, ⟨71, _⟩ => ⟨S16384x20480, .f32⟩
  | .hbm, ⟨72, _⟩ => ⟨S16384x28672, .f32⟩
  | .hbm, ⟨73, _⟩ => ⟨S16384x28672, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩

abbrev nD : Nat := 1
abbrev τ : Topo := Topo.v7x

variable {F : FTy → Type} [FloatOps F]
-- ==== Mix.lean ====
abbrev S16384x4096 : Shape := ⟨2, ![16384, 4096]⟩
abbrev S4096x4096 : Shape := ⟨2, ![4096, 4096]⟩
abbrev S16384x28672 : Shape := ⟨2, ![16384, 28672]⟩
abbrev S8192 : Shape := ⟨1, ![8192]⟩
abbrev S1x8192 : Shape := ⟨2, ![1, 8192]⟩
abbrev S512x4096 : Shape := ⟨2, ![512, 4096]⟩
abbrev S4096x512 : Shape := ⟨2, ![4096, 512]⟩
abbrev S512x512 : Shape := ⟨2, ![512, 512]⟩
abbrev S1x512 : Shape := ⟨2, ![1, 512]⟩

abbrev nBuf : Space → Nat
  | .hbm => 11
  | .vmem => 18
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S4096x4096, .f32⟩
  | .hbm, ⟨3, _⟩ => ⟨S4096x4096, .f32⟩
  | .hbm, ⟨4, _⟩ => ⟨S16384x28672, .bf16⟩
  | .hbm, ⟨5, _⟩ => ⟨S8192, .f32⟩
  | .hbm, ⟨6, _⟩ => ⟨S4096x4096, .bf16⟩
  | .hbm, ⟨7, _⟩ => ⟨S4096x4096, .bf16⟩
  | .hbm, ⟨8, _⟩ => ⟨S1x8192, .f32⟩
  | .hbm, ⟨9, _⟩ => ⟨S1x8192, .f32⟩
  | .hbm, ⟨10, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixReferenceIdeal.lean ====
abbrev S16384x4096 : Shape := ⟨2, ![16384, 4096]⟩
abbrev S4096x4096 : Shape := ⟨2, ![4096, 4096]⟩
abbrev S16384x28672 : Shape := ⟨2, ![16384, 28672]⟩
abbrev S8192 : Shape := ⟨1, ![8192]⟩
abbrev S16384x8192 : Shape := ⟨2, ![16384, 8192]⟩
abbrev S1x8192 : Shape := ⟨2, ![1, 8192]⟩
abbrev S_ : Shape := ⟨0, ![]⟩
abbrev S16384x2x4096 : Shape := ⟨3, ![16384, 2, 4096]⟩
abbrev S16384x1x4096 : Shape := ⟨3, ![16384, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S4096x4096, .f32⟩
  | .hbm, ⟨3, _⟩ => ⟨S4096x4096, .f32⟩
  | .hbm, ⟨4, _⟩ => ⟨S16384x28672, .bf16⟩
  | .hbm, ⟨5, _⟩ => ⟨S8192, .f32⟩
  | .hbm, ⟨6, _⟩ => ⟨S16384x8192, .bf16⟩
  | .hbm, ⟨7, _⟩ => ⟨S16384x8192, .f32⟩
  | .hbm, ⟨8, _⟩ => ⟨S1x8192, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x2x4096, .f32⟩
  | .hbm, ⟨20, _⟩ => ⟨S16384x1x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Out.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S16384x2048 : Shape := ⟨2, ![16384, 2048]⟩
abbrev S512x4096 : Shape := ⟨2, ![512, 4096]⟩
abbrev S4096x512 : Shape := ⟨2, ![4096, 512]⟩
abbrev S512x512 : Shape := ⟨2, ![512, 512]⟩
abbrev S512x2048 : Shape := ⟨2, ![512, 2048]⟩
abbrev S8x512x512 : Shape := ⟨3, ![8, 512, 512]⟩
abbrev S1x512x512 : Shape := ⟨3, ![1, 512, 512]⟩
abbrev S512 : Shape := ⟨1, ![512]⟩
abbrev S512x1 : Shape := ⟨2, ![512, 1]⟩
abbrev S1x512 : Shape := ⟨2, ![1, 512]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S4096x4096, .bf16⟩
  | .hbm, ⟨6, _⟩ => ⟨S1x4096, .f32⟩
  | .hbm, ⟨7, _⟩ => ⟨S1x4096, .f32⟩
  | .hbm, ⟨8, _⟩ => ⟨S16384x4096, .f32⟩
  | .hbm, ⟨9, _⟩ => ⟨S16384x2048, .i32⟩
  | .local _ .vmem, ⟨0, _⟩ => ⟨S512x4096, .bf16⟩
  | .local _ .vmem, ⟨1, _⟩ => ⟨S4096x512, .bf16⟩
  | .local _ .vmem, ⟨2, _⟩ => ⟨S4096x512, .bf16⟩
  | .local _ .vmem, ⟨3, _⟩ => ⟨S512x512, .f32⟩
  | .local _ .vmem, ⟨4, _⟩ => ⟨S512x512, .f32⟩
  | .local _ .vmem, ⟨5, _⟩ => ⟨S1x4096, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S512x2048, .i32⟩
  | .local _ .vmem, ⟨10, _⟩ => ⟨S512x2048, .i32⟩
  | .local _ .vmem, ⟨11, _⟩ => ⟨S8x512x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨2, ![32, 8], ![false, false]⟩

def k0_off1 (i : grid0.Coords) : Fin 3 → Nat :=
  let arg1 : BitVec 32 := BitVec.ofNat 32 (i 1).val
  let v8 : Index := Scalar.indexCast arg1
  let c0_6 : Index := 0#32
  let c0_7 : Index := 0#32
  ![v8.toNat, 0, 0]
def k0_cond1 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32 : BitVec 32 := 0#32
  let v14 : BitVec 1 := Scalar.cmpi .ne v13 c0_i32
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S16384x2x2048 : Shape := ⟨3, ![16384, 2, 2048]⟩
abbrev S16384x1x2048 : Shape := ⟨3, ![16384, 1, 2048]⟩
abbrev S16384x2048 : Shape := ⟨2, ![16384, 2048]⟩
abbrev S512x4096 : Shape := ⟨2, ![512, 4096]⟩
abbrev S4096x512 : Shape := ⟨2, ![4096, 512]⟩
abbrev S512x512 : Shape := ⟨2, ![512, 512]⟩
abbrev S512x2048 : Shape := ⟨2, ![512, 2048]⟩
abbrev S512x2x2048 : Shape := ⟨3, ![512, 2, 2048]⟩
abbrev S512x1x2048 : Shape := ⟨3, ![512, 1, 2048]⟩
abbrev S8x512x512 : Shape := ⟨3, ![8, 512, 512]⟩
abbrev S1x512x512 : Shape := ⟨3, ![1, 512, 512]⟩
abbrev S512 : Shape := ⟨1, ![512]⟩
abbrev S512x1 : Shape := ⟨2, ![512, 1]⟩
abbrev S1x512 : Shape := ⟨2, ![1, 512]⟩
abbrev S512x1024 : Shape := ⟨2, ![512, 1024]⟩
abbrev S512x2x512 : Shape := ⟨3, ![512, 2, 512]⟩
abbrev S512x1x512 : Shape := ⟨3, ![512, 1, 512]⟩

abbrev nBuf : Space → Nat
  | .hbm => 10
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S4096x4096, .bf16⟩
  | .hbm, ⟨6, _⟩ => ⟨S1x4096, .f32⟩
  | .hbm, ⟨7, _⟩ => ⟨S1x4096, .f32⟩
  | .hbm, ⟨8, _⟩ => ⟨S16384x4096, .f32⟩
  | .hbm, ⟨9, _⟩ => ⟨S16384x2x2048, .bf16⟩
  | .local _ .vmem, ⟨0, _⟩ => ⟨S512x4096, .bf16⟩
  | .local _ .vmem, ⟨1, _⟩ => ⟨S4096x512, .bf16⟩
  | .local _ .vmem, ⟨2, _⟩ => ⟨S4096x512, .bf16⟩
  | .local _ .vmem, ⟨3, _⟩ => ⟨S512x512, .f32⟩
  | .local _ .vmem, ⟨4, _⟩ => ⟨S512x512, .f32⟩
  | .local _ .vmem, ⟨5, _⟩ => ⟨S1x4096, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S512x2x2048, .bf16⟩
  | .local _ .vmem, ⟨10, _⟩ => ⟨S512x2x2048, .bf16⟩
  | .local _ .vmem, ⟨11, _⟩ => ⟨S8x512x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 8], ![false, false]⟩

def k0_off1 (i : grid0.Coords) : Fin 3 → Nat :=
  let arg1 : BitVec 32 := BitVec.ofNat 32 (i 1).val
  let v8 : Index := Scalar.indexCast arg1
  let c0_6 : Index := 0#32
  let c0_7 : Index := 0#32
  ![v8.toNat, 0, 0]
def k0_cond1 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32 : BitVec 32 := 0#32
  let v14 : BitVec 1 := Scalar.cmpi .ne v13 c0_i32
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, 0, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutReferenceIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S1x4096, .f32⟩
  | .hbm, ⟨38, _⟩ => ⟨S16384x4096, .f32⟩
  | .hbm, ⟨39, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .f32⟩
  | .hbm, ⟨6, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Plan.lean ====
abbrev S16384x128 : Shape := ⟨2, ![16384, 128]⟩
abbrev S128 : Shape := ⟨1, ![128]⟩
abbrev S1x128 : Shape := ⟨2, ![1, 128]⟩
abbrev S1024x128 : Shape := ⟨2, ![1024, 128]⟩
abbrev S1024x128x1 : Shape := ⟨3, ![1024, 128, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x128, .i32⟩
  | .hbm, ⟨1, _⟩ => ⟨S16384x128, .i32⟩
  | .hbm, ⟨2, _⟩ => ⟨S128, .i32⟩
  | .hbm, ⟨3, _⟩ => ⟨S1x128, .i32⟩
  | .hbm, ⟨4, _⟩ => ⟨S16384x128, .i32⟩
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S1x128, .i32⟩
  | .local _ .vmem, ⟨5, _⟩ => ⟨S1024x128, .i32⟩
  | .local _ .vmem, ⟨6, _⟩ => ⟨S1024x128, .i32⟩
  | _, _ => ⟨S16384x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PlanReferenceIdeal.lean ====
abbrev S16384x128 : Shape := ⟨2, ![16384, 128]⟩
abbrev S128 : Shape := ⟨1, ![128]⟩
abbrev S_ : Shape := ⟨0, ![]⟩
abbrev S16384x128x1 : Shape := ⟨3, ![16384, 128, 1]⟩

abbrev nBuf : Space → Nat
  | .hbm => 13
  | .vmem => 0
  | .smem => 0
  | _ => 0

abbrev bufTy : (tb : Table) → Fin (tcTables nBuf tb) → BufTy
  | .hbm, ⟨0, _⟩ => ⟨S16384x128, .i32⟩
  | .hbm, ⟨1, _⟩ => ⟨S16384x128, .i32⟩
  | .hbm, ⟨2, _⟩ => ⟨S128, .i32⟩
  | .hbm, ⟨3, _⟩ => ⟨S_, .i32⟩
  | .hbm, ⟨4, _⟩ => ⟨S16384x128, .i32⟩
  | .hbm, ⟨5, _⟩ => ⟨S16384x128, .i1⟩
  | .hbm, ⟨6, _⟩ => ⟨S_, .i32⟩
  | .hbm, ⟨7, _⟩ => ⟨S16384x128, .i32⟩
  | .hbm, ⟨8, _⟩ => ⟨S16384x128, .i32⟩
  | .hbm, ⟨9, _⟩ => ⟨S16384x128, .i32⟩
  | .hbm, ⟨10, _⟩ => ⟨S16384x128x1, .i32⟩
  | .hbm, ⟨11, _⟩ => ⟨S16384x128, .i32⟩
  | .hbm, ⟨12, _⟩ => ⟨S16384x128, .i32⟩
  | _, _ => ⟨S16384x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Closed.lean ====
/- Closed forms of the attention kernel's loop bounds, conditions and offsets, each decided over the grid. -/
module

public import proofs.«01_k».proof.Proof.Gen.KernelIdeal.Frame

@[expose] public section

set_option maxRecDepth 16384

namespace Cert.KernelIdeal.Own

open Idealize.ShloMosaic Cert.KernelIdeal Cert.KernelIdeal.Gen

/-- The first phase's pair loop runs half as many trips as there are key chunks before the query tile. -/
theorem t1_trips : ∀ i : grid0.Coords, (k0_t1_loop i).trips = (i 2).val / 2 := by decide +kernel
theorem t2_trips : ∀ i : grid0.Coords, (k0_t2_loop i).trips = 0 := by decide +kernel
theorem t3_trips : ∀ i : grid0.Coords, (k0_t3_loop i).trips = ((i 2).val + 1) / 2 := by decide +kernel
theorem t4_trips : ∀ i : grid0.Coords, (k0_t4_loop i).trips = 0 := by decide +kernel
theorem cond2_iff : ∀ i : grid0.Coords, k0_cond2 i = 1#1 ↔ (i 2).val % 2 = 1 := by decide +kernel
theorem cond3_iff : ∀ i : grid0.Coords, k0_cond3 i = 1#1 ↔ (i 2).val % 2 = 0 := by decide +kernel

theorem off1_eq : ∀ (i : grid0.Coords) (k : Fin (k0_t1_loop i).trips), k0_off1 i k = ![((2 * k.val) % 4) * 1024, 0] := by decide +kernel
theorem off2_eq : ∀ (i : grid0.Coords) (k : Fin (k0_t1_loop i).trips), k0_off2 i k = ![(2 * k.val) % 4, 0, 0, 0] := by decide +kernel
theorem off3_eq : ∀ (i : grid0.Coords) (k : Fin (k0_t1_loop i).trips), k0_off3 i k = ![((2 * k.val) % 4) * 1024, 128] := by decide +kernel
theorem off4_eq : ∀ (i : grid0.Coords) (k : Fin (k0_t1_loop i).trips), k0_off4 i k = ![(2 * k.val) % 4, 1, 0, 0] := by decide +kernel
theorem off5_eq : ∀ (i : grid0.Coords) (k : Fin (k0_t1_loop i).trips), k0_off5 i k = ![((2 * k.val + 1) % 4) * 1024, 0] := by decide +kernel
theorem off6_eq : ∀ (i : grid0.Coords) (k : Fin (k0_t1_loop i).trips), k0_off6 i k = ![(2 * k.val + 1) % 4, 0, 0, 0] := by decide +kernel
theorem off7_eq : ∀ (i : grid0.Coords) (k : Fin (k0_t1_loop i).trips), k0_off7 i k = ![((2 * k.val + 1) % 4) * 1024, 128] := by decide +kernel
theorem off8_eq : ∀ (i : grid0.Coords) (k : Fin (k0_t1_loop i).trips), k0_off8 i k = ![(2 * k.val + 1) % 4, 1, 0, 0] := by decide +kernel
theorem off17_eq : ∀ (i : grid0.Coords), k0_cond2 i = 1#1 → k0_off17 i = ![(((i 2).val - 1) % 4) * 1024, 0] := by decide +kernel
theorem off18_eq : ∀ (i : grid0.Coords), k0_cond2 i = 1#1 → k0_off18 i = ![((i 2).val - 1) % 4, 0, 0, 0] := by decide +kernel
theorem off19_eq : ∀ (i : grid0.Coords), k0_cond2 i = 1#1 → k0_off19 i = ![(((i 2).val - 1) % 4) * 1024, 128] := by decide +kernel
theorem off20_eq : ∀ (i : grid0.Coords), k0_cond2 i = 1#1 → k0_off20 i = ![((i 2).val - 1) % 4, 1, 0, 0] := by decide +kernel
theorem off21_eq : ∀ (i : grid0.Coords), k0_off21 i = ![((i 2).val % 4) * 1024, 0] := by decide +kernel
theorem off22_eq : ∀ (i : grid0.Coords), k0_off22 i = ![(i 2).val % 4, 0, 0, 0] := by decide +kernel
theorem off23_eq : ∀ (i : grid0.Coords), k0_off23 i = ![((i 2).val % 4) * 1024, 128] := by decide +kernel
theorem off24_eq : ∀ (i : grid0.Coords), k0_off24 i = ![(i 2).val % 4, 1, 0, 0] := by decide +kernel
theorem off25_eq : ∀ (i : grid0.Coords) (k : Fin (k0_t3_loop i).trips), k0_off25 i k = ![(2 * k.val) % 4, 0, 0] := by decide +kernel
theorem off26_eq : ∀ (i : grid0.Coords) (k : Fin (k0_t3_loop i).trips), k0_off26 i k = ![(2 * k.val) % 4, 0, 0, 0] := by decide +kernel
theorem off27_eq : ∀ (i : grid0.Coords) (k : Fin (k0_t3_loop i).trips), k0_off27 i k = ![(2 * k.val) % 4, 1, 0, 0] := by decide +kernel
theorem off28_eq : ∀ (i : grid0.Coords) (k : Fin (k0_t3_loop i).trips), k0_off28 i k = ![(2 * k.val + 1) % 4, 0, 0] := by decide +kernel
theorem off29_eq : ∀ (i : grid0.Coords) (k : Fin (k0_t3_loop i).trips), k0_off29 i k = ![(2 * k.val + 1) % 4, 0, 0, 0] := by decide +kernel
theorem off30_eq : ∀ (i : grid0.Coords) (k : Fin (k0_t3_loop i).trips), k0_off30 i k = ![(2 * k.val + 1) % 4, 1, 0, 0] := by decide +kernel
theorem off37_eq : ∀ (i : grid0.Coords), k0_cond3 i = 1#1 → k0_off37 i = ![(i 2).val % 4, 0, 0] := by decide +kernel
theorem off38_eq : ∀ (i : grid0.Coords), k0_cond3 i = 1#1 → k0_off38 i = ![(i 2).val % 4, 0, 0, 0] := by decide +kernel
theorem off39_eq : ∀ (i : grid0.Coords), k0_cond3 i = 1#1 → k0_off39 i = ![(i 2).val % 4, 1, 0, 0] := by decide +kernel

end Cert.KernelIdeal.Own

end
-- ==== Proof.Model.lean ====
/- What one grid point of the attention kernel computes, as plain functions of the blocks it reads. -/
module

public import proofs.«01_k».proof.Proof.Closed
public import proofs.«01_k».proof.Proof.Gen.KernelIdeal.Skeleton
public import Idealize.ShloMosaic.Lib.VecWindow
public import Idealize.ShloMosaic.Lib.ValueIdxCore

@[expose] public section

set_option maxRecDepth 16384

noncomputable section

namespace Cert.KernelIdeal.Own

open Idealize.ShloMosaic Idealize.ShloMosaic.ValueIdx Cert.KernelIdeal Cert.KernelIdeal.Gen

variable {F : FTy → Type} [FloatOps F]

/-- The keys of chunk `c` under map `m`: 1024 rows, 128 columns. -/
def kb (K : Vec F S4096x256 .bf16) (c : ℕ) (m : Fin 2) : Vec F S1024x128 .bf16 :=
  VecWindow.window K ![(c % 4) * 1024, m.val * 128] S1024x128.size (by intro a; fin_cases a <;> fin_cases m <;> simp <;> omega)

/-- The queries of map `m`, transposed: 128 rows, 1024 columns. -/
def qb (QT : Vec F S256x1024 .bf16) (m : Fin 2) : Vec F S128x1024 .bf16 :=
  VecWindow.window QT ![m.val * 128, 0] S128x1024.size (by intro a; fin_cases a <;> fin_cases m <;> simp)

/-- The running maxima of the scores of the first `n` chunks under map `m`. -/
def mx (K : Vec F S4096x256 .bf16) (QT : Vec F S256x1024 .bf16) (m : Fin 2) : ℕ → FVec F S1x1024 .f32
  | 0 => k0_pay30
  | n + 1 => k0_pay10 (mx K QT m n) (kb K n m) (qb QT m)

/-- Which keys of the diagonal chunk a query sees. -/
def msk : IVec S1024x1024 1 :=
  k0_pay53 k0_pay50 (iota .tc S1024x1024 32 [1] iota_S1024x1024_d1_w32) 64#32 k0_pay51 k0_pay52

/-- The scores of chunk `c` for query tile `n`, as kept between the two phases. -/
def slab (K : Vec F S4096x256 .bf16) (QT : Vec F S256x1024 .bf16) (n c : ℕ) (m : Fin 2) : FVec F S1x1x1024x1024 .f32 :=
  if c < n then k0_pay9 (kb K c m) (qb QT m) else k0_pay58 msk (kb K c m) (qb QT m)

/-- The maxima of all the scores of query tile `n`. -/
def mxd (K : Vec F S4096x256 .bf16) (QT : Vec F S256x1024 .bf16) (n : ℕ) (m : Fin 2) : FVec F S1x1024 .f32 :=
  k0_pay59 (mx K QT m n) msk (kb K n m) (qb QT m)

/-- Chunk `c` of the transposed values with their rows of ones. -/
def vtb (VT : Vec F S4x272x1024 .bf16) (c : ℕ) : Vec F S1x272x1024 .bf16 :=
  VecWindow.window VT ![c % 4, 0, 0] S1x272x1024.size (by intro a; fin_cases a <;> simp <;> omega)

/-- One slab of the kept scores. -/
def stb (ST : Vec F S4x2x1024x1024 .f32) (c : ℕ) (m : Fin 2) : Vec F S1x1x1024x1024 .f32 :=
  VecWindow.window ST ![c % 4, m.val, 0, 0] S1x1x1024x1024.size (by intro a; fin_cases a <;> fin_cases m <;> simp <;> omega)

/-- The kept scores with one slab replaced. -/
def stPut (ST : Vec F S4x2x1024x1024 .f32) (c : ℕ) (m : Fin 2) (w : Vec F S1x1x1024x1024 .f32) : Vec F S4x2x1024x1024 .f32 :=
  VecWindow.put ST ![c % 4, m.val, 0, 0] S1x1x1024x1024.size w

theorem stb_stPut_same (ST : Vec F S4x2x1024x1024 .f32) (c : ℕ) (m : Fin 2) (w : Vec F S1x1x1024x1024 .f32) :
    stb (stPut ST c m w) c m = w := VecWindow.window_put_same _ _ _ _ _

theorem stb_stPut_other (ST : Vec F S4x2x1024x1024 .f32) (c c' : ℕ) (m m' : Fin 2) (w : Vec F S1x1x1024x1024 .f32)
    (h : c % 4 ≠ c' % 4 ∨ m ≠ m') : stb (stPut ST c m w) c' m' = stb ST c' m' := by
  rcases h with h | h
  · exact VecWindow.window_put_of_disjoint _ _ _ _ _ _ _ 0 (by simp; omega)
  · refine VecWindow.window_put_of_disjoint _ _ _ _ _ _ _ 1 ?_
    fin_cases m <;> fin_cases m' <;> simp at h ⊢

/-- The slabs of the first `c` chunks hold the scores of query tile `n`. -/
def Ready (K : Vec F S4096x256 .bf16) (QT : Vec F S256x1024 .bf16) (n c : ℕ) (ST : Vec F S4x2x1024x1024 .f32) : Prop :=
  ∀ c' < c, ∀ m, stb ST c' m = slab K QT n c' m

theorem Ready.succ {K : Vec F S4096x256 .bf16} {QT : Vec F S256x1024 .bf16} {n c : ℕ} {ST : Vec F S4x2x1024x1024 .f32}
    (h : Ready K QT n c ST) (hc : c < 4) {w0 w1 : Vec F S1x1x1024x1024 .f32} (h0 : w0 = slab K QT n c 0) (h1 : w1 = slab K QT n c 1) :
    Ready K QT n (c + 1) (stPut (stPut ST c 0 w0) c 1 w1) := by
  intro c' hc' m
  rcases Nat.lt_succ_iff_lt_or_eq.mp hc' with hlt | rfl
  · rw [stb_stPut_other _ _ _ _ _ _ (.inl (by omega)), stb_stPut_other _ _ _ _ _ _ (.inl (by omega))]
    exact h c' hlt m
  · fin_cases m
    · rw [stb_stPut_other _ _ _ _ _ _ (.inr (by decide))]
      exact (stb_stPut_same _ _ _ _).trans h0
    · exact (stb_stPut_same _ _ _ _).trans h1

/-- One map's half of the accumulator. -/
def acb (A : Vec F S2x272x1024 .f32) (m : Fin 2) : Vec F S1x272x1024 .f32 :=
  VecWindow.window A ![m.val, 0, 0] S1x272x1024.size (by intro a; fin_cases a <;> fin_cases m <;> simp)

/-- The accumulator of map `m` after the first `c` chunks of query tile `n`. -/
def acc (K : Vec F S4096x256 .bf16) (QT : Vec F S256x1024 .bf16) (VT : Vec F S4x272x1024 .bf16) (n : ℕ) (m : Fin 2) : ℕ → FVec F S1x272x1024 .f32
  | 0 => acb k0_pay60 m
  | c + 1 => k0_pay63 (mxd K QT n m) (vtb VT c) (slab K QT n c m) (acc K QT VT n m c)

/-- A half accumulator `A0` carried over the first `c` chunks of the kept scores. -/
def accS (MX : FVec F S1x1024 .f32) (VT : Vec F S4x272x1024 .bf16) (ST : Vec F S4x2x1024x1024 .f32) (m : Fin 2) (A0 : Vec F S1x272x1024 .f32) : ℕ → FVec F S1x272x1024 .f32
  | 0 => A0
  | c + 1 => k0_pay63 MX (vtb VT c) (stb ST c m) (accS MX VT ST m A0 c)

theorem accS_eq {K : Vec F S4096x256 .bf16} {QT : Vec F S256x1024 .bf16} {n : ℕ} {ST : Vec F S4x2x1024x1024 .f32} (VT : Vec F S4x272x1024 .bf16) (m : Fin 2)
    (h : Ready K QT n (n + 1) ST) : ∀ c ≤ n + 1, accS (mxd K QT n m) VT ST m (acb k0_pay60 m) c = acc K QT VT n m c
  | 0, _ => rfl
  | c + 1, hc => by
    show k0_pay63 _ _ _ _ = k0_pay63 _ _ _ _
    rw [accS_eq VT m h c (by omega), h c (by omega) m]

/-- The accumulator with one map's half replaced. -/
def acPut (A : Vec F S2x272x1024 .f32) (m : Fin 2) (w : Vec F S1x272x1024 .f32) : Vec F S2x272x1024 .f32 :=
  VecWindow.put A ![m.val, 0, 0] S1x272x1024.size w

theorem acb_acPut_same (A : Vec F S2x272x1024 .f32) (m : Fin 2) (w : Vec F S1x272x1024 .f32) : acb (acPut A m w) m = w :=
  VecWindow.window_put_same _ _ _ _ _

theorem acb_acPut_other (A : Vec F S2x272x1024 .f32) (m m' : Fin 2) (w : Vec F S1x272x1024 .f32) (h : m ≠ m') : acb (acPut A m w) m' = acb A m' := by
  refine VecWindow.window_put_of_disjoint _ _ _ _ _ _ _ 0 ?_
  fin_cases m <;> fin_cases m' <;> simp at h ⊢

/-- The rows of a half accumulator the values went to. -/
def hiRows (A : Vec F S1x272x1024 .f32) : Vec F S1x256x1024 .f32 :=
  VecWindow.window A ![0, 0, 0] S1x256x1024.size (by intro a; fin_cases a <;> simp)

/-- The row of a half accumulator the ones went to. -/
def loRow (A : Vec F S1x272x1024 .f32) : Vec F S1x1x1024 .f32 :=
  VecWindow.window A ![0, 256, 0] S1x1x1024.size (by intro a; fin_cases a <;> simp)

/-- The transposed values, chunk by chunk, over rows of ones. -/
def vtAll (V : Vec F S4096x256 .bf16) : Vec F S4x272x1024 .bf16 := fun y =>
  if h : (y 1).val < 256 then
    k0_pay2 (VecWindow.window V ![(y 0).val * 1024, 0] S1024x256.size
      (by have : (y 0).val < 4 := (y 0).isLt
          intro a; fin_cases a <;> simp <;> omega)) (ix3 0 ⟨(y 1).val, h⟩ (y 2))
  else Scalar.ofBits (F := F) .bf16 0x3F80#16

/-- Rows of `V` transposed: chunk `n` of the values. -/
def vRow (V : Vec F S4096x256 .bf16) (n : Fin 4) : Vec F S1x256x1024 .bf16 :=
  k0_pay2 (VecWindow.window V ![n.val * 1024, 0] S1024x256.size (by intro a; fin_cases a <;> fin_cases n <;> simp))

/-- One chunk of the transposed values written, and its rows of ones. -/
theorem put_chunk (x : Vec F S4x272x1024 .bf16) (n : Fin 4) {off off' : Fin S4x272x1024.rank → ℕ} (w : Vec F S1x256x1024 .bf16) (o : Vec F S1x16x1024 .bf16)
    (h : off = ![n.val, 0, 0]) (h' : off' = ![n.val, 256, 0]) (one : Elt F .bf16) (ho : ∀ z, o z = one) (y : S4x272x1024.Idx) :
    VecWindow.put (VecWindow.put x off S1x256x1024.size w) off' S1x16x1024.size o y
      = if (y 0).val = n.val then (if h : (y 1).val < 256 then w (ix3 0 ⟨(y 1).val, h⟩ (y 2)) else one) else x y := by
  subst h h'
  have y1 : (y 1).val < 272 := (y 1).isLt
  have y2 : (y 2).val < 1024 := (y 2).isLt
  unfold VecWindow.put
  by_cases hn : (y 0).val = n.val
  · rw [if_pos hn]
    by_cases hr : (y 1).val < 256
    · have no : ¬ ∀ a, ![n.val, 256, 0] a ≤ (y a).val ∧ (y a).val < ![n.val, 256, 0] a + S1x16x1024.size a := fun hh => by
        have := (hh 1).1; simp at this; omega
      have yes : ∀ a, ![n.val, 0, 0] a ≤ (y a).val ∧ (y a).val < ![n.val, 0, 0] a + S1x256x1024.size a := fun a => by
        fin_cases a <;> simp [hn] <;> omega
      rw [dif_neg no, dif_pos yes, dif_pos hr]
      congr 1
      funext a
      apply Fin.ext
      fin_cases a <;> simp [Rect.unitLocal, hn]
    · have yes : ∀ a, ![n.val, 256, 0] a ≤ (y a).val ∧ (y a).val < ![n.val, 256, 0] a + S1x16x1024.size a := fun a => by
        fin_cases a <;> simp [hn] <;> omega
      rw [dif_pos yes, dif_neg hr, ho]
  · rw [if_neg hn]
    rw [dif_neg, dif_neg]
    · intro hh; have := hh 0; simp at this; omega
    · intro hh; have := hh 0; simp at this; omega

theorem vtAll_at (V : Vec F S4096x256 .bf16) (n : Fin 4) (y : S4x272x1024.Idx) (h : (y 0).val = n.val) :
    vtAll V y = if h : (y 1).val < 256 then vRow V n (ix3 0 ⟨(y 1).val, h⟩ (y 2)) else Scalar.ofBits (F := F) .bf16 0x3F80#16 := by
  obtain rfl : n = y 0 := Fin.ext h.symm
  rfl

/-- All four chunks written. -/
theorem put_all (x : Vec F S4x272x1024 .bf16) (V : Vec F S4096x256 .bf16) (w0 w1 w2 w3 : Vec F S1x256x1024 .bf16) (o0 o1 o2 o3 : Vec F S1x16x1024 .bf16)
    (h0 : w0 = vRow V 0) (h1 : w1 = vRow V 1) (h2 : w2 = vRow V 2) (h3 : w3 = vRow V 3)
    (e0 : ∀ z, o0 z = Scalar.ofBits (F := F) .bf16 0x3F80#16) (e1 : ∀ z, o1 z = Scalar.ofBits (F := F) .bf16 0x3F80#16)
    (e2 : ∀ z, o2 z = Scalar.ofBits (F := F) .bf16 0x3F80#16) (e3 : ∀ z, o3 z = Scalar.ofBits (F := F) .bf16 0x3F80#16) :
    VecWindow.put (VecWindow.put (VecWindow.put (VecWindow.put (VecWindow.put (VecWindow.put (VecWindow.put (VecWindow.put x
      ![0, 0, 0] S1x256x1024.size w0) ![0, 256, 0] S1x16x1024.size o0) ![1, 0, 0] S1x256x1024.size w1) ![1, 256, 0] S1x16x1024.size o1)
      ![2, 0, 0] S1x256x1024.size w2) ![2, 256, 0] S1x16x1024.size o2) ![3, 0, 0] S1x256x1024.size w3) ![3, 256, 0] S1x16x1024.size o3 = vtAll V := by
  subst h0 h1 h2 h3
  funext y
  rw [put_chunk (off := ![3, 0, 0]) (off' := ![3, 256, 0]) _ 3 _ _ rfl rfl _ e3, put_chunk (off := ![2, 0, 0]) (off' := ![2, 256, 0]) _ 2 _ _ rfl rfl _ e2, put_chunk (off := ![1, 0, 0]) (off' := ![1, 256, 0]) _ 1 _ _ rfl rfl _ e1, put_chunk (off := ![0, 0, 0]) (off' := ![0, 256, 0]) _ 0 _ _ rfl rfl _ e0]
  have : (y 0).val < 4 := (y 0).isLt
  by_cases h3 : (y 0).val = (3 : Fin 4).val
  · rw [if_pos h3, vtAll_at V 3 y h3]
  rw [if_neg h3]
  by_cases h2 : (y 0).val = (2 : Fin 4).val
  · rw [if_pos h2, vtAll_at V 2 y h2]
  rw [if_neg h2]
  by_cases h1 : (y 0).val = (1 : Fin 4).val
  · rw [if_pos h1, vtAll_at V 1 y h1]
  rw [if_neg h1]
  have h0 : (y 0).val = (0 : Fin 4).val := by
    have e3 : (3 : Fin 4).val = 3 := rfl
    have e2 : (2 : Fin 4).val = 2 := rfl
    have e1 : (1 : Fin 4).val = 1 := rfl
    have e0 : (0 : Fin 4).val = 0 := rfl
    omega
  rw [if_pos h0, vtAll_at V 0 y h0]

end Cert.KernelIdeal.Own

end
-- ==== Proof.Phase1.lean ====
/- The first phase of the attention kernel: the scores of the chunks before the query tile, and their maxima. -/
module

public import proofs.«01_k».proof.Proof.Model
public import Idealize.ShloMosaic.Lib.Exec
public import Idealize.ShloMosaic.Lib.Tactic
public import Idealize.ShloMosaic.Lib.Pipeline.Kit
public import Idealize.ShloMosaic.Lib.LoopRemainder

@[expose] public section

set_option maxRecDepth 16384

noncomputable section

namespace Cert.KernelIdeal.Own

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

instance (i k) : ClosedOff (k0_off2 i k) := ⟨_, off2_eq i k⟩
instance (i k) : ClosedOff (k0_off4 i k) := ⟨_, off4_eq i k⟩
instance (i k) : ClosedOff (k0_off6 i k) := ⟨_, off6_eq i k⟩
instance (i k) : ClosedOff (k0_off8 i k) := ⟨_, off8_eq i k⟩

/-- A buffer held whole at contents reading as `x`. -/
abbrev at_ {sp : Space} {s : Shape} {e : EltTy} (c : Dev nD) (m : Memref sig .tc sp s e) (x : Vec F s e) : sProp 𝕄G :=
  iprop(m.view.loc (c : Thread nD τ) ↦[m.view.set]{fullShare} m.view.rep x)

variable (c : Dev nD) (i : grid0.Coords)
  (arg3 : Memref sig .tc .smem S1 .f32) (harg3 : arg3.IsWhole) (arg4 : Memref sig .tc .vmem S1024x256 .bf16) (harg4 : arg4.IsWhole)
  (arg5 : Memref sig .tc .vmem S4096x256 .bf16) (harg5 : arg5.IsWhole) (arg6 : Memref sig .tc .vmem S4096x256 .bf16) (harg6 : arg6.IsWhole)
  (arg7 : Memref sig .tc .vmem S1x256 .f32) (harg7 : arg7.IsWhole) (arg8 : Memref sig .tc .vmem S1024x256 .bf16) (harg8 : arg8.IsWhole)
  (arg9 : Memref sig .tc .vmem S256x1024 .bf16) (harg9 : arg9.IsWhole) (arg10 : Memref sig .tc .vmem S4x272x1024 .bf16) (harg10 : arg10.IsWhole)
  (arg11 : Memref sig .tc .vmem S4x2x1024x1024 .f32) (harg11 : arg11.IsWhole) (arg12 : Memref sig .tc .vmem S2x272x1024 .f32) (harg12 : arg12.IsWhole)

theorem ldK (K : Vec F S4096x256 .bf16) (n : ℕ) (m : Fin 2) {off : Fin S4096x256.rank → ℕ} (inb) (h : off = ![(n % 4) * 1024, m.val * 128]) :
    arg5.view.readAt (Elt F) (Rect.unit off S1024x128.size inb).toLoadRect (arg5.view.rep K) = kb K n m :=
  View.readAt_rep_unit _ _ _ h _

theorem ldQ (QT : Vec F S256x1024 .bf16) (m : Fin 2) {off : Fin S256x1024.rank → ℕ} (inb) (h : off = ![m.val * 128, 0]) :
    arg9.view.readAt (Elt F) (Rect.unit off S128x1024.size inb).toLoadRect (arg9.view.rep QT) = qb QT m :=
  View.readAt_rep_unit _ _ _ h _

/-- Two chunks' slabs stored. -/
theorem stored4 (S : Vec F S4x2x1024x1024 .f32) (n : ℕ) {o0 o1 o2 o3 : Fin S4x2x1024x1024.rank → ℕ} (b0 b1 b2 b3)
    (w0 w1 w2 w3 : Vec F S1x1x1024x1024 .f32)
    (h0 : o0 = ![n % 4, 0, 0, 0]) (h1 : o1 = ![n % 4, 1, 0, 0]) (h2 : o2 = ![(n + 1) % 4, 0, 0, 0]) (h3 : o3 = ![(n + 1) % 4, 1, 0, 0]) :
    arg11.view.read (Elt F) (arg11.view.writes (Elt F) (arg11.view.rep S)
      [⟨Rect.unit o3 S1x1x1024x1024.size b3, w3⟩, ⟨Rect.unit o2 S1x1x1024x1024.size b2, w2⟩,
       ⟨Rect.unit o1 S1x1x1024x1024.size b1, w1⟩, ⟨Rect.unit o0 S1x1x1024x1024.size b0, w0⟩])
    = stPut (stPut (stPut (stPut S n 0 w0) n 1 w1) (n + 1) 0 w2) (n + 1) 1 w3 := by
  rw [View.read_writes_cons_put _ _ _ _ _ h3, View.read_writes_cons_put _ _ _ _ _ h2, View.read_writes_cons_put _ _ _ _ _ h1,
    View.read_writes_rep_unit _ _ _ _ h0]
  rfl

/-- What holds before pair `k` of the first phase: `2 k` chunks are scored. -/
def inv1 (K : Vec F S4096x256 .bf16) (QT : Vec F S256x1024 .bf16) (k : ℕ) (a : FVec F S1x1024 .f32 × FVec F S1x1024 .f32) : sProp 𝕄G :=
  iprop(at_ c arg5 K ∗ at_ c arg9 QT ∗ ∃ S, at_ c arg11 S
    ∗ ⌜Ready K QT (i 2).val (2 * k) S ∧ a = (mx K QT 0 (2 * k), mx K QT 1 (2 * k))⌝)

set_option warn.classDefReducibility false in
/-- The first phase's loop by its invariant. -/
def loop1 (K : Vec F S4096x256 .bf16) (QT : Vec F S256x1024 .bf16) :
    LoopInv (M := 𝕄G) Idealize.ShloMosaic.frame (wpE (defs₀ (F := F)) Variants.none (c : Thread nD τ) none) Set.univ
      (k0_t1_loop i).lb (k0_t1_loop i).ub (k0_t1_loop i).st (k0_t1_ok i) (k0_pay30 (F := F), k0_pay31 (F := F))
      (k0_t1_body (F := F) i arg3 harg3 arg4 harg4 arg5 harg5 arg6 harg6 arg7 harg7 arg8 harg8 arg9 harg9 arg10 harg10 arg11 harg11 arg12 harg12) where
  inv := inv1 c i arg5 arg9 arg11 K QT
  step k a := by
    unfold inv1
    iintro ⟨H5, H9, ⟨%S, H11, %hS⟩⟩
    unfold k0_t1_body
    sl_exec
    sl_step
    sl_unfold_run_names
    have hn : (i 2).val < 4 := (i 2).isLt
    have hk : k.val < (i 2).val / 2 := (t1_trips i) ▸ k.isLt
    obtain ⟨hr, ha⟩ := hS
    subst ha
    rw [ldK arg5 K (2 * k.val) 0 _ (off1_eq i k), ldK arg5 K (2 * k.val) 1 _ (off3_eq i k), ldK arg5 K (2 * k.val + 1) 0 _ (off5_eq i k),
      ldK arg5 K (2 * k.val + 1) 1 _ (off7_eq i k), ldQ (off := ![0, 0]) arg9 QT 0 _ rfl, ldQ (off := ![128, 0]) arg9 QT 1 _ rfl]
    isplitl [H5]
    · iexact H5
    isplitl [H9]
    · iexact H9
    iexists _
    isplitl [H11]
    · iapply (pointsTo_rep_of_read (c : Thread nD τ) arg11 _ fullShare _
        (stored4 arg11 S (2 * k.val) _ _ _ _ _ _ _ _ (off2_eq i k) (off4_eq i k) (off6_eq i k) (off8_eq i k))) $$ H11
    · ipureintro
      refine ⟨(hr.succ (by omega) ?_ ?_).succ (by omega) ?_ ?_, ?_⟩
      · exact (if_pos (by omega)).symm
      · exact (if_pos (by omega)).symm
      · exact (if_pos (by omega)).symm
      · exact (if_pos (by omega)).symm
      · rfl

end Cert.KernelIdeal.Own

end
-- ==== Proof.Phase2.lean ====
/- The second phase of the attention kernel: the weighted values, accumulated chunk by chunk. -/
module

public import proofs.«01_k».proof.Proof.Phase1
public import Idealize.ShloMosaic.Lib.Exec
public import Idealize.ShloMosaic.Lib.Tactic
public import Idealize.ShloMosaic.Lib.Pipeline.Kit
public import Idealize.ShloMosaic.Lib.LoopRemainder

@[expose] public section

set_option maxRecDepth 16384

noncomputable section

namespace Cert.KernelIdeal.Own

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg3 : Memref sig .tc .smem S1 .f32) (harg3 : arg3.IsWhole) (arg4 : Memref sig .tc .vmem S1024x256 .bf16) (harg4 : arg4.IsWhole)
  (arg5 : Memref sig .tc .vmem S4096x256 .bf16) (harg5 : arg5.IsWhole) (arg6 : Memref sig .tc .vmem S4096x256 .bf16) (harg6 : arg6.IsWhole)
  (arg7 : Memref sig .tc .vmem S1x256 .f32) (harg7 : arg7.IsWhole) (arg8 : Memref sig .tc .vmem S1024x256 .bf16) (harg8 : arg8.IsWhole)
  (arg9 : Memref sig .tc .vmem S256x1024 .bf16) (harg9 : arg9.IsWhole) (arg10 : Memref sig .tc .vmem S4x272x1024 .bf16) (harg10 : arg10.IsWhole)
  (arg11 : Memref sig .tc .vmem S4x2x1024x1024 .f32) (harg11 : arg11.IsWhole) (arg12 : Memref sig .tc .vmem S2x272x1024 .f32) (harg12 : arg12.IsWhole)

theorem ldV (VT : Vec F S4x272x1024 .bf16) (n : ℕ) {off : Fin S4x272x1024.rank → ℕ} (inb) (h : off = ![n % 4, 0, 0]) :
    arg10.view.readAt (Elt F) (Rect.unit off S1x272x1024.size inb).toLoadRect (arg10.view.rep VT) = vtb VT n :=
  View.readAt_rep_unit _ _ _ h _

theorem ldS (ST : Vec F S4x2x1024x1024 .f32) (n : ℕ) (m : Fin 2) {off : Fin S4x2x1024x1024.rank → ℕ} (inb) (h : off = ![n % 4, m.val, 0, 0]) :
    arg11.view.readAt (Elt F) (Rect.unit off S1x1x1024x1024.size inb).toLoadRect (arg11.view.rep ST) = stb ST n m :=
  View.readAt_rep_unit _ _ _ h _

theorem ldA (A : Vec F S2x272x1024 .f32) (m : Fin 2) {off : Fin S2x272x1024.rank → ℕ} (inb) (h : off = ![m.val, 0, 0]) :
    arg12.view.readAt (Elt F) (Rect.unit off S1x272x1024.size inb).toLoadRect (arg12.view.rep A) = acb A m :=
  View.readAt_rep_unit _ _ _ h _

/-- A load of the first half after the second half was stored over the first. -/
theorem cov01 (b0 b1 b) (w0 w1 : Vec F S1x272x1024 .f32) (L : List (View.Piece (Elt F) S2x272x1024 .f32)) :
    arg12.view.readCov (⟨Rect.unit ![1, 0, 0] S1x272x1024.size b1, w1⟩ :: ⟨Rect.unit ![0, 0, 0] S1x272x1024.size b0, w0⟩ :: L)
      (Rect.unit (s := S2x272x1024) ![0, 0, 0] S1x272x1024.size b).toLoadRect = w0 := by
  refine (View.readAt_unit _ _ _ rfl b).trans ?_
  rw [View.read_writes_cons_put _ _ _ _ _ rfl, View.read_writes_cons_put _ _ _ _ _ rfl]
  exact (acb_acPut_other _ 1 0 _ (by decide)).trans (acb_acPut_same _ 0 _)

/-- A load of the second half after the first half was stored over the second. -/
theorem cov10 (b0 b1 b) (w0 w1 : Vec F S1x272x1024 .f32) (L : List (View.Piece (Elt F) S2x272x1024 .f32)) :
    arg12.view.readCov (⟨Rect.unit ![0, 0, 0] S1x272x1024.size b0, w0⟩ :: ⟨Rect.unit ![1, 0, 0] S1x272x1024.size b1, w1⟩ :: L)
      (Rect.unit (s := S2x272x1024) ![1, 0, 0] S1x272x1024.size b).toLoadRect = w1 := by
  refine (View.readAt_unit _ _ _ rfl b).trans ?_
  rw [View.read_writes_cons_put _ _ _ _ _ rfl, View.read_writes_cons_put _ _ _ _ _ rfl]
  exact (acb_acPut_other _ 0 1 _ (by decide)).trans (acb_acPut_same _ 1 _)

/-- Both halves stored, the first one first. -/
theorem stored2 (f) (b0 b1) (w0 w1 : Vec F S1x272x1024 .f32) (L : List (View.Piece (Elt F) S2x272x1024 .f32)) :
    arg12.view.read (Elt F) (arg12.view.writes (Elt F) f
      (⟨Rect.unit ![1, 0, 0] S1x272x1024.size b1, w1⟩ :: ⟨Rect.unit ![0, 0, 0] S1x272x1024.size b0, w0⟩ :: L))
    = acPut (acPut (arg12.view.read (Elt F) (arg12.view.writes (Elt F) f L)) 0 w0) 1 w1 := by
  rw [View.read_writes_cons_put _ _ _ _ _ rfl, View.read_writes_cons_put _ _ _ _ _ rfl]
  rfl

theorem acb_two (A : Vec F S2x272x1024 .f32) (w0 w1 : Vec F S1x272x1024 .f32) (m : Fin 2) :
    acb (acPut (acPut A 0 w0) 1 w1) m = ![w0, w1] m := by
  fin_cases m
  · exact (acb_acPut_other _ 1 0 _ (by decide)).trans (acb_acPut_same _ 0 _)
  · exact acb_acPut_same _ 1 _

/-- What holds before pair `k` of the second phase: `2 k` chunks are accumulated. -/
def inv3 (MX : Fin 2 → FVec F S1x1024 .f32) (VT : Vec F S4x272x1024 .bf16) (ST : Vec F S4x2x1024x1024 .f32) (A0 : Fin 2 → Vec F S1x272x1024 .f32) (k : ℕ) : sProp 𝕄G :=
  iprop(at_ c arg10 VT ∗ at_ c arg11 ST ∗ ∃ A, at_ c arg12 A
    ∗ ⌜∀ m, acb A m = accS (MX m) VT ST m (A0 m) (2 * k)⌝)

set_option warn.classDefReducibility false in
/-- The second phase's loop by its invariant. -/
def loop3 (VT : Vec F S4x272x1024 .bf16) (ST : Vec F S4x2x1024x1024 .f32) (A0 : Fin 2 → Vec F S1x272x1024 .f32)
    (v115 : FVec F S1x1024 .f32) (v130 : FVec F S1x1024 .f32) (v135 : BitVec 32) (c0_i32_65 : BitVec 32) (c1_i32_66 : BitVec 32) (v155 : BitVec 32) :
    LoopInv (M := 𝕄G) Idealize.ShloMosaic.frame (wpE (defs₀ (F := F)) Variants.none (c : Thread nD τ) none) Set.univ
      (k0_t3_loop i).lb (k0_t3_loop i).ub (k0_t3_loop i).st (k0_t3_ok i) ()
      (k0_t3_body (F := F) i arg3 harg3 arg4 harg4 arg5 harg5 arg6 harg6 arg7 harg7 arg8 harg8 arg9 harg9 arg10 harg10 arg11 harg11 arg12 harg12 v115 v130 v135 c0_i32_65 c1_i32_66 v155) where
  inv k _ := inv3 c arg10 arg11 arg12 ![v115, v130] VT ST A0 k
  step k a := by
    unfold inv3
    iintro ⟨H10, H11, ⟨%A, H12, %hA⟩⟩
    unfold k0_t3_body
    sl_exec
    sl_step
    sl_unfold_run_names
    have hn : (i 2).val < 4 := (i 2).isLt
    have hk : k.val < ((i 2).val + 1) / 2 := (t3_trips i) ▸ k.isLt
    rw [ldV arg10 VT (2 * k.val) _ (off25_eq i k), ldV arg10 VT (2 * k.val + 1) _ (off28_eq i k),
      ldS arg11 ST (2 * k.val) 0 _ (off26_eq i k), ldS arg11 ST (2 * k.val) 1 _ (off27_eq i k),
      ldS arg11 ST (2 * k.val + 1) 0 _ (off29_eq i k), ldS arg11 ST (2 * k.val + 1) 1 _ (off30_eq i k),
      ldA (off := ![0, 0, 0]) arg12 A 0 _ rfl, ldA (off := ![1, 0, 0]) arg12 A 1 _ rfl, cov01, cov10]
    isplitl [H10]
    · iexact H10
    isplitl [H11]
    · iexact H11
    iexists _
    isplitl [H12]
    · iapply (pointsTo_rep_of_read (c : Thread nD τ) arg12 _ fullShare _ (stored2 arg12 _ _ _ _ _ _)) $$ H12
    · ipureintro
      intro m
      rw [acb_two, show 2 * (k.val + 1) = 2 * k.val + 1 + 1 from rfl, accS, accS, ← hA]
      fin_cases m <;> rfl

end Cert.KernelIdeal.Own

end
-- ==== Proof.Parts.lean ====
/- The parts of the attention kernel's body, each run from what it finds to what it leaves. -/
module

public import proofs.«01_k».proof.Proof.Phase2
public import Idealize.ShloMosaic.Lib.Exec
public import Idealize.ShloMosaic.Lib.Tactic
public import Idealize.ShloMosaic.Lib.Pipeline.Kit
public import Idealize.ShloMosaic.Lib.LoopRemainder

@[expose] public section

set_option maxRecDepth 16384

noncomputable section

namespace Cert.KernelIdeal.Own

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg3 : Memref sig .tc .smem S1 .f32) (harg3 : arg3.IsWhole) (arg4 : Memref sig .tc .vmem S1024x256 .bf16) (harg4 : arg4.IsWhole)
  (arg5 : Memref sig .tc .vmem S4096x256 .bf16) (harg5 : arg5.IsWhole) (arg6 : Memref sig .tc .vmem S4096x256 .bf16) (harg6 : arg6.IsWhole)
  (arg7 : Memref sig .tc .vmem S1x256 .f32) (harg7 : arg7.IsWhole) (arg8 : Memref sig .tc .vmem S1024x256 .bf16) (harg8 : arg8.IsWhole)
  (arg9 : Memref sig .tc .vmem S256x1024 .bf16) (harg9 : arg9.IsWhole) (arg10 : Memref sig .tc .vmem S4x272x1024 .bf16) (harg10 : arg10.IsWhole)
  (arg11 : Memref sig .tc .vmem S4x2x1024x1024 .f32) (harg11 : arg11.IsWhole) (arg12 : Memref sig .tc .vmem S2x272x1024 .f32) (harg12 : arg12.IsWhole)

set_option warn.classDefReducibility false in
/-- A loop of no trips by the invariant that the carried values are the first ones. -/
def loopNone {w : ℕ} {σ : Type} (lb ub st : BitVec w) (hok : Scf.OK lb ub st) (init : σ)
    (body : Fin (Scf.trips lb ub st) → σ → Prog (TpuEff nD τ sig (Elt F) Λ₀ .tc) σ) (h : Scf.trips lb ub st = 0) :
    LoopInv (M := 𝕄G) Idealize.ShloMosaic.frame (wpE (defs₀ (F := F)) Variants.none (c : Thread nD τ) none) Set.univ lb ub st hok init body where
  inv _ a := iprop(⌜a = init⌝)
  step k _ := absurd k.isLt (by omega)

theorem loopNone_inv {w : ℕ} {σ : Type} (lb ub st : BitVec w) (hok : Scf.OK lb ub st) (init : σ)
    (body : Fin (Scf.trips lb ub st) → σ → Prog (TpuEff nD τ sig (Elt F) Λ₀ .tc) σ) (h : Scf.trips lb ub st = 0) (n : ℕ) (a : σ) :
    (loopNone c lb ub st hok init body h).inv n a ⊢ iprop(⌜a = init⌝ : sProp 𝕄G) := .rfl

theorem loopNone_zero {w : ℕ} {σ : Type} (lb ub st : BitVec w) (hok : Scf.OK lb ub st) (init : σ)
    (body : Fin (Scf.trips lb ub st) → σ → Prog (TpuEff nD τ sig (Elt F) Λ₀ .tc) σ) (h : Scf.trips lb ub st = 0) :
    ⊢ (loopNone c lb ub st hok init body h).inv 0 init := by
  show ⊢ iprop(⌜init = init⌝ : sProp 𝕄G)
  ipureintro; rfl

theorem loop1_zero (K : Vec F S4096x256 .bf16) (QT : Vec F S256x1024 .bf16) (S : Vec F S4x2x1024x1024 .f32) :
    iprop(at_ c arg5 K ∗ at_ c arg9 QT ∗ at_ c arg11 S) ⊢ (loop1 c i arg3 harg3 arg4 harg4 arg5 harg5 arg6 harg6 arg7 harg7 arg8 harg8 arg9 harg9 arg10 harg10 arg11 harg11 arg12 harg12 K QT).inv 0 (k0_pay30 (F := F), k0_pay31 (F := F)) := by
  show _ ⊢ inv1 c i arg5 arg9 arg11 K QT 0 _
  unfold inv1
  iintro ⟨H5, H9, H11⟩
  iframe H5 H9
  iexists S
  iframe H11
  ipureintro
  exact ⟨fun c' hc' => absurd hc' (by omega), rfl⟩

theorem loop1_exit (K : Vec F S4096x256 .bf16) (QT : Vec F S256x1024 .bf16) (a : FVec F S1x1024 .f32 × FVec F S1x1024 .f32) :
    (loop1 c i arg3 harg3 arg4 harg4 arg5 harg5 arg6 harg6 arg7 harg7 arg8 harg8 arg9 harg9 arg10 harg10 arg11 harg11 arg12 harg12 K QT).inv (k0_t1_loop i).trips a ⊢ inv1 c i arg5 arg9 arg11 K QT ((i 2).val / 2) a := by
  rw [← t1_trips i]; exact .rfl

/-- The two loops of the first phase. -/
theorem tail6 (K : Vec F S4096x256 .bf16) (QT : Vec F S256x1024 .bf16) (S : Vec F S4x2x1024x1024 .f32) (w x : BitVec 32)
    (Q : (Σ' (_ : BitVec 32) (_ : FVec F S1x1024 .f32), FVec F S1x1024 .f32) → sProp 𝕄G) :
    iprop(at_ c arg5 K ∗ at_ c arg9 QT ∗ at_ c arg11 S
      ∗ (∀ S, (⌜Ready K QT (i 2).val (2 * ((i 2).val / 2)) S⌝ ∗ at_ c arg5 K ∗ at_ c arg9 QT ∗ at_ c arg11 S)
        -∗ Q ⟨x, mx K QT 0 (2 * ((i 2).val / 2)), mx K QT 1 (2 * ((i 2).val / 2))⟩))
    ⊢ wp frame (wpE (defs₀ (F := F)) Variants.none (c : Thread nD τ) none) Set.univ (do
      let (v34_0, v34_1) ← Scf.Loop.for (k0_t1_loop i) (k0_t1_ok i) (k0_pay30 (F := F), k0_pay31 (F := F)) (k0_t1_body (F := F) i arg3 harg3 arg4 harg4 arg5 harg5 arg6 harg6 arg7 harg7 arg8 harg8 arg9 harg9 arg10 harg10 arg11 harg11 arg12 harg12)
      let (v35_0, v35_1) ← Scf.Loop.for (k0_t2_loop i) (k0_t2_ok i) (v34_0, v34_1) (k0_t2_body (F := F) i arg3 harg3 arg4 harg4 arg5 harg5 arg6 harg6 arg7 harg7 arg8 harg8 arg9 harg9 arg10 harg10 arg11 harg11 arg12 harg12 w)
      pure ⟨x, v35_0, v35_1⟩) Q := by
  iintro ⟨H5, H9, H11, Hk⟩
  iapply (exec_loop _ _ _ _ _ _ _ _ _ (loop1 c i arg3 harg3 arg4 harg4 arg5 harg5 arg6 harg6 arg7 harg7 arg8 harg8 arg9 harg9 arg10 harg10 arg11 harg11 arg12 harg12 K QT)) $$ [H5 H9 H11]
  · iapply (loop1_zero c i arg3 harg3 arg4 harg4 arg5 harg5 arg6 harg6 arg7 harg7 arg8 harg8 arg9 harg9 arg10 harg10 arg11 harg11 arg12 harg12 K QT S)
    iframe
  iintro %a Hi
  ihave Hi := (loop1_exit c i arg3 harg3 arg4 harg4 arg5 harg5 arg6 harg6 arg7 harg7 arg8 harg8 arg9 harg9 arg10 harg10 arg11 harg11 arg12 harg12 K QT a) $$ Hi
  unfold inv1
  icases Hi with ⟨H5, H9, ⟨%S', H11, %hS⟩⟩
  obtain ⟨hr, rfl⟩ := hS
  iapply (exec_loop _ _ _ _ _ _ _ _ _ (loopNone c _ _ _ _ _ _ (t2_trips i))) $$ []
  · iapply (loopNone_zero c _ _ _ _ _ _ _)
  iintro %a Ha
  ihave Ha := (loopNone_inv c _ _ _ _ _ _ _ _ _) $$ Ha
  icases Ha with %ha
  subst ha
  sl_exec
  sl_step
  iapply Hk
  iframe
  ipureintro
  exact hr

/-- The fill of the transposed values, read back. -/
theorem filled (f) (V : Vec F S4096x256 .bf16) (b0 b1 b2 b3 b4 b5 b6 b7 c0 c1 c2 c3) :
    arg10.view.read (Elt F) (arg10.view.writes (Elt F) f
      [⟨Rect.unit ![3, 256, 0] S1x16x1024.size b7, k0_pay28⟩, ⟨Rect.unit ![3, 0, 0] S1x256x1024.size b6, k0_pay27 (arg6.view.readAt (Elt F) (Rect.unit (s := S4096x256) ![3072, 0] S1024x256.size c3).toLoadRect (arg6.view.rep V))⟩,
       ⟨Rect.unit ![2, 256, 0] S1x16x1024.size b5, k0_pay26 k0_pay7⟩, ⟨Rect.unit ![2, 0, 0] S1x256x1024.size b4, k0_pay6 (arg6.view.readAt (Elt F) (Rect.unit (s := S4096x256) ![2048, 0] S1024x256.size c2).toLoadRect (arg6.view.rep V))⟩,
       ⟨Rect.unit ![1, 256, 0] S1x16x1024.size b3, k0_pay5⟩, ⟨Rect.unit ![1, 0, 0] S1x256x1024.size b2, k0_pay4 (arg6.view.readAt (Elt F) (Rect.unit (s := S4096x256) ![1024, 0] S1024x256.size c1).toLoadRect (arg6.view.rep V))⟩,
       ⟨Rect.unit ![0, 256, 0] S1x16x1024.size b1, k0_pay3⟩, ⟨Rect.unit ![0, 0, 0] S1x256x1024.size b0, k0_pay2 (arg6.view.readAt (Elt F) (Rect.unit (s := S4096x256) ![0, 0] S1024x256.size c0).toLoadRect (arg6.view.rep V))⟩]) = vtAll V := by
  iterate 8 rw [View.read_writes_cons_put _ _ _ _ _ rfl]
  exact put_all _ V _ _ _ _ _ _ _ _ (congrArg k0_pay2 (View.readAt_rep_unit arg6.view V _ rfl _)) (congrArg k0_pay2 (View.readAt_rep_unit arg6.view V _ rfl _))
    (congrArg k0_pay2 (View.readAt_rep_unit arg6.view V _ rfl _)) (congrArg k0_pay2 (View.readAt_rep_unit arg6.view V _ rfl _))
    (fun _ => rfl) (fun _ => rfl) (fun _ => rfl) (fun _ => rfl)

/-- The first part: the values transposed when a head starts, the queries scaled and transposed, the first phase's pairs of chunks. -/
theorem part6_run (QB : Vec F S1024x256 .bf16) (K V : Vec F S4096x256 .bf16) (Q9 : Vec F S256x1024 .bf16) (VT : Vec F S4x272x1024 .bf16) (S : Vec F S4x2x1024x1024 .f32)
    (hVT : (i 2).val ≠ 0 → VT = vtAll V) (Q : (Σ' (_ : BitVec 32) (_ : FVec F S1x1024 .f32), FVec F S1x1024 .f32) → sProp 𝕄G) :
    iprop(at_ c arg4 QB ∗ at_ c arg5 K ∗ at_ c arg6 V ∗ at_ c arg9 Q9 ∗ at_ c arg10 VT ∗ at_ c arg11 S
      ∗ (∀ S, (⌜Ready K (k0_pay29 QB) (i 2).val (2 * ((i 2).val / 2)) S⌝ ∗ at_ c arg4 QB ∗ at_ c arg5 K ∗ at_ c arg6 V ∗ at_ c arg9 (k0_pay29 QB) ∗ at_ c arg10 (vtAll V) ∗ at_ c arg11 S)
        -∗ Q ⟨BitVec.ofNat 32 (i 2).val, mx K (k0_pay29 QB) 0 (2 * ((i 2).val / 2)), mx K (k0_pay29 QB) 1 (2 * ((i 2).val / 2))⟩))
    ⊢ wp frame (wpE (defs₀ (F := F)) Variants.none (c : Thread nD τ) none) Set.univ (k0_part6 (F := F) i arg3 harg3 arg4 harg4 arg5 harg5 arg6 harg6 arg7 harg7 arg8 harg8 arg9 harg9 arg10 harg10 arg11 harg11 arg12 harg12) Q := by
  rw [k0_part6_eq_skeleton]
  unfold k0_part6_skel
  iintro ⟨H4, H5, H6, H9, H10, H11, Hk⟩
  by_cases hz : Scalar.cmpi .ne (Scalar.extui (Scalar.cmpi .eq (BitVec.ofNat 32 (i 2).val) 0#32)) 0#32 = 1#1
  · sl_exec
    sl_unfold_run_names
    rw [View.readAt_rep_full]
    ihave H10 := (pointsTo_rep_of_read (c : Thread nD τ) arg10 _ fullShare _ (filled arg6 arg10 _ V _ _ _ _ _ _ _ _ _ _ _ _)) $$ H10
    ihave H9 := (pointsTo_rep_of_read (c : Thread nD τ) arg9 _ fullShare _ (View.read_writes_full arg9.view _ _ _ _)) $$ H9
    iapply (tail6 c i arg3 harg3 arg4 harg4 arg5 harg5 arg6 harg6 arg7 harg7 arg8 harg8 arg9 harg9 arg10 harg10 arg11 harg11 arg12 harg12 K (k0_pay29 QB) S)
    iframe H5 H9 H11
    iintro %S ⟨%hr, H5, H9, H11⟩
    iapply Hk
    iframe
    ipureintro
    exact hr
  · have hz' : (i 2).val ≠ 0 := fun h => hz (by rw [h]; decide)
    sl_exec
    rw [hVT hz']
    sl_unfold_run_names
    rw [View.readAt_rep_full]
    ihave H9 := (pointsTo_rep_of_read (c : Thread nD τ) arg9 _ fullShare _ (View.read_writes_full arg9.view _ _ _ _)) $$ H9
    iapply (tail6 c i arg3 harg3 arg4 harg4 arg5 harg5 arg6 harg6 arg7 harg7 arg8 harg8 arg9 harg9 arg10 harg10 arg11 harg11 arg12 harg12 K (k0_pay29 QB) S)
    iframe H5 H9 H11
    iintro %S ⟨%hr, H5, H9, H11⟩
    iapply Hk
    iframe
    ipureintro
    exact hr

end Cert.KernelIdeal.Own

end
-- ==== Proof.Parts2.lean ====
/- The later parts of the attention kernel's body: the diagonal chunk and the second phase. -/
module

public import proofs.«01_k».proof.Proof.Parts
public import Idealize.ShloMosaic.Lib.Exec
public import Idealize.ShloMosaic.Lib.Tactic
public import Idealize.ShloMosaic.Lib.Pipeline.Kit
public import Idealize.ShloMosaic.Lib.LoopRemainder

@[expose] public section

set_option maxRecDepth 16384

noncomputable section

namespace Cert.KernelIdeal.Own

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg3 : Memref sig .tc .smem S1 .f32) (harg3 : arg3.IsWhole) (arg4 : Memref sig .tc .vmem S1024x256 .bf16) (harg4 : arg4.IsWhole)
  (arg5 : Memref sig .tc .vmem S4096x256 .bf16) (harg5 : arg5.IsWhole) (arg6 : Memref sig .tc .vmem S4096x256 .bf16) (harg6 : arg6.IsWhole)
  (arg7 : Memref sig .tc .vmem S1x256 .f32) (harg7 : arg7.IsWhole) (arg8 : Memref sig .tc .vmem S1024x256 .bf16) (harg8 : arg8.IsWhole)
  (arg9 : Memref sig .tc .vmem S256x1024 .bf16) (harg9 : arg9.IsWhole) (arg10 : Memref sig .tc .vmem S4x272x1024 .bf16) (harg10 : arg10.IsWhole)
  (arg11 : Memref sig .tc .vmem S4x2x1024x1024 .f32) (harg11 : arg11.IsWhole) (arg12 : Memref sig .tc .vmem S2x272x1024 .f32) (harg12 : arg12.IsWhole)

/-- One chunk's slabs stored. -/
theorem storedS (f) (n : ℕ) (m : Fin 2) {o : Fin S4x2x1024x1024.rank → ℕ} (b) (w : Vec F S1x1x1024x1024 .f32) (L : List (View.Piece (Elt F) S4x2x1024x1024 .f32))
    (h : o = ![n % 4, m.val, 0, 0]) :
    arg11.view.read (Elt F) (arg11.view.writes (Elt F) f (⟨Rect.unit o S1x1x1024x1024.size b, w⟩ :: L))
      = stPut (arg11.view.read (Elt F) (arg11.view.writes (Elt F) f L)) n m w := View.read_writes_cons_put _ _ _ _ _ h

/-- The odd chunk before the query tile, when there is one. -/
theorem part7_run (K : Vec F S4096x256 .bf16) (QT : Vec F S256x1024 .bf16) (S : Vec F S4x2x1024x1024 .f32) (a2 : BitVec 32)
    (hS : Ready K QT (i 2).val (2 * ((i 2).val / 2)) S)
    (Q : (Σ' (_ : FVec F S1x1024 .f32) (_ : FVec F S1x1024 .f32) (_ : IVec S1024x1024 32) (_ : IVec S1024x1024 32) (_ : BitVec 32) (_ : IVec S1024x1024 32), IVec S1024x1024 32) → sProp 𝕄G) :
    iprop(at_ c arg5 K ∗ at_ c arg9 QT ∗ at_ c arg11 S
      ∗ (∀ S, (⌜Ready K QT (i 2).val (i 2).val S⌝ ∗ at_ c arg5 K ∗ at_ c arg9 QT ∗ at_ c arg11 S)
        -∗ Q ⟨mx K QT 0 (i 2).val, mx K QT 1 (i 2).val, k0_pay50, iota .tc S1024x1024 32 [1] iota_S1024x1024_d1_w32, 64#32, k0_pay51, k0_pay52⟩))
    ⊢ wp frame (wpE (defs₀ (F := F)) Variants.none (c : Thread nD τ) none) Set.univ (k0_part7 (F := F) i arg3 harg3 arg4 harg4 arg5 harg5 arg6 harg6 arg7 harg7 arg8 harg8 arg9 harg9 arg10 harg10 arg11 harg11 arg12 harg12 a2 (mx K QT 0 (2 * ((i 2).val / 2))) (mx K QT 1 (2 * ((i 2).val / 2)))) Q := by
  have hn : (i 2).val < 4 := (i 2).isLt
  rw [k0_part7_eq_skeleton]
  unfold k0_part7_skel
  iintro ⟨H5, H9, H11, Hk⟩
  by_cases hz : k0_cond2 i = 1#1
  · sl_exec
    sl_step
    sl_unfold_run_names
    have ho := (cond2_iff i).mp hz
    have he : (i 2).val - 1 = 2 * ((i 2).val / 2) := by omega
    rw [ldK arg5 K ((i 2).val - 1) 0 _ (off17_eq i hz), ldK arg5 K ((i 2).val - 1) 1 _ (off19_eq i hz), ldQ (off := ![0, 0]) arg9 QT 0 _ rfl,
      ldQ (off := ![128, 0]) arg9 QT 1 _ rfl]
    ihave H11 := (pointsTo_rep_of_read (c : Thread nD τ) arg11 _ fullShare _
      ((storedS arg11 _ ((i 2).val - 1) 1 _ _ _ (off20_eq i hz)).trans (congrArg (fun z => stPut z ((i 2).val - 1) 1 _) (View.read_writes_rep_unit arg11.view S _ _ (off18_eq i hz))))) $$ H11
    rw [he]
    have hn1 : 2 * ((i 2).val / 2) + 1 = (i 2).val := by omega
    have hm0 : k0_pay46 (mx K QT 0 (2 * ((i 2).val / 2))) (kb K (2 * ((i 2).val / 2)) 0) (qb QT 0) = mx K QT 0 (i 2).val := congrArg (mx K QT 0) hn1
    have hm1 : k0_pay49 (mx K QT 1 (2 * ((i 2).val / 2))) (kb K (2 * ((i 2).val / 2)) 1) (qb QT 1) = mx K QT 1 (i 2).val := congrArg (mx K QT 1) hn1
    have hr := hS.succ (w0 := k0_pay45 (kb K (2 * ((i 2).val / 2)) 0) (qb QT 0)) (w1 := k0_pay48 (kb K (2 * ((i 2).val / 2)) 1) (qb QT 1)) (by omega)
      (if_pos (by omega)).symm (if_pos (by omega)).symm
    rw [hn1] at hr
    rw [hm0, hm1]
    iapply Hk
    iframe H5 H9
    isplitr [H11]
    · ipureintro; exact hr
    · iexact H11
  · sl_exec
    sl_step
    sl_unfold_run_names
    have ho : ¬ (i 2).val % 2 = 1 := fun h => hz ((cond2_iff i).mpr h)
    have he : 2 * ((i 2).val / 2) = (i 2).val := by omega
    rw [he] at hS ⊢
    iapply Hk
    iframe
    ipureintro
    exact hS

/-- The diagonal chunk under the first map. -/
theorem part8_run (K : Vec F S4096x256 .bf16) (QT : Vec F S256x1024 .bf16) (S : Vec F S4x2x1024x1024 .f32) (a2 : BitVec 32) (v49 : FVec F S1x1024 .f32)
    (Q : (Σ' (_ : IVec S1024x1024 1) (_ : FVec F S1x1024 .f32), Vec F S1024x128 .bf16) → sProp 𝕄G) :
    iprop(at_ c arg5 K ∗ at_ c arg9 QT ∗ at_ c arg11 S
      ∗ ((at_ c arg5 K ∗ at_ c arg9 QT ∗ at_ c arg11 (stPut S (i 2).val 0 (k0_pay58 msk (kb K (i 2).val 0) (qb QT 0))))
        -∗ Q ⟨msk, k0_pay59 v49 msk (kb K (i 2).val 0) (qb QT 0), kb K (i 2).val 1⟩))
    ⊢ wp frame (wpE (defs₀ (F := F)) Variants.none (c : Thread nD τ) none) Set.univ (k0_part8 (F := F) i arg3 harg3 arg4 harg4 arg5 harg5 arg6 harg6 arg7 harg7 arg8 harg8 arg9 harg9 arg10 harg10 arg11 harg11 arg12 harg12 a2 v49 k0_pay50 (iota .tc S1024x1024 32 [1] iota_S1024x1024_d1_w32) 64#32 k0_pay51 k0_pay52) Q := by
  rw [k0_part8_eq_skeleton]
  unfold k0_part8_skel
  iintro ⟨H5, H9, H11, Hk⟩
  sl_exec
  sl_step
  sl_unfold_run_names
  rw [ldK arg5 K (i 2).val 0 _ (off21_eq i), ldK arg5 K (i 2).val 1 _ (off23_eq i), ldQ (off := ![0, 0]) arg9 QT 0 _ rfl]
  ihave H11 := (pointsTo_rep_of_read (c : Thread nD τ) arg11 _ fullShare _ (View.read_writes_rep_unit arg11.view S _ _ (off22_eq i))) $$ H11
  rw [show k0_pay56 v49 k0_pay50 (iota .tc S1024x1024 32 [1] iota_S1024x1024_d1_w32) 64#32 k0_pay51 k0_pay52 (kb K (i 2).val 0) (qb QT 0)
      = k0_pay59 v49 msk (kb K (i 2).val 0) (qb QT 0) from rfl,
    show k0_pay53 k0_pay50 (iota .tc S1024x1024 32 [1] iota_S1024x1024_d1_w32) 64#32 k0_pay51 k0_pay52 = msk from rfl]
  iapply Hk
  iframe H5 H9
  iexact H11

/-- The diagonal chunk under the second map, and the accumulator cleared. -/
theorem part9_run (K : Vec F S4096x256 .bf16) (QT : Vec F S256x1024 .bf16) (S : Vec F S4x2x1024x1024 .f32) (A : Vec F S2x272x1024 .f32) (a2 : BitVec 32)
    (v49 : FVec F S1x1024 .f32) (Mk : IVec S1024x1024 1) (kk : Vec F S1024x128 .bf16)
    (Q : (Σ' (_ : FVec F S1x1024 .f32) (_ : BitVec 32) (_ : BitVec 32) (_ : BitVec 32), BitVec 32) → sProp 𝕄G) :
    iprop(at_ c arg9 QT ∗ at_ c arg11 S ∗ at_ c arg12 A
      ∗ (∀ x w, (at_ c arg9 QT ∗ at_ c arg11 (stPut S (i 2).val 1 (k0_pay58 Mk kk (qb QT 1))) ∗ at_ c arg12 k0_pay60)
        -∗ Q ⟨k0_pay59 v49 Mk kk (qb QT 1), x, 0#32, 1#32, w⟩))
    ⊢ wp frame (wpE (defs₀ (F := F)) Variants.none (c : Thread nD τ) none) Set.univ (k0_part9 (F := F) i arg3 harg3 arg4 harg4 arg5 harg5 arg6 harg6 arg7 harg7 arg8 harg8 arg9 harg9 arg10 harg10 arg11 harg11 arg12 harg12 a2 v49 Mk kk) Q := by
  rw [k0_part9_eq_skeleton]
  unfold k0_part9_skel
  iintro ⟨H9, H11, H12, Hk⟩
  sl_exec
  sl_step
  sl_unfold_run_names
  rw [ldQ (off := ![128, 0]) arg9 QT 1 _ rfl]
  ihave H11 := (pointsTo_rep_of_read (c : Thread nD τ) arg11 _ fullShare _ (View.read_writes_rep_unit arg11.view S _ _ (off24_eq i))) $$ H11
  ihave H12 := (pointsTo_rep_of_read (c : Thread nD τ) arg12 _ fullShare _ (View.read_writes_full arg12.view _ _ _ _)) $$ H12
  iapply Hk
  iframe H9 H12
  iexact H11

end Cert.KernelIdeal.Own

end
-- ==== Proof.Body.lean ====
/- The last part of the attention kernel's body, and the whole body. -/
module

public import proofs.«01_k».proof.Proof.Parts2
public import Idealize.ShloMosaic.Lib.Exec
public import Idealize.ShloMosaic.Lib.Tactic
public import Idealize.ShloMosaic.Lib.Pipeline.Kit
public import Idealize.ShloMosaic.Lib.LoopRemainder

@[expose] public section

set_option maxRecDepth 16384

noncomputable section

namespace Cert.KernelIdeal.Own

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg3 : Memref sig .tc .smem S1 .f32) (harg3 : arg3.IsWhole) (arg4 : Memref sig .tc .vmem S1024x256 .bf16) (harg4 : arg4.IsWhole)
  (arg5 : Memref sig .tc .vmem S4096x256 .bf16) (harg5 : arg5.IsWhole) (arg6 : Memref sig .tc .vmem S4096x256 .bf16) (harg6 : arg6.IsWhole)
  (arg7 : Memref sig .tc .vmem S1x256 .f32) (harg7 : arg7.IsWhole) (arg8 : Memref sig .tc .vmem S1024x256 .bf16) (harg8 : arg8.IsWhole)
  (arg9 : Memref sig .tc .vmem S256x1024 .bf16) (harg9 : arg9.IsWhole) (arg10 : Memref sig .tc .vmem S4x272x1024 .bf16) (harg10 : arg10.IsWhole)
  (arg11 : Memref sig .tc .vmem S4x2x1024x1024 .f32) (harg11 : arg11.IsWhole) (arg12 : Memref sig .tc .vmem S2x272x1024 .f32) (harg12 : arg12.IsWhole)

/-- The one entry of the subtracted map's weight. -/
def lamIx : S1.Idx := fun a => ⟨0, by fin_cases a; decide⟩

theorem loop3_zero (VT : Vec F S4x272x1024 .bf16) (ST : Vec F S4x2x1024x1024 .f32) (A : Vec F S2x272x1024 .f32)
    (v115 : FVec F S1x1024 .f32) (v130 : FVec F S1x1024 .f32) (v135 : BitVec 32) (z : BitVec 32) (o : BitVec 32) (v155 : BitVec 32) :
    iprop(at_ c arg10 VT ∗ at_ c arg11 ST ∗ at_ c arg12 A) ⊢ (loop3 c i arg3 harg3 arg4 harg4 arg5 harg5 arg6 harg6 arg7 harg7 arg8 harg8 arg9 harg9 arg10 harg10 arg11 harg11 arg12 harg12 VT ST (acb A) v115 v130 v135 z o v155).inv 0 () := by
  show _ ⊢ inv3 c arg10 arg11 arg12 ![v115, v130] VT ST (acb A) 0
  unfold inv3
  iintro ⟨H5, H9, H11⟩
  iframe H5 H9
  iexists A
  iframe H11
  ipureintro
  exact fun m => rfl

theorem loop3_exit (VT : Vec F S4x272x1024 .bf16) (ST : Vec F S4x2x1024x1024 .f32) (A : Vec F S2x272x1024 .f32)
    (v115 : FVec F S1x1024 .f32) (v130 : FVec F S1x1024 .f32) (v135 : BitVec 32) (z : BitVec 32) (o : BitVec 32) (v155 : BitVec 32) :
    (loop3 c i arg3 harg3 arg4 harg4 arg5 harg5 arg6 harg6 arg7 harg7 arg8 harg8 arg9 harg9 arg10 harg10 arg11 harg11 arg12 harg12 VT ST (acb A) v115 v130 v135 z o v155).inv (k0_t3_loop i).trips ()
      ⊢ inv3 c arg10 arg11 arg12 ![v115, v130] VT ST (acb A) (((i 2).val + 1) / 2) := by
  rw [← t3_trips i]; exact .rfl

theorem rdHi (f) (m : Fin 2) {off : Fin S2x272x1024.rank → ℕ} (b) (h : off = ![m.val, 0, 0]) :
    arg12.view.readAt (Elt F) (Rect.unit off S1x256x1024.size b).toLoadRect f = hiRows (acb (arg12.view.read (Elt F) f) m) := by
  subst h
  refine (View.readAt_unit _ _ _ rfl b).trans (funext fun y => congrArg (arg12.view.read (Elt F) f) (funext fun a => Fin.ext ?_))
  show _ + 1 * _ = _ + 1 * (_ + 1 * _)
  fin_cases a <;> simp

theorem rdLo (f) (m : Fin 2) {off : Fin S2x272x1024.rank → ℕ} (b) (h : off = ![m.val, 256, 0]) :
    arg12.view.readAt (Elt F) (Rect.unit off S1x1x1024.size b).toLoadRect f = loRow (acb (arg12.view.read (Elt F) f) m) := by
  subst h
  refine (View.readAt_unit _ _ _ rfl b).trans (funext fun y => congrArg (arg12.view.read (Elt F) f) (funext fun a => Fin.ext ?_))
  show _ + 1 * _ = _ + 1 * (_ + 1 * _)
  fin_cases a <;> simp

theorem covHi (b0 b1) (w0 w1 : Vec F S1x272x1024 .f32) (L : List (View.Piece (Elt F) S2x272x1024 .f32)) (m : Fin 2) {off : Fin S2x272x1024.rank → ℕ} (b) (h : off = ![m.val, 0, 0]) :
    arg12.view.readCov (⟨Rect.unit ![1, 0, 0] S1x272x1024.size b1, w1⟩ :: ⟨Rect.unit ![0, 0, 0] S1x272x1024.size b0, w0⟩ :: L)
      (Rect.unit (s := S2x272x1024) off S1x256x1024.size b).toLoadRect = hiRows (![w0, w1] m) := by
  refine (rdHi arg12 _ m b h).trans ?_
  rw [stored2, acb_two]

theorem covLo (b0 b1) (w0 w1 : Vec F S1x272x1024 .f32) (L : List (View.Piece (Elt F) S2x272x1024 .f32)) (m : Fin 2) {off : Fin S2x272x1024.rank → ℕ} (b) (h : off = ![m.val, 256, 0]) :
    arg12.view.readCov (⟨Rect.unit ![1, 0, 0] S1x272x1024.size b1, w1⟩ :: ⟨Rect.unit ![0, 0, 0] S1x272x1024.size b0, w0⟩ :: L)
      (Rect.unit (s := S2x272x1024) off S1x1x1024.size b).toLoadRect = loRow (![w0, w1] m) := by
  refine (rdLo arg12 _ m b h).trans ?_
  rw [stored2, acb_two]

/-- The second phase, and the accumulators divided by their sums. -/
theorem part10_run (LAM : Vec F S1 .f32) (VT : Vec F S4x272x1024 .bf16) (ST : Vec F S4x2x1024x1024 .f32) (A : Vec F S2x272x1024 .f32)
    (v115 : FVec F S1x1024 .f32) (v130 : FVec F S1x1024 .f32) (v135 : BitVec 32) (v155 : BitVec 32)
    (Q : (Σ' (_ : FVec F S256x1024 .f32) (_ : FVec F S256x1024 .f32), Elt F .f32) → sProp 𝕄G) :
    iprop(at_ c arg3 LAM ∗ at_ c arg10 VT ∗ at_ c arg11 ST ∗ at_ c arg12 A
      ∗ (∀ A', (at_ c arg3 LAM ∗ at_ c arg10 VT ∗ at_ c arg11 ST ∗ at_ c arg12 A')
        -∗ Q ⟨k0_pay72 (hiRows (accS v115 VT ST 0 (acb A 0) ((i 2).val + 1))) (loRow (accS v115 VT ST 0 (acb A 0) ((i 2).val + 1))),
              k0_pay73 (hiRows (accS v130 VT ST 1 (acb A 1) ((i 2).val + 1))) (loRow (accS v130 VT ST 1 (acb A 1) ((i 2).val + 1))), LAM lamIx⟩))
    ⊢ wp frame (wpE (defs₀ (F := F)) Variants.none (c : Thread nD τ) none) Set.univ (k0_part10 (F := F) i arg3 harg3 arg4 harg4 arg5 harg5 arg6 harg6 arg7 harg7 arg8 harg8 arg9 harg9 arg10 harg10 arg11 harg11 arg12 harg12 v115 v130 v135 0#32 1#32 v155) Q := by
  have hn : (i 2).val < 4 := (i 2).isLt
  rw [k0_part10_eq_skeleton]
  unfold k0_part10_skel
  iintro ⟨H3, H10, H11, H12, Hk⟩
  iapply (exec_loop _ _ _ _ _ _ _ _ _ (loop3 c i arg3 harg3 arg4 harg4 arg5 harg5 arg6 harg6 arg7 harg7 arg8 harg8 arg9 harg9 arg10 harg10 arg11 harg11 arg12 harg12 VT ST (acb A) v115 v130 v135 0#32 1#32 v155)) $$ [H10 H11 H12]
  · iapply (loop3_zero c i arg3 harg3 arg4 harg4 arg5 harg5 arg6 harg6 arg7 harg7 arg8 harg8 arg9 harg9 arg10 harg10 arg11 harg11 arg12 harg12 VT ST A v115 v130 v135 0#32 1#32 v155)
    iframe
  iintro %a Hi
  ihave Hi := (loop3_exit c i arg3 harg3 arg4 harg4 arg5 harg5 arg6 harg6 arg7 harg7 arg8 harg8 arg9 harg9 arg10 harg10 arg11 harg11 arg12 harg12 VT ST A v115 v130 v135 0#32 1#32 v155) $$ Hi
  unfold inv3
  icases Hi with ⟨H10, H11, ⟨%B, H12, %hB⟩⟩
  iapply (exec_loop _ _ _ _ _ _ _ _ _ (loopNone c _ _ _ _ _ _ (t4_trips i))) $$ []
  · iapply (loopNone_zero c _ _ _ _ _ _ _)
  iintro %b Hb
  ihave Hb := (loopNone_inv c _ _ _ _ _ _ _ _ _) $$ Hb
  icases Hb with %hb
  have h0 : acb B 0 = accS v115 VT ST 0 (acb A 0) _ := hB 0
  have h1 : acb B 1 = accS v130 VT ST 1 (acb A 1) _ := hB 1
  have hl : ∀ h, LAM (Shape.Idx.first h) = LAM lamIx := fun _ => rfl
  by_cases hz : k0_cond3 i = 1#1
  · have he : 2 * (((i 2).val + 1) / 2) = (i 2).val := by have := (cond3_iff i).mp hz; omega
    rw [he] at h0 h1
    sl_exec
    sl_step
    sl_unfold_run_names
    have e0 : ∀ b1 b2 b3, k0_pay70 v115 (arg10.view.readAt (Elt F) (Rect.unit (s := S4x272x1024) (k0_off37 i) S1x272x1024.size b1).toLoadRect (arg10.view.rep VT))
        (arg11.view.readAt (Elt F) (Rect.unit (s := S4x2x1024x1024) (k0_off38 i) S1x1x1024x1024.size b2).toLoadRect (arg11.view.rep ST))
        (arg12.view.readAt (Elt F) (Rect.unit (s := S2x272x1024) ![0, 0, 0] S1x272x1024.size b3).toLoadRect (arg12.view.rep B))
        = accS v115 VT ST 0 (acb A 0) ((i 2).val + 1) := by
      intro b1 b2 b3
      rw [ldV arg10 VT (i 2).val _ (off37_eq i hz), ldS arg11 ST (i 2).val 0 _ (off38_eq i hz), ldA (off := ![0, 0, 0]) arg12 B 0 _ rfl, h0]
      rfl
    have e1 : ∀ b1 b2 b3, k0_pay71 v130 (arg10.view.readAt (Elt F) (Rect.unit (s := S4x272x1024) (k0_off37 i) S1x272x1024.size b1).toLoadRect (arg10.view.rep VT))
        (arg11.view.readAt (Elt F) (Rect.unit (s := S4x2x1024x1024) (k0_off39 i) S1x1x1024x1024.size b2).toLoadRect (arg11.view.rep ST))
        (arg12.view.readAt (Elt F) (Rect.unit (s := S2x272x1024) ![1, 0, 0] S1x272x1024.size b3).toLoadRect (arg12.view.rep B))
        = accS v130 VT ST 1 (acb A 1) ((i 2).val + 1) := by
      intro b1 b2 b3
      rw [ldV arg10 VT (i 2).val _ (off37_eq i hz), ldS arg11 ST (i 2).val 1 _ (off39_eq i hz), ldA (off := ![1, 0, 0]) arg12 B 1 _ rfl, h1]
      rfl
    rw [e0, e1, covHi (off := ![0, 0, 0]) arg12 _ _ _ _ _ 0 _ rfl, covLo (off := ![0, 256, 0]) arg12 _ _ _ _ _ 0 _ rfl,
      covHi (off := ![1, 0, 0]) arg12 _ _ _ _ _ 1 _ rfl, covLo (off := ![1, 256, 0]) arg12 _ _ _ _ _ 1 _ rfl, Matrix.cons_val_zero, Matrix.cons_val_one, Matrix.cons_val_zero, View.readAt_rep_full, hl]
    iapply Hk
    iframe H3 H10 H11
    iapply (pointsTo_rep_of_read (c : Thread nD τ) arg12 _ fullShare _ rfl) $$ H12
  · have he : 2 * (((i 2).val + 1) / 2) = (i 2).val + 1 := by have : ¬ (i 2).val % 2 = 0 := fun h => hz ((cond3_iff i).mpr h); omega
    rw [he] at h0 h1
    sl_exec
    sl_step
    sl_unfold_run_names
    rw [rdHi (off := ![0, 0, 0]) arg12 _ 0 _ rfl, rdLo (off := ![0, 256, 0]) arg12 _ 0 _ rfl,
      rdHi (off := ![1, 0, 0]) arg12 _ 1 _ rfl, rdLo (off := ![1, 256, 0]) arg12 _ 1 _ rfl, View.read_rep, h0, h1, View.readAt_rep_full, hl]
    iapply Hk
    iframe

/-- What the body leaves in the result's block: the two accumulators divided, subtracted, normalised. -/
def outB (n : ℕ) (LAM : Vec F S1 .f32) (QB : Vec F S1024x256 .bf16) (K V : Vec F S4096x256 .bf16) (G : Vec F S1x256 .f32) : Vec F S1024x256 .bf16 :=
  k0_pay1 (k0_pay72 (hiRows (acc K (k0_pay29 QB) (vtAll V) n 0 (n + 1))) (loRow (acc K (k0_pay29 QB) (vtAll V) n 0 (n + 1))))
    (k0_pay73 (hiRows (acc K (k0_pay29 QB) (vtAll V) n 1 (n + 1))) (loRow (acc K (k0_pay29 QB) (vtAll V) n 1 (n + 1)))) (LAM lamIx) G

/-- The whole body at a point of the grid. -/
theorem body_run (LAM : Vec F S1 .f32) (QB : Vec F S1024x256 .bf16) (K V : Vec F S4096x256 .bf16) (G : Vec F S1x256 .f32) (O : Vec F S1024x256 .bf16)
    (Q9 : Vec F S256x1024 .bf16) (VT : Vec F S4x272x1024 .bf16) (S : Vec F S4x2x1024x1024 .f32) (A : Vec F S2x272x1024 .f32)
    (hVT : (i 2).val ≠ 0 → VT = vtAll V) (Q : PUnit → sProp 𝕄G) :
    iprop(at_ c arg3 LAM ∗ at_ c arg4 QB ∗ at_ c arg5 K ∗ at_ c arg6 V ∗ at_ c arg7 G ∗ at_ c arg8 O ∗ at_ c arg9 Q9 ∗ at_ c arg10 VT ∗ at_ c arg11 S ∗ at_ c arg12 A
      ∗ (∀ Q9 S A, (at_ c arg3 LAM ∗ at_ c arg4 QB ∗ at_ c arg5 K ∗ at_ c arg6 V ∗ at_ c arg7 G ∗ at_ c arg8 (outB (i 2).val LAM QB K V G) ∗ at_ c arg9 Q9 ∗ at_ c arg10 (vtAll V) ∗ at_ c arg11 S ∗ at_ c arg12 A)
        -∗ Q ⟨⟩))
    ⊢ wp frame (wpE (defs₀ (F := F)) Variants.none (c : Thread nD τ) none) Set.univ (cc0_attention (F := F) i arg3 harg3 arg4 harg4 arg5 harg5 arg6 harg6 arg7 harg7 arg8 harg8 arg9 harg9 arg10 harg10 arg11 harg11 arg12 harg12) Q := by
  have hn : (i 2).val < 4 := (i 2).isLt
  rw [cc0_attention_eq_skeleton]
  unfold cc0_attention_skel
  iintro ⟨H3, H4, H5, H6, H7, H8, H9, H10, H11, H12, Hk⟩
  rw [wp_bind]
  iapply (part6_run c i arg3 harg3 arg4 harg4 arg5 harg5 arg6 harg6 arg7 harg7 arg8 harg8 arg9 harg9 arg10 harg10 arg11 harg11 arg12 harg12 QB K V Q9 VT S hVT _)
  iframe H4 H5 H6 H9 H10 H11
  iintro %S1 ⟨%r1, H4, H5, H6, H9, H10, H11⟩
  rw [wp_bind]
  iapply (part7_run c i arg3 harg3 arg4 harg4 arg5 harg5 arg6 harg6 arg7 harg7 arg8 harg8 arg9 harg9 arg10 harg10 arg11 harg11 arg12 harg12 K (k0_pay29 QB) S1 _ r1 _)
  iframe H5 H9 H11
  iintro %S2 ⟨%r2, H5, H9, H11⟩
  rw [wp_bind]
  iapply (part8_run c i arg3 harg3 arg4 harg4 arg5 harg5 arg6 harg6 arg7 harg7 arg8 harg8 arg9 harg9 arg10 harg10 arg11 harg11 arg12 harg12 K (k0_pay29 QB) S2 _ _ _)
  iframe H5 H9 H11
  iintro ⟨H5, H9, H11⟩
  rw [wp_bind]
  iapply (part9_run c i arg3 harg3 arg4 harg4 arg5 harg5 arg6 harg6 arg7 harg7 arg8 harg8 arg9 harg9 arg10 harg10 arg11 harg11 arg12 harg12 K (k0_pay29 QB) _ A _ _ _ _ _)
  iframe H9 H11 H12
  iintro %x %w ⟨H9, H11, H12⟩
  rw [wp_bind]
  iapply (part10_run c i arg3 harg3 arg4 harg4 arg5 harg5 arg6 harg6 arg7 harg7 arg8 harg8 arg9 harg9 arg10 harg10 arg11 harg11 arg12 harg12 LAM (vtAll V) _ _ _ _ _ _ _)
  iframe H3 H10 H11 H12
  iintro %A1 ⟨H3, H10, H11, H12⟩
  have r3 := Ready.succ r2 (by omega) (w0 := k0_pay58 msk (kb K (i 2).val 0) (qb (k0_pay29 QB) 0)) (w1 := k0_pay58 msk (kb K (i 2).val 1) (qb (k0_pay29 QB) 1))
    (if_neg (lt_irrefl _)).symm (if_neg (lt_irrefl _)).symm
  rw [show k0_pay59 (mx K (k0_pay29 QB) 0 (i 2).val) msk (kb K (i 2).val 0) (qb (k0_pay29 QB) 0) = mxd K (k0_pay29 QB) (i 2).val 0 from rfl,
    show k0_pay59 (mx K (k0_pay29 QB) 1 (i 2).val) msk (kb K (i 2).val 1) (qb (k0_pay29 QB) 1) = mxd K (k0_pay29 QB) (i 2).val 1 from rfl,
    accS_eq (vtAll V) 0 r3 _ le_rfl, accS_eq (vtAll V) 1 r3 _ le_rfl]
  sl_exec
  sl_step
  ihave H8 := (pointsTo_rep_of_read (c : Thread nD τ) arg8 _ fullShare _ (View.read_writes_full arg8.view _ _ _ _)) $$ H8
  rw [View.readAt_rep_full]
  iapply Hk
  iframe H3 H4 H5 H6 H7 H9 H10 H11 H12
  unfold outB
  iexact H8

end Cert.KernelIdeal.Own

end
-- ==== Proof.Run.lean ====
/- The launch of the attention kernel: the pipeline's proof data, the body at every point, the run. -/
module

public import proofs.«01_k».proof.Proof.Body
public import proofs.«01_k».proof.Proof.Gen.KernelIdeal.Frame
public import Idealize.ShloMosaic.Lib.Pipeline.Frame

@[expose] public section

set_option maxRecDepth 16384

noncomputable section

namespace Cert.KernelIdeal.Own

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F]

local notation "𝕄G" => MT nD τ sig Unit (Elt F) ℕ (UR sig nD τ) ℕ

variable (m : (ℓ : Loc nD τ sig) → Buf (Elt F) ℓ) (ρ : Dev nD → PrngReg) (c : Dev nD)

/-! ## The windows' blocks -/

theorem coord2 : ∀ t : Fin grid0.N, (grid0.coords t 2).val = t.val % 4 := by decide +kernel
theorem tr1 : ∀ t : Fin grid0.N, cc0_transform_1 (grid0.coords t) = ![t.val / 64 * 4 + t.val % 4, t.val / 4 % 16] := by decide +kernel
theorem tr2 : ∀ t : Fin grid0.N, cc0_transform_2 (grid0.coords t) = ![t.val / 64, 16 + t.val / 4 % 16] := by decide +kernel
theorem tr3 : ∀ t : Fin grid0.N, cc0_transform_3 (grid0.coords t) = ![t.val / 64, 32 + t.val / 4 % 16] := by decide +kernel
theorem tr5 : ∀ t : Fin grid0.N, cc0_transform_5 (grid0.coords t) = ![t.val / 64 * 4 + t.val % 4, t.val / 4 % 16] := by decide +kernel

/-- The block of 1024 rows of the projection that starts at row `1024 a`, in the columns of block `b`. -/
def rows1 (X : Vec F S16384x28672 .bf16) (a b : ℕ) (ha : a < 16) (hb : b < 112) : Vec F S1024x256 .bf16 :=
  fun y => X (ix2 ⟨a * 1024 + (y 0).val, by have : (y 0).val < 1024 := (y 0).isLt; show _ < 16384; omega⟩ ⟨b * 256 + (y 1).val, by have : (y 1).val < 256 := (y 1).isLt; show _ < 28672; omega⟩)

/-- The block of 4096 rows that starts at row `4096 a`. -/
def rows4 (X : Vec F S16384x28672 .bf16) (a b : ℕ) (ha : a < 4) (hb : b < 112) : Vec F S4096x256 .bf16 :=
  fun y => X (ix2 ⟨a * 4096 + (y 0).val, by have : (y 0).val < 4096 := (y 0).isLt; show _ < 16384; omega⟩ ⟨b * 256 + (y 1).val, by have : (y 1).val < 256 := (y 1).isLt; show _ < 28672; omega⟩)

theorem tlt (t : Fin cfg0.N) : t.val < 256 := lt_of_lt_of_eq t.isLt N_0

theorem iblk1 (t : Fin cfg0.N) : iblk m c 1 t = rows1 (V m c main_arg0) (t.val / 64 * 4 + t.val % 4) (t.val / 4 % 16) (by have := tlt t; omega) (by omega) := by
  funext y
  refine congrArg (V m c main_arg0) (funext fun a => Fin.ext ?_)
  fin_cases a
  · show cc0_transform_1 (grid0.coords t) 0 * 1024 + 1 * (y 0).val = _
    rw [show cc0_transform_1 (grid0.coords t) 0 = _ from congrFun (tr1 t) 0, Nat.one_mul]; rfl
  · show cc0_transform_1 (grid0.coords t) 1 * 256 + 1 * (y 1).val = _
    rw [show cc0_transform_1 (grid0.coords t) 1 = _ from congrFun (tr1 t) 1, Nat.one_mul]; rfl

theorem iblk2 (t : Fin cfg0.N) : iblk m c 2 t = rows4 (V m c main_arg0) (t.val / 64) (16 + t.val / 4 % 16) (by have := tlt t; omega) (by omega) := by
  funext y
  refine congrArg (V m c main_arg0) (funext fun a => Fin.ext ?_)
  fin_cases a
  · show cc0_transform_2 (grid0.coords t) 0 * 4096 + 1 * (y 0).val = _
    rw [show cc0_transform_2 (grid0.coords t) 0 = _ from congrFun (tr2 t) 0, Nat.one_mul]; rfl
  · show cc0_transform_2 (grid0.coords t) 1 * 256 + 1 * (y 1).val = _
    rw [show cc0_transform_2 (grid0.coords t) 1 = _ from congrFun (tr2 t) 1, Nat.one_mul]; rfl

theorem iblk3 (t : Fin cfg0.N) : iblk m c 3 t = rows4 (V m c main_arg0) (t.val / 64) (32 + t.val / 4 % 16) (by have := tlt t; omega) (by omega) := by
  funext y
  refine congrArg (V m c main_arg0) (funext fun a => Fin.ext ?_)
  fin_cases a
  · show cc0_transform_3 (grid0.coords t) 0 * 4096 + 1 * (y 0).val = _
    rw [show cc0_transform_3 (grid0.coords t) 0 = _ from congrFun (tr3 t) 0, Nat.one_mul]; rfl
  · show cc0_transform_3 (grid0.coords t) 1 * 256 + 1 * (y 1).val = _
    rw [show cc0_transform_3 (grid0.coords t) 1 = _ from congrFun (tr3 t) 1, Nat.one_mul]; rfl

/-! ## The proof data -/

/-- What the body leaves in the result's block at point `t`. -/
def outAt (t : Fin cfg0.N) : Vec F S1024x256 .bf16 :=
  outB (t.val % 4) (iblk m c 0 t) (iblk m c 1 t) (iblk m c 2 t) (iblk m c 3 t) (iblk m c 4 t)

/-- Between points: the scratch at some contents, the transposed values at those of the rows of queries begun, and the generator register. -/
def PhiS (n : ℕ) : sProp 𝕄G :=
  iprop((∃ Q9 VT S A, ⌜∀ h : n / 64 < 4, n % 4 ≠ 0 → VT = vtAll (rows4 (V m c main_arg0) (n / 64) (32 + n / 4 % 16) h (by omega))⌝
      ∗ at_ c (Memref.whole cc0_scratch0) Q9 ∗ at_ c (Memref.whole cc0_scratch1) VT ∗ at_ c (Memref.whole cc0_scratch2) S ∗ at_ c (Memref.whole cc0_scratch3) A)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ n := PhiS m c n.val
  q w := Pipeline.shareOf spec0 w
  owed _ := 0

theorem at_of_owns {sp : Space} {sh : Shape} {e : EltTy} (M : Memref sig .tc sp sh e) (x : Vec F sh e) :
    owns (c : Thread nD τ) M fullShare x ⊢ (at_ c M x : sProp 𝕄G) := by
  unfold owns
  iintro ⟨%f, %hf, H⟩
  iapply (pointsTo_rep_of_read (c : Thread nD τ) M f fullShare x hf) $$ H

theorem owns_of_at {sp : Space} {sh : Shape} {e : EltTy} (M : Memref sig .tc sp sh e) (x : Vec F sh e) :
    (at_ c M x : sProp 𝕄G) ⊢ owns (c : Thread nD τ) M fullShare x := by
  unfold owns
  iintro H
  iexists _
  isplitr
  · ipureintro; exact View.read_rep _ _
  · iexact H

/-- The body's row of the table of bodies. -/
theorem row_eq (t : Fin cfg0.N) : defs₀ (F := F) .tc cfg0.body (cfg0.bodyArgs t (cfg0.slots t)) = bodyAt0 t := by
  unfold defs₀; rw [Defs.onTc_tc]

theorem vstep (t : Fin cfg0.N) (h : (t.val + 1) / 64 < 4) (hz : (t.val + 1) % 4 ≠ 0) :
    iblk m c 3 t = rows4 (V m c main_arg0) ((t.val + 1) / 64) (32 + (t.val + 1) / 4 % 16) h (by omega) := by
  rw [iblk3]
  congr 1 <;> omega

/-- What the body is called with at point `t`, and what it returns. -/
def bodyPre (t : Fin cfg0.N) : sProp 𝕄G :=
  iprop((dats m 0 c).Φ t.castSucc ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)))
def bodyPost (t : Fin cfg0.N) : sProp 𝕄G :=
  iprop((dats m 0 c).Φ t.succ ∗ (dats m 0 c).owesAt () t.succ ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ owns (c : Thread nD τ) ((cfg0.win 3).stage (cfg0.slots t 3)) fullShare ((dats m 0 c).after 3 t) ∗ owns (c : Thread nD τ) ((cfg0.win 4).stage (cfg0.slots t 4)) fullShare ((dats m 0 c).after 4 t) ∗ owns (c : Thread nD τ) ((cfg0.win 5).stage (cfg0.slots t 5)) fullShare ((dats m 0 c).after 5 t))

theorem sound_body (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.castSucc = PhiS m c t.val from rfl, show (dats m 0 c).Φ t.succ = PhiS m c (t.val + 1) from rfl,
    show (dats m 0 c).owesAt () t.succ = (dats m 0 c).owesAt () t.castSucc from rfl]
  unfold PhiS
  iintro ⟨⟨⟨%Q9, %VT, %S, %A, %hVT, H9, H10, H11, H12⟩, Hr⟩, Ho, ⟨%d0, H3⟩, ⟨%d1, H4⟩, ⟨%d2, H5⟩, ⟨%d3, H6⟩, ⟨%d4, H7⟩, ⟨%d5, H8⟩⟩
  rw [before0_0_of m (dats m 0 c) rfl (fun _ => rfl) t d0, before0_1_of m (dats m 0 c) rfl (fun _ => rfl) t d1, before0_2_of m (dats m 0 c) rfl (fun _ => rfl) t d2,
    before0_3_of m (dats m 0 c) rfl (fun _ => rfl) t d3, before0_4_of m (dats m 0 c) rfl (fun _ => rfl) t d4]
  ihave H3 := (at_of_owns c _ _) $$ H3
  ihave H4 := (at_of_owns c _ _) $$ H4
  ihave H5 := (at_of_owns c _ _) $$ H5
  ihave H6 := (at_of_owns c _ _) $$ H6
  ihave H7 := (at_of_owns c _ _) $$ H7
  ihave H8 := (at_of_owns c _ _) $$ H8
  have hc : (grid0.coords t 2).val = t.val % 4 := coord2 t
  have ht := tlt t
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) _ Q9 VT S A
    (fun hz => by rw [iblk3]; exact hVT (by omega) (by rw [hc] at hz; exact hz)) _)
  iframe H3 H4 H5 H6 H7 H8 H9 H10 H11 H12
  iintro %Q9' %S' %A' ⟨H3, H4, H5, H6, H7, H8, H9, H10, H11, H12⟩
  isplitl [H9 H10 H11 H12 Hr]
  · iframe Hr
    iexists Q9', _, S', A'
    iframe H9 H10 H11 H12
    ipureintro
    intro h hz
    rw [vstep m c t h hz]
  iframe Ho
  ihave H3 := (owns_of_at c _ _) $$ H3
  ihave H4 := (owns_of_at c _ _) $$ H4
  ihave H5 := (owns_of_at c _ _) $$ H5
  ihave H6 := (owns_of_at c _ _) $$ H6
  ihave H7 := (owns_of_at c _ _) $$ H7
  ihave H8 := (owns_of_at c _ _) $$ H8
  rw [hc]
  isplitl [H3]; · iexact H3
  isplitl [H4]; · iexact H4
  isplitl [H5]; · iexact H5
  isplitl [H6]; · iexact H6
  isplitl [H7]; · iexact H7
  iexact H8

theorem body_obligation : BodyObligation (dats m 0 c) (defs₀ (F := F)) Variants.none () Set.univ := fun t => by
  rw [bigSep_W0, bigSep_W0, row_eq]
  exact Idealize.ShloMosaic.triple_restated (sound_body m c t) rfl .rfl fun _ => .rfl

/-! ## The launch -/

theorem phi_in : Pipeline.ΦA spec0 c ⊢ (dats m 0 c).Φ 0 := by
  rw [show (dats m 0 c).Φ 0 = PhiS m c 0 from rfl]
  unfold Pipeline.ΦA PhiS
  rw [scopedRest0_eq]
  simp only [← owns_whole]
  iintro ⟨⟨⟨%f9, H9⟩, ⟨%f10, H10⟩, ⟨%f11, H11⟩, ⟨%f12, H12⟩⟩, Hr⟩
  iframe Hr
  ihave H9 := (at_of_owns c _ _) $$ H9
  ihave H10 := (at_of_owns c _ _) $$ H10
  ihave H11 := (at_of_owns c _ _) $$ H11
  ihave H12 := (at_of_owns c _ _) $$ H12
  iexists f9, f10, f11, f12
  iframe
  ipureintro
  exact fun _ h => absurd rfl h

theorem phi_out : (dats m 0 c).Φ (Fin.last cfg0.N) ⊢ Pipeline.ΦA spec0 c := by
  rw [show (dats m 0 c).Φ (Fin.last cfg0.N) = PhiS m c cfg0.N from rfl]
  unfold Pipeline.ΦA PhiS
  rw [scopedRest0_eq]
  simp only [← owns_whole]
  iintro ⟨⟨%Q9, %VT, %S, %A, %hVT, H9, H10, H11, H12⟩, Hr⟩
  iframe Hr
  ihave H9 := (owns_of_at c _ _) $$ H9
  ihave H10 := (owns_of_at c _ _) $$ H10
  ihave H11 := (owns_of_at c _ _) $$ H11
  ihave H12 := (owns_of_at c _ _) $$ H12
  isplitl [H9]; · iexists _; iexact H9
  isplitl [H10]; · iexists _; iexact H10
  isplitl [H11]; · iexists _; iexact H11
  iexists _; iexact H12

set_option backward.isDefEq.respectTransparency.types false in
/-- Every fair run of the kernel ends with the arrays at what the proof data compute and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := fun _ _ => rfl)
    (hin := phi_in m) (hout := phi_out m)

end Cert.KernelIdeal.Own

end
-- ==== Proof.Va.lean ====
/- The kernel's payloads read at an index, over the reals. -/
module

public import proofs.«01_k».proof.Proof.Body
public import Idealize.ShloMosaic.Lib.Pointwise
public import Idealize.ShloMosaic.Lib.IdealHost

@[expose] public section

set_option maxRecDepth 16384

noncomputable section

namespace Cert.KernelIdeal.Own

open Idealize.ShloMosaic Cert.KernelIdeal Cert.KernelIdeal.Gen

theorem pay8_at (A : Vec Ideal S1024x128 .bf16) (B : Vec Ideal S128x1024 .bf16) (k y : Fin 1024) :
    k0_pay8 (F := Ideal) A B (ix2 k y) = ∑ j : Fin 128, A (ix2 k j) * B (ix2 j y) := by
  pointwise [k0_pay8]

theorem pay9_at (A : Vec Ideal S1024x128 .bf16) (B : Vec Ideal S128x1024 .bf16) (k y : Fin 1024) :
    k0_pay9 (F := Ideal) A B (ix4 0 0 k y) = k0_pay8 (F := Ideal) A B (ix2 k y) := by
  pointwise [k0_pay9]

theorem pay57_at (M : IVec S1024x1024 1) (A : Vec Ideal S1024x128 .bf16) (B : Vec Ideal S128x1024 .bf16) (k y : Fin 1024) :
    k0_pay57 (F := Ideal) M A B (ix2 k y) = if M (ix2 k y) = 1#1 then (∑ j : Fin 128, A (ix2 k j) * B (ix2 j y)) else Ideal.ofBits .f32 0xFF800000#32 := by
  pointwise [k0_pay57]
  rfl

theorem pay58_at (M : IVec S1024x1024 1) (A : Vec Ideal S1024x128 .bf16) (B : Vec Ideal S128x1024 .bf16) (k y : Fin 1024) :
    k0_pay58 (F := Ideal) M A B (ix4 0 0 k y) = k0_pay57 (F := Ideal) M A B (ix2 k y) := by
  pointwise [k0_pay58]

theorem pay30_at (y : Fin 1024) : k0_pay30 (F := Ideal) (ix2 0 y) = Ideal.ofBits .f32 0xFF800000#32 := by
  pointwise [k0_pay30]

theorem pay29_at (Q : Vec Ideal S1024x256 .bf16) (j : Fin 256) (y : Fin 1024) : k0_pay29 (F := Ideal) Q (ix2 j y) = Q (ix2 y j) := by
  pointwise [k0_pay29]

theorem pay2_at (V : Vec Ideal S1024x256 .bf16) (d : Fin 256) (k : Fin 1024) : k0_pay2 (F := Ideal) V (ix3 0 d k) = V (ix2 k d) := by
  pointwise [k0_pay2]

end Cert.KernelIdeal.Own

end
-- ==== Proof.Vd.lean ====
/- The kernel's payloads read at an index, over the reals. -/
module

public import proofs.«01_k».proof.Proof.Va
public import Idealize.ShloMosaic.Lib.Pointwise
public import Idealize.ShloMosaic.Lib.IdealHost

@[expose] public section

set_option maxRecDepth 16384

noncomputable section

namespace Cert.KernelIdeal.Own

open Idealize.ShloMosaic Cert.KernelIdeal Cert.KernelIdeal.Gen

/-- The chunk of a row or column within its tile. -/
def chunkW (w : BitVec 32) : BitVec 32 :=
  Scalar.select
        (IntOp.andi
          (IntOp.cmpi CmpIPredicate.ne
            (IntOp.subi (BitVec.setWidth 32 (IntOp.cmpi CmpIPredicate.sgt w 0#32))
              (BitVec.setWidth 32 (IntOp.cmpi CmpIPredicate.slt w 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector w 64#32) 0#32))
        (IntOp.subi (IntOp.divsi ArithUnit.vector w 64#32) 1#32)
        (IntOp.divsi ArithUnit.vector w 64#32)

theorem chunkW_at : ∀ k : Fin 1024, chunkW (BitVec.ofNat 32 k.val) = BitVec.ofNat 32 (k.val / 64) := by
  decide +kernel

theorem chunkW_le : ∀ a b : Fin 16, IntOp.cmpi .sle (BitVec.ofNat 32 a.val) (BitVec.ofNat 32 b.val) = if a.val ≤ b.val then 1#1 else 0#1 := by
  decide +kernel

theorem msk_at (k y : Fin 1024) : msk (ix2 k y) = if k.val / 64 ≤ y.val / 64 then 1#1 else 0#1 := by
  have e : msk (ix2 k y) = IntOp.cmpi .sle (chunkW (BitVec.ofNat 32 k.val)) (chunkW (BitVec.ofNat 32 y.val)) := by
    pointwise [msk, k0_pay53, k0_pay50, k0_pay51, k0_pay52]
    rfl
  rw [e, chunkW_at, chunkW_at]
  exact chunkW_le ⟨k.val / 64, by omega⟩ ⟨y.val / 64, by omega⟩

theorem kb_at (K : Vec Ideal S4096x256 .bf16) (c : ℕ) (m : Fin 2) (hc : c < 4) (k : Fin 1024) (j : Fin 128) :
    kb K c m (ix2 k j) = K (ix2 ⟨c * 1024 + k.val, by omega⟩ ⟨m.val * 128 + j.val, by omega⟩) := by
  refine congrArg K (funext fun a => Fin.ext ?_)
  fin_cases a
  · show (c % 4) * 1024 + 1 * k.val = c * 1024 + k.val
    omega
  · show m.val * 128 + 1 * j.val = m.val * 128 + j.val
    omega

theorem qb_at (QT : Vec Ideal S256x1024 .bf16) (m : Fin 2) (j : Fin 128) (y : Fin 1024) :
    qb QT m (ix2 j y) = QT (ix2 ⟨m.val * 128 + j.val, by omega⟩ y) := by
  refine congrArg QT (funext fun a => Fin.ext ?_)
  fin_cases a
  · show m.val * 128 + 1 * j.val = m.val * 128 + j.val
    omega
  · show 0 + 1 * y.val = y.val
    omega

theorem acb_at (A : Vec Ideal S2x272x1024 .f32) (m : Fin 2) (d : Fin 272) (y : Fin 1024) : acb A m (ix3 0 d y) = A (ix3 m d y) := by
  refine congrArg A (funext fun a => Fin.ext ?_)
  fin_cases a
  · show m.val + 1 * 0 = m.val
    omega
  · show 0 + 1 * d.val = d.val
    omega
  · show 0 + 1 * y.val = y.val
    omega

theorem hiRows_at (A : Vec Ideal S1x272x1024 .f32) (d : Fin 256) (y : Fin 1024) : hiRows A (ix3 0 d y) = A (ix3 0 ⟨d.val, by omega⟩ y) := by
  refine congrArg A (funext fun a => Fin.ext ?_)
  fin_cases a
  · rfl
  · show 0 + 1 * d.val = d.val
    omega
  · show 0 + 1 * y.val = y.val
    omega

theorem loRow_at (A : Vec Ideal S1x272x1024 .f32) (y : Fin 1024) : loRow A (ix3 0 0 y) = A (ix3 0 256 y) := by
  refine congrArg A (funext fun a => Fin.ext ?_)
  fin_cases a
  · rfl
  · rfl
  · show 0 + 1 * y.val = y.val
    omega

theorem vtb_at (V : Vec Ideal S4096x256 .bf16) (c : ℕ) (hc : c < 4) (d : Fin 272) (k : Fin 1024) :
    vtb (vtAll V) c (ix3 0 d k) = if h : d.val < 256 then V (ix2 ⟨c * 1024 + k.val, by omega⟩ ⟨d.val, h⟩) else 1 := by
  have e : vtb (vtAll V) c (ix3 0 d k) = vtAll V (ix3 ⟨c, hc⟩ d k) := by
    refine congrArg (vtAll V) (funext fun a => Fin.ext ?_)
    fin_cases a
    · show c % 4 + 1 * 0 = c
      omega
    · show 0 + 1 * d.val = d.val
      omega
    · show 0 + 1 * k.val = k.val
      omega
  rw [e]
  by_cases h : d.val < 256
  · rw [dif_pos h]
    refine (dif_pos (show ((ix3 ⟨c, hc⟩ d k : S4x272x1024.Idx) 1).val < 256 from h)).trans ?_
    refine (congrArg _ (ix3_eq_valueIdx (n0 := 1) (n1 := 256) (n2 := 1024) 0 ⟨d.val, h⟩ k).symm).trans ((pay2_at _ ⟨d.val, h⟩ k).trans ?_)
    refine congrArg V (funext fun a => Fin.ext ?_)
    fin_cases a
    · show c * 1024 + 1 * k.val = c * 1024 + k.val
      omega
    · show 0 + 1 * d.val = d.val
      omega
  · rw [dif_neg h]
    exact (dif_neg (show ¬ ((ix3 ⟨c, hc⟩ d k : S4x272x1024.Idx) 1).val < 256 from h)).trans Ideal.ofBits_one_bf16

end Cert.KernelIdeal.Own

end
-- ==== Proof.Reals.lean ====
/- Differential attention over the reals: one query's weights, their totals, and what a shift of the scores leaves. -/
module

public import Idealize.ShloMosaic.Lib.IdealHost
public import Mathlib.Analysis.SpecialFunctions.Pow.Real

@[expose] public section

noncomputable section

namespace Cert.Attn

open Idealize.ShloMosaic Finset

/-- The score of key `k` under map `m`. -/
def sc (qr : ℕ → ℝ) (kr : ℕ → ℕ → ℝ) (m k : ℕ) : ℝ := ∑ j : Fin 128, kr k (m * 128 + j.val) * qr (m * 128 + j.val)

/-- Key `k`'s weight for the query at `p`: two to the score, or nothing where the key is not seen. -/
def wt (qr : ℕ → ℝ) (kr : ℕ → ℕ → ℝ) (p m k : ℕ) : ℝ := if k / 64 ≤ p / 64 then (2 : ℝ) ^ sc qr kr m k else 0

def tot (qr : ℕ → ℝ) (kr : ℕ → ℕ → ℝ) (p m : ℕ) : ℝ := ∑ k ∈ range 4096, wt qr kr p m k

def num (qr : ℕ → ℝ) (kr vr : ℕ → ℕ → ℝ) (p m d : ℕ) : ℝ := ∑ k ∈ range 4096, wt qr kr p m k * vr k d

/-- The two maps' averages of the values, the second taken `l` times from the first. -/
def mix (qr : ℕ → ℝ) (kr vr : ℕ → ℕ → ℝ) (l : ℝ) (p d : ℕ) : ℝ :=
  num qr kr vr p 0 d / tot qr kr p 0 - l * (num qr kr vr p 1 d / tot qr kr p 1)

/-- The result from the mixed values: over the root of their mean square, by the gain and the constant. -/
def fin (D : ℕ → ℝ) (g : EReal) (d : ℕ) : EReal :=
  (D d : EReal) * Ideal.rsqrt (Ideal.div (∑ e : Fin 256, (D e.val : EReal) * (D e.val : EReal)) (Ideal.ofBits .f32 0x43800000#32) + Ideal.ofBits .f32 0x3727C5AC#32)
    * g * Ideal.ofBits .f32 0x3F4CCCCD#32

theorem wt_nonneg (qr : ℕ → ℝ) (kr : ℕ → ℕ → ℝ) (p m k : ℕ) : 0 ≤ wt qr kr p m k := by
  unfold wt
  split
  · positivity
  · exact le_rfl

theorem tot_pos (qr : ℕ → ℝ) (kr : ℕ → ℕ → ℝ) (p m : ℕ) (hp : p < 4096) : 0 < tot qr kr p m := by
  refine Finset.sum_pos' (fun k _ => wt_nonneg qr kr p m k) ⟨p, mem_range.2 hp, ?_⟩
  unfold wt
  rw [if_pos le_rfl]
  positivity

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A maximum of values none of which is infinite above, one of which is a number, is a number. -/
theorem fold_real {ι : Type} (s : Finset ι) (f : ι → EReal) (h : ∀ i ∈ s, f i ≠ ⊤) (h' : ∃ i ∈ s, f i ≠ ⊥) : ∃ r : ℝ, s.fold max ⊥ f = (r : EReal) := by
  have ht : s.fold max ⊥ f < ⊤ := (Finset.fold_max_lt _).2 ⟨bot_lt_top, fun i hi => (h i hi).lt_top⟩
  have hb : ⊥ < s.fold max ⊥ f := by
    obtain ⟨i, hi, hn⟩ := h'
    exact (Finset.lt_fold_max _).2 (.inr ⟨i, hi, bot_lt_iff_ne_bot.2 hn⟩)
  exact ⟨_, (EReal.coe_toReal ht.ne hb.ne').symm⟩

theorem fold_lt_top {ι : Type} (s : Finset ι) (f : ι → EReal) (h : ∀ i ∈ s, f i ≠ ⊤) : s.fold max ⊥ f ≠ ⊤ :=
  ((Finset.fold_max_lt _).2 ⟨bot_lt_top, fun i hi => (h i hi).lt_top⟩).ne

/-- Beyond the query's own tile no key has weight. -/
theorem sum_tile (qr : ℕ → ℝ) (kr : ℕ → ℕ → ℝ) (p m n : ℕ) (hn : n < 4) (hp : p < (n + 1) * 1024) (f : ℕ → ℝ) :
    ∑ k ∈ range ((n + 1) * 1024), wt qr kr p m k * f k = ∑ k ∈ range 4096, wt qr kr p m k * f k := by
  refine Finset.sum_subset (range_subset_range.2 (by omega)) fun k hk hk' => ?_
  rw [mem_range] at hk hk'
  unfold wt
  rw [if_neg (by omega), zero_mul]

/-- The weights with the scores shifted by `M`. -/
def sh (qr : ℕ → ℝ) (kr : ℕ → ℕ → ℝ) (p m : ℕ) (M : ℝ) (k : ℕ) : ℝ := if k / 64 ≤ p / 64 then (2 : ℝ) ^ (sc qr kr m k - M) else 0

theorem sh_eq (qr : ℕ → ℝ) (kr : ℕ → ℕ → ℝ) (p m : ℕ) (M : ℝ) (k : ℕ) : sh qr kr p m M k = (2 : ℝ) ^ (-M) * wt qr kr p m k := by
  unfold sh wt
  split
  · rw [sub_eq_neg_add, Real.rpow_add (by norm_num)]
  · rw [mul_zero]

theorem exp2_shift (s M : ℝ) : Ideal.exp2 ((s : EReal) - (M : EReal)) = (((2 : ℝ) ^ (s - M) : ℝ) : EReal) := by
  rw [← EReal.coe_sub]; rfl

theorem exp2_bot (M : ℝ) : Ideal.exp2 ((⊥ : EReal) - (M : EReal)) = ((0 : ℝ) : EReal) := by
  rw [EReal.bot_sub]; rfl

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]

theorem bits_bot : Ideal.ofBits .f32 0xFF800000#32 = ⊥ := by
  simp [Ideal.ofBits, Ideal.ieee]

theorem exp_shift (s M : ℝ) : Ideal.exp ((s : EReal) * ((Real.log 2 : ℝ) : EReal) - (M : EReal)) = ((Real.exp (-M) * (2 : ℝ) ^ s : ℝ) : EReal) := by
  rw [← EReal.coe_mul, ← EReal.coe_sub, Ideal.exp_coe, sub_eq_neg_add, Real.exp_add, Real.rpow_def_of_pos (by norm_num), mul_comm s]

theorem exp_bot (M : ℝ) : Ideal.exp ((⊥ : EReal) - (M : EReal)) = ((0 : ℝ) : EReal) := by
  rw [EReal.bot_sub]; rfl

/-- A quotient of numbers. -/
theorem div_real (a b : ℝ) (h : b ≠ 0) : Ideal.div (a : EReal) (b : EReal) = ((a / b : ℝ) : EReal) := by
  rw [Ideal.div_coe h, ← EReal.coe_mul, mul_one_div]

end Cert.Attn

end
-- ==== Proof.Vm.lean ====
/- The kernel's maxima are numbers. -/
module

public import proofs.«01_k».proof.Proof.Va
public import proofs.«01_k».proof.Proof.Vd
public import proofs.«01_k».proof.Proof.Reals

@[expose] public section

set_option maxRecDepth 16384

noncomputable section

namespace Cert.KernelIdeal.Own

open Idealize.ShloMosaic Cert.KernelIdeal Cert.KernelIdeal.Gen Cert.Attn

theorem rowMax_at (X : FVec Ideal S1x1024 .f32) (R : FVec Ideal S1024 .f32) (y : Fin 1024) :
    maximumf X (shapeCast S1x1024 R shapeCasts_S1024_S1x1024) (ix2 0 y) = max (X (ix2 0 y)) (R (ix1 y)) := by
  pointwise

/-- A maximum over one axis as the maximum over what drops to the index. -/
theorem red_eq {s t : Shape} {axes : List (Fin s.rank)} (x : FVec Ideal s .f32) (h : s.Reduces axes t) (hφ : FKind.Formats .f32) (hacc) (j : t.Idx) :
    multiReduction (F := Ideal) .maximumf axes t x 0xFF800000#32 h hφ hacc j = (Finset.univ.filter fun i => h.drop i = j).fold max (⊥ : EReal) x := by
  rw [← bits_bot]
  exact multiReduction_maximumf_eq_fold x _ h hφ hacc j

theorem drop_at (k y : Fin 1024) : (reduces_S1024x1024_S1024).drop (ix2 k y) = ix1 y := by
  funext a
  refine Fin.ext ?_
  fin_cases a
  rfl

theorem pay10_eq (X : FVec Ideal S1x1024 .f32) (A : Vec Ideal S1024x128 .bf16) (B : Vec Ideal S128x1024 .bf16) (y : Fin 1024) :
    k0_pay10 (F := Ideal) X A B (ix2 0 y) = max (X (ix2 0 y)) ((Finset.univ.filter fun i => (reduces_S1024x1024_S1024).drop i = ix1 y).fold max (⊥ : EReal) (k0_pay8 (F := Ideal) A B)) :=
  (rowMax_at X _ y).trans (congrArg (max _) (red_eq (k0_pay8 (F := Ideal) A B) reduces_S1024x1024_S1024 (.inl rfl) rfl (ix1 y)))

theorem pay59_eq (X : FVec Ideal S1x1024 .f32) (M : IVec S1024x1024 1) (A : Vec Ideal S1024x128 .bf16) (B : Vec Ideal S128x1024 .bf16) (y : Fin 1024) :
    k0_pay59 (F := Ideal) X M A B (ix2 0 y) = max (X (ix2 0 y)) ((Finset.univ.filter fun i => (reduces_S1024x1024_S1024).drop i = ix1 y).fold max (⊥ : EReal) (k0_pay57 (F := Ideal) M A B)) :=
  (rowMax_at X _ y).trans (congrArg (max _) (red_eq (k0_pay57 (F := Ideal) M A B) reduces_S1024x1024_S1024 (.inl rfl) rfl (ix1 y)))

variable (QB : Vec Ideal S1024x256 .bf16) (K : Vec Ideal S4096x256 .bf16) (qr kr : ℕ → ℕ → ℝ)
  (hQ : ∀ (y : Fin 1024) (j : Fin 256), QB (ix2 y j) = (qr y.val j.val : EReal)) (hK : ∀ (k : Fin 4096) (j : Fin 256), K (ix2 k j) = (kr k.val j.val : EReal))

include hQ hK

theorem score_real (c : ℕ) (hc : c < 4) (m : Fin 2) (k y : Fin 1024) :
    (∑ j : Fin 128, kb K c m (ix2 k j) * qb (k0_pay29 (F := Ideal) QB) m (ix2 j y)) = ((sc (qr y.val) kr m.val (c * 1024 + k.val) : ℝ) : EReal) := by
  rw [sc, coe_sum]
  refine Finset.sum_congr rfl fun j _ => ?_
  rw [kb_at K c m hc, qb_at, pay29_at, hK, hQ, ← EReal.coe_mul]

theorem pay8_real (c : ℕ) (hc : c < 4) (m : Fin 2) (k y : Fin 1024) :
    k0_pay8 (F := Ideal) (kb K c m) (qb (k0_pay29 (F := Ideal) QB) m) (ix2 k y) = ((sc (qr y.val) kr m.val (c * 1024 + k.val) : ℝ) : EReal) := by
  rw [pay8_at, score_real QB K qr kr hQ hK c hc]

theorem pay57_real (c : ℕ) (hc : c < 4) (m : Fin 2) (k y : Fin 1024) :
    k0_pay57 (F := Ideal) msk (kb K c m) (qb (k0_pay29 (F := Ideal) QB) m) (ix2 k y)
      = if k.val / 64 ≤ y.val / 64 then ((sc (qr y.val) kr m.val (c * 1024 + k.val) : ℝ) : EReal) else ⊥ := by
  rw [pay57_at, score_real QB K qr kr hQ hK c hc, msk_at, bits_bot]
  by_cases h : k.val / 64 ≤ y.val / 64
  · rw [if_pos h, if_pos h, if_pos rfl]
  · rw [if_neg h, if_neg h, if_neg (by decide)]

theorem mx_ne_top (m : Fin 2) (y : Fin 1024) : ∀ n ≤ 4, mx K (k0_pay29 (F := Ideal) QB) m n (ix2 0 y) ≠ ⊤
  | 0, _ => by
    show k0_pay30 (F := Ideal) (ix2 0 y) ≠ ⊤
    rw [pay30_at, bits_bot]
    exact bot_ne_top
  | n + 1, hn => by
    show k0_pay10 (F := Ideal) _ _ _ (ix2 0 y) ≠ ⊤
    rw [pay10_eq]
    refine (max_lt (mx_ne_top m y n (by omega)).lt_top (fold_lt_top _ _ fun i _ => ?_).lt_top).ne
    rw [eq_ix2 i]
    exact ne_of_eq_of_ne (pay8_real QB K qr kr hQ hK n (by omega) m (i 0) (i 1)) (EReal.coe_ne_top _)

theorem mxd_real (n : ℕ) (hn : n < 4) (m : Fin 2) (y : Fin 1024) : ∃ M : ℝ, mxd K (k0_pay29 (F := Ideal) QB) n m (ix2 0 y) = (M : EReal) := by
  have p := pay57_real QB K qr kr hQ hK n hn m
  have e : mxd K (k0_pay29 (F := Ideal) QB) n m (ix2 0 y) = max (mx K (k0_pay29 (F := Ideal) QB) m n (ix2 0 y)) _ := pay59_eq _ _ _ _ y
  obtain ⟨r, hr⟩ := fold_real (Finset.univ.filter fun i => (reduces_S1024x1024_S1024).drop i = ix1 y) (k0_pay57 (F := Ideal) msk (kb K n m) (qb (k0_pay29 (F := Ideal) QB) m))
    (fun i _ => by
      rw [eq_ix2 i]
      refine ne_of_eq_of_ne (p (i 0) (i 1)) ?_
      split
      · exact EReal.coe_ne_top _
      · exact bot_ne_top)
    ⟨ix2 y y, Finset.mem_filter.2 ⟨Finset.mem_univ _, drop_at y y⟩, ne_of_eq_of_ne (p y y) (by rw [if_pos le_rfl]; exact EReal.coe_ne_bot _)⟩
  rw [hr] at e
  have ht := mx_ne_top QB K qr kr hQ hK m y n (by omega)
  rw [e]
  rcases eq_or_ne (mx K (k0_pay29 (F := Ideal) QB) m n (ix2 0 y)) ⊥ with hb | hb
  · exact ⟨r, by rw [hb]; exact max_eq_right bot_le⟩
  · refine ⟨max (mx K (k0_pay29 (F := Ideal) QB) m n (ix2 0 y)).toReal r, ?_⟩
    rw [← EReal.coe_toReal ht hb, EReal.toReal_coe]
    exact (EReal.coe_strictMono.monotone.map_max).symm

end Cert.KernelIdeal.Own

end
-- ==== Proof.Vb.lean ====
/- The kernel's payloads read at an index, over the reals. -/
module

public import proofs.«01_k».proof.Proof.Body
public import Idealize.ShloMosaic.Lib.Pointwise
public import Idealize.ShloMosaic.Lib.IdealHost

@[expose] public section

set_option maxRecDepth 16384

noncomputable section

namespace Cert.KernelIdeal.Own

open Idealize.ShloMosaic Cert.KernelIdeal Cert.KernelIdeal.Gen

theorem pay63_at (X : FVec Ideal S1x1024 .f32) (V : Vec Ideal S1x272x1024 .bf16) (S : Vec Ideal S1x1x1024x1024 .f32) (A : Vec Ideal S1x272x1024 .f32) (d : Fin 272) (y : Fin 1024) :
    k0_pay63 (F := Ideal) X V S A (ix3 0 d y) = A (ix3 0 d y) + ∑ k : Fin 1024, V (ix3 0 d k) * Ideal.exp2 (S (ix4 0 0 k y) - X (ix2 0 y)) := by
  pointwise [k0_pay63, k0_pay62]
  rfl

theorem pay60_at (a : Fin 2) (d : Fin 272) (y : Fin 1024) : k0_pay60 (F := Ideal) (ix3 a d y) = 0 := by
  pointwise [k0_pay60]

theorem pay72_at (A : Vec Ideal S1x256x1024 .f32) (B : Vec Ideal S1x1x1024 .f32) (d : Fin 256) (y : Fin 1024) :
    k0_pay72 (F := Ideal) A B (ix2 d y) = A (ix3 0 d y) * Ideal.div 1 (B (ix3 0 0 y)) := by
  pointwise [k0_pay72]

theorem pay73_at (A : Vec Ideal S1x256x1024 .f32) (B : Vec Ideal S1x1x1024 .f32) (d : Fin 256) (y : Fin 1024) :
    k0_pay73 (F := Ideal) A B (ix2 d y) = A (ix3 0 d y) * Ideal.div 1 (B (ix3 0 0 y)) := by
  pointwise [k0_pay73]

end Cert.KernelIdeal.Own

end
-- ==== Proof.Vc.lean ====
/- The kernel's payloads read at an index, over the reals. -/
module

public import proofs.«01_k».proof.Proof.Body
public import Idealize.ShloMosaic.Lib.Pointwise
public import Idealize.ShloMosaic.Lib.IdealHost

@[expose] public section

set_option maxRecDepth 16384

noncomputable section

namespace Cert.KernelIdeal.Own

open Idealize.ShloMosaic Cert.KernelIdeal Cert.KernelIdeal.Gen

theorem pay1_at (A B : FVec Ideal S256x1024 .f32) (l : Elt Ideal .f32) (G : Vec Ideal S1x256 .f32) (y : Fin 1024) (d : Fin 256) :
    k0_pay1 (F := Ideal) A B l G (ix2 y d)
      = (A (ix2 d y) - l * B (ix2 d y))
          * Ideal.rsqrt (Ideal.div (∑ e : Fin 256, (A (ix2 e y) - l * B (ix2 e y)) * (A (ix2 e y) - l * B (ix2 e y))) (Ideal.ofBits .f32 0x43800000#32) + Ideal.ofBits .f32 0x3727C5AC#32)
          * (G (ix2 0 d) * Ideal.ofBits .f32 0x3F4CCCCD#32) := by
  pointwise [k0_pay1]

end Cert.KernelIdeal.Own

end
-- ==== Proof.KVal.lean ====
/- What the kernel's body computes for one tile of queries, over the reals. -/
module

public import proofs.«01_k».proof.Proof.Vm
public import proofs.«01_k».proof.Proof.Vb
public import proofs.«01_k».proof.Proof.Vc

@[expose] public section

set_option maxRecDepth 16384

noncomputable section

namespace Cert.KernelIdeal.Own

open Idealize.ShloMosaic Cert.KernelIdeal Cert.KernelIdeal.Gen Cert.Attn Finset

/-- The values with a one below them. -/
def vx (vr : ℕ → ℕ → ℝ) (d k : ℕ) : ℝ := if d < 256 then vr k d else 1

variable (QB : Vec Ideal S1024x256 .bf16) (K V : Vec Ideal S4096x256 .bf16) (qr kr vr : ℕ → ℕ → ℝ)
  (hQ : ∀ (y : Fin 1024) (j : Fin 256), QB (ix2 y j) = (qr y.val j.val : EReal)) (hK : ∀ (k : Fin 4096) (j : Fin 256), K (ix2 k j) = (kr k.val j.val : EReal))
  (hV : ∀ (k : Fin 4096) (d : Fin 256), V (ix2 k d) = (vr k.val d.val : EReal))

include hQ hK

theorem slab_real (n c : ℕ) (hn : n < 4) (hc : c ≤ n) (m : Fin 2) (k y : Fin 1024) :
    slab K (k0_pay29 (F := Ideal) QB) n c m (ix4 0 0 k y)
      = if (c * 1024 + k.val) / 64 ≤ (n * 1024 + y.val) / 64 then ((sc (qr y.val) kr m.val (c * 1024 + k.val) : ℝ) : EReal) else ⊥ := by
  unfold slab
  by_cases h : c < n
  · rw [if_pos h, pay9_at, pay8_real QB K qr kr hQ hK c (by omega), if_pos (by omega)]
  · obtain rfl : c = n := by omega
    rw [if_neg h, pay58_at, pay57_real QB K qr kr hQ hK c hn]
    exact if_congr (by omega) rfl rfl

theorem weight_real (n c : ℕ) (hn : n < 4) (hc : c ≤ n) (m : Fin 2) (k y : Fin 1024) (M : ℝ) :
    Ideal.exp2 (slab K (k0_pay29 (F := Ideal) QB) n c m (ix4 0 0 k y) - (M : EReal))
      = ((sh (qr y.val) kr (n * 1024 + y.val) m.val M (c * 1024 + k.val) : ℝ) : EReal) := by
  rw [slab_real QB K qr kr hQ hK n c hn hc]
  unfold sh
  split
  · exact exp2_shift _ _
  · exact exp2_bot _

include hV

theorem acc_real (n : ℕ) (hn : n < 4) (m : Fin 2) (y : Fin 1024) (M : ℝ) (hM : mxd K (k0_pay29 (F := Ideal) QB) n m (ix2 0 y) = (M : EReal)) (d : Fin 272) :
    ∀ c ≤ n + 1, acc K (k0_pay29 (F := Ideal) QB) (vtAll V) n m c (ix3 0 d y)
      = ((∑ k ∈ range (c * 1024), vx vr d.val k * sh (qr y.val) kr (n * 1024 + y.val) m.val M k : ℝ) : EReal)
  | 0, _ => by
    show acb k0_pay60 m (ix3 0 d y) = _
    rw [acb_at, pay60_at, Nat.zero_mul, Finset.range_zero, Finset.sum_empty, EReal.coe_zero]
  | c + 1, hc => by
    show k0_pay63 (F := Ideal) _ _ _ _ (ix3 0 d y) = _
    rw [pay63_at, hM, acc_real n hn m y M hM d c (by omega), Nat.succ_mul, Finset.sum_range_add, EReal.coe_add, ← Fin.sum_univ_eq_sum_range (fun k => vx vr d.val (c * 1024 + k) * sh (qr y.val) kr (n * 1024 + y.val) m.val M (c * 1024 + k)) 1024, coe_sum, coe_sum]
    refine congrArg _ (Finset.sum_congr rfl fun k _ => ?_)
    rw [weight_real QB K qr kr hQ hK n c hn (by omega), vtb_at V c (by omega), EReal.coe_mul]
    refine congrArg (· * _) ?_
    unfold vx
    split
    · exact hV _ _
    · exact EReal.coe_one.symm

theorem quot_real (n : ℕ) (hn : n < 4) (m : Fin 2) (y : Fin 1024) (d : Fin 256) :
    acc K (k0_pay29 (F := Ideal) QB) (vtAll V) n m (n + 1) (ix3 0 ⟨d.val, by omega⟩ y) * Ideal.div 1 (acc K (k0_pay29 (F := Ideal) QB) (vtAll V) n m (n + 1) (ix3 0 256 y))
      = ((num (qr y.val) kr vr (n * 1024 + y.val) m.val d.val / tot (qr y.val) kr (n * 1024 + y.val) m.val : ℝ) : EReal) := by
  obtain ⟨M, hM⟩ := mxd_real QB K qr kr hQ hK n hn m y
  have hc : (0 : ℝ) < (2 : ℝ) ^ (-M) := by positivity
  have ht := tot_pos (qr y.val) kr (n * 1024 + y.val) m.val (by omega)
  have e1 : ∑ k ∈ range ((n + 1) * 1024), vx vr d.val k * sh (qr y.val) kr (n * 1024 + y.val) m.val M k
      = (2 : ℝ) ^ (-M) * num (qr y.val) kr vr (n * 1024 + y.val) m.val d.val := by
    rw [num, ← sum_tile (qr y.val) kr (n * 1024 + y.val) m.val n hn (by omega) (fun k => vr k d.val), Finset.mul_sum]
    refine Finset.sum_congr rfl fun k _ => ?_
    rw [sh_eq, vx, if_pos d.isLt]
    ring
  have e2 : ∑ k ∈ range ((n + 1) * 1024), vx vr 256 k * sh (qr y.val) kr (n * 1024 + y.val) m.val M k
      = (2 : ℝ) ^ (-M) * tot (qr y.val) kr (n * 1024 + y.val) m.val := by
    have := sum_tile (qr y.val) kr (n * 1024 + y.val) m.val n hn (by omega) (fun _ => 1)
    simp only [mul_one] at this
    rw [tot, ← this, Finset.mul_sum]
    refine Finset.sum_congr rfl fun k _ => ?_
    rw [sh_eq, vx, if_neg (by omega)]
    ring
  rw [acc_real QB K V qr kr vr hQ hK hV n hn m y M hM _ (n + 1) le_rfl, acc_real QB K V qr kr vr hQ hK hV n hn m y M hM 256 (n + 1) le_rfl, e1]
  have e3 : ((256 : Fin 272) : ℕ) = 256 := rfl
  rw [e3, e2, ← EReal.coe_one, div_real _ _ (by positivity), ← EReal.coe_mul]
  refine congrArg _ ?_
  field_simp

/-- One entry of the tile the body leaves. -/
theorem outB_real (n : ℕ) (hn : n < 4) (LAM : Vec Ideal S1 .f32) (l : ℝ) (hL : LAM lamIx = (l : EReal)) (G : Vec Ideal S1x256 .f32) (y : Fin 1024) (d : Fin 256) :
    outB (F := Ideal) n LAM QB K V G (ix2 y d) = fin (mix (qr y.val) kr vr l (n * 1024 + y.val)) (G (ix2 0 d)) d.val := by
  have hD : ∀ e : Fin 256, k0_pay72 (F := Ideal) (hiRows (acc K (k0_pay29 QB) (vtAll V) n 0 (n + 1))) (loRow (acc K (k0_pay29 QB) (vtAll V) n 0 (n + 1))) (ix2 e y)
      - LAM lamIx * k0_pay73 (F := Ideal) (hiRows (acc K (k0_pay29 QB) (vtAll V) n 1 (n + 1))) (loRow (acc K (k0_pay29 QB) (vtAll V) n 1 (n + 1))) (ix2 e y)
      = ((mix (qr y.val) kr vr l (n * 1024 + y.val) e.val : ℝ) : EReal) := fun e => by
    rw [pay72_at, pay73_at, hiRows_at, hiRows_at, loRow_at, loRow_at, quot_real QB K V qr kr vr hQ hK hV n hn 0 y e, quot_real QB K V qr kr vr hQ hK hV n hn 1 y e, hL, ← EReal.coe_mul, ← EReal.coe_sub]
    rfl
  unfold outB
  rw [pay1_at]
  simp only [hD]
  rw [fin, mul_assoc (_ * _)]

end Cert.KernelIdeal.Own

end
-- ==== Proof.Ref.lean ====
/- The reference's result, stage by stage, read at an index. -/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Own

open Idealize.ShloMosaic Cert.ReferenceIdeal Cert.ReferenceIdeal.Gen Cert.ReferenceIdeal.Value

/-- Each position's chunk. -/
def chunks : IVec S4096 32 :=
  select (andi (cmpi .ne (signi (iotaInDim S4096 32 0)) (broadcastInDim S4096 ![] bcast_S_S4096 (signi (constantI S_ 32 64#32)))) (cmpi .ne (Host.remsi (iotaInDim S4096 32 0) (broadcastInDim S4096 ![] bcast_S_S4096 (constantI S_ 32 64#32))) (broadcastInDim S4096 ![] bcast_S_S4096 (constantI S_ 32 0#32)))) (subi (Host.divsi (iotaInDim S4096 32 0) (broadcastInDim S4096 ![] bcast_S_S4096 (constantI S_ 32 64#32))) (broadcastInDim S4096 ![] bcast_S_S4096 (constantI S_ 32 1#32))) (Host.divsi (iotaInDim S4096 32 0) (broadcastInDim S4096 ![] bcast_S_S4096 (constantI S_ 32 64#32)))

/-- Which keys a query sees. -/
def sees : IVec S4096x4096 1 :=
  cmpi .sle (broadcastInDim S4096x4096 ![0, 1] bcast_S1x4096_S4096x4096_0_1 (broadcastInDim S1x4096 ![1] bcast_S4096_S1x4096_1 chunks))
    (broadcastInDim S4096x4096 ![0, 1] bcast_S4096x1_S4096x4096_0_1 (broadcastInDim S4096x1 ![0] bcast_S4096_S4096x1_0 chunks))

/-- The queries, by batch, head, map and position. -/
def qs (X : FVec Ideal S16384x28672 .bf16) : FVec Ideal S4x16x2x4096x128 .f32 :=
  transpose S4x16x2x4096x128 [0, 2, 3, 1, 4] (shapeCast _ (extractStridedSlice S16384x4096 ![0, 0] (extf .f32 X bitsLt_bf16_f32) slices_S16384x28672_S16384x4096_0_0) shapeCasts_S16384x4096_S4x4096x16x2x128) transposes_S4x4096x16x2x128_S4x16x2x4096x128_0_2_3_1_4

/-- The keys, by batch, head, map and position. -/
def ks (X : FVec Ideal S16384x28672 .bf16) : FVec Ideal S4x16x2x4096x128 .f32 :=
  transpose S4x16x2x4096x128 [0, 2, 3, 1, 4] (shapeCast _ (extractStridedSlice S16384x4096 ![0, 4096] (extf .f32 X bitsLt_bf16_f32) slices_S16384x28672_S16384x4096_0_4096) shapeCasts_S16384x4096_S4x4096x16x2x128) transposes_S4x4096x16x2x128_S4x16x2x4096x128_0_2_3_1_4

/-- The scores before the mask. -/
def dots (Q K : FVec Ideal S4x16x2x4096x128 .f32) : FVec Ideal S4x16x2x4096x4096 .f32 :=
  mulf (Host.dotGeneral dot_S4x16x2x4096x128_S4x16x2x4096x128_S4x16x2x4096x4096_4_4_3_3_012_012 none Q K) (broadcastInDim S4x16x2x4096x4096 ![] bcast_S_S4x16x2x4096x4096 (Host.log (constant S_ .f32 0x40000000#32)))

/-- The scores, the unseen keys at minus infinity. -/
def scores (D : FVec Ideal S4x16x2x4096x4096 .f32) : FVec Ideal S4x16x2x4096x4096 .f32 :=
  select (broadcastInDim S4x16x2x4096x4096 ![3, 4] bcast_S4096x4096_S4x16x2x4096x4096_3_4 sees) D
    (broadcastInDim S4x16x2x4096x4096 ![] bcast_S_S4x16x2x4096x4096 (constant S_ .f32 0xFF800000#32))

/-- Each query's greatest score. -/
def tops (S : FVec Ideal S4x16x2x4096x4096 .f32) : FVec Ideal S4x16x2x4096 .f32 :=
  maximumf (broadcastInDim S4x16x2x4096 ![] bcast_S_S4x16x2x4096 (constant S_ .f32 0xFF800000#32)) (Host.reduce FloatOps.maximumf S (constant S_ .f32 0xFF800000#32) reducesTo_S4x16x2x4096x4096_S4x16x2x4096_d4 h_S_)

/-- The exponentials of the scores less the greatest. -/
def exps (S : FVec Ideal S4x16x2x4096x4096 .f32) (T : FVec Ideal S4x16x2x4096 .f32) : FVec Ideal S4x16x2x4096x4096 .f32 :=
  Host.exp (subf S (broadcastInDim S4x16x2x4096x4096 ![0, 1, 2, 3, 4] bcast_S4x16x2x4096x1_S4x16x2x4096x4096_0_1_2_3_4 (broadcastInDim S4x16x2x4096x1 ![0, 1, 2, 3] bcast_S4x16x2x4096_S4x16x2x4096x1_0_1_2_3 T)))

/-- The weights: the exponentials over their sum. -/
def wts (E : FVec Ideal S4x16x2x4096x4096 .f32) : FVec Ideal S4x16x2x4096x4096 .f32 :=
  Host.divf E (broadcastInDim S4x16x2x4096x4096 ![0, 1, 2, 3, 4] bcast_S4x16x2x4096x1_S4x16x2x4096x4096_0_1_2_3_4 (broadcastInDim S4x16x2x4096x1 ![0, 1, 2, 3] bcast_S4x16x2x4096_S4x16x2x4096x1_0_1_2_3 (Host.reduceAdd E (constant S_ .f32 0x00000000#32) reducesTo_S4x16x2x4096x4096_S4x16x2x4096_d4 h_S_)))

/-- The difference of the two maps' weights, applied to the values. -/
def mixed (X : FVec Ideal S16384x28672 .bf16) (L : FVec Ideal S1 .f32) (W : FVec Ideal S4x16x2x4096x4096 .f32) : FVec Ideal S4x16x4096x256 .f32 :=
  Host.dotGeneral dot_S4x16x4096x4096_S4x16x4096x256_S4x16x4096x256_3_2_2_3_01_01 none
    (subf (shapeCast _ (extractStridedSlice S4x16x1x4096x4096 ![0, 0, 0, 0, 0] W slices_S4x16x2x4096x4096_S4x16x1x4096x4096_0_0_0_0_0) shapeCasts_S4x16x1x4096x4096_S4x16x4096x4096)
      (mulf (broadcastInDim S4x16x4096x4096 ![] bcast_S_S4x16x4096x4096 (shapeCast _ L shapeCasts_S1_S_)) (shapeCast _ (extractStridedSlice S4x16x1x4096x4096 ![0, 0, 1, 0, 0] W slices_S4x16x2x4096x4096_S4x16x1x4096x4096_0_0_1_0_0) shapeCasts_S4x16x1x4096x4096_S4x16x4096x4096)))
    (transpose S4x16x4096x256 [0, 2, 1, 3] (shapeCast _ (extractStridedSlice S16384x4096 ![0, 8192] (extf .f32 X bitsLt_bf16_f32) slices_S16384x28672_S16384x4096_0_8192) shapeCasts_S16384x4096_S4x4096x16x256) transposes_S4x4096x16x256_S4x16x4096x256_0_2_1_3)

/-- The result from the mixed values. -/
def normed (G : FVec Ideal S256 .f32) (O : FVec Ideal S4x16x4096x256 .f32) : FVec Ideal S16384x4096 .bf16 :=
  truncf .bf16 (shapeCast _ (transpose S4x4096x16x256 [0, 2, 1, 3] (mulf (mulf (mulf O (broadcastInDim S4x16x4096x256 ![0, 1, 2, 3] bcast_S4x16x4096x1_S4x16x4096x256_0_1_2_3 (Host.rsqrt (addf (Host.divf (broadcastInDim S4x16x4096x1 ![0, 1, 2] bcast_S4x16x4096_S4x16x4096x1_0_1_2 (Host.reduceAdd (mulf O O) (constant S_ .f32 0x00000000#32) reducesTo_S4x16x4096x256_S4x16x4096_d3 h_S_)) (broadcastInDim S4x16x4096x1 ![] bcast_S_S4x16x4096x1 (constant S_ .f32 0x43800000#32))) (broadcastInDim S4x16x4096x1 ![] bcast_S_S4x16x4096x1 (constant S_ .f32 0x3727C5AC#32)))))) (broadcastInDim S4x16x4096x256 ![0, 1, 2, 3] bcast_S1x1x1x256_S4x16x4096x256_0_1_2_3 (broadcastInDim S1x1x1x256 ![3] bcast_S256_S1x1x1x256_3 G))) (broadcastInDim S4x16x4096x256 ![] bcast_S_S4x16x4096x256 (constant S_ .f32 0x3F4CCCCD#32))) transposes_S4x16x4096x256_S4x4096x16x256_0_2_1_3) shapeCasts_S4x4096x16x256_S16384x4096) bitsLt_bf16_f32

/-- The whole result. -/
def result (X : FVec Ideal S16384x28672 .bf16) (L : FVec Ideal S1 .f32) (G : FVec Ideal S256 .f32) : FVec Ideal S16384x4096 .bf16 :=
  normed G (mixed X L (wts (exps (scores (dots (qs X) (ks X))) (tops (scores (dots (qs X) (ks X)))))))

theorem res_eq (m : (ℓ : Loc nD τ sig) → Buf (Elt Ideal) ℓ) (c : Dev nD) :
    res_main_v61 m c = result (m ((c.tc : Thread nD τ).loc main_arg0)) (m ((c.tc : Thread nD τ).loc main_arg1)) (m ((c.tc : Thread nD τ).loc main_arg2)) := rfl

end Cert.ReferenceIdeal.Own

end
-- ==== Proof.RefA.lean ====
/- The reference's stages read at an index. -/
module

public import proofs.«01_k».proof.Proof.Ref
public import Idealize.ShloMosaic.Lib.Pointwise
public import Idealize.ShloMosaic.Lib.IdealHost

@[expose] public section

set_option maxRecDepth 16384

noncomputable section

namespace Cert.ReferenceIdeal.Own

open Idealize.ShloMosaic Cert.ReferenceIdeal Cert.ReferenceIdeal.Gen Cert.ReferenceIdeal.Value

theorem normed_at (G : FVec Ideal S256 .f32) (O : FVec Ideal S4x16x4096x256 .f32) (r : Fin 16384) (d : Fin 4096) :
    normed G O (ix2 r d)
      = O (ix4 ⟨r.val / 4096, by omega⟩ ⟨d.val / 256, by omega⟩ ⟨r.val % 4096, by omega⟩ ⟨d.val % 256, by omega⟩)
          * Ideal.rsqrt (Ideal.div (∑ x : Fin 256,
              O (ix4 ⟨r.val / 4096, by omega⟩ ⟨d.val / 256, by omega⟩ ⟨r.val % 4096, by omega⟩ x)
                * O (ix4 ⟨r.val / 4096, by omega⟩ ⟨d.val / 256, by omega⟩ ⟨r.val % 4096, by omega⟩ x))
              (Ideal.ofBits .f32 0x43800000#32) + Ideal.ofBits .f32 0x3727C5AC#32)
          * G (ix1 ⟨d.val % 256, by omega⟩) * Ideal.ofBits .f32 0x3F4CCCCD#32 := by
  pointwise [normed]

theorem wts_at (E : FVec Ideal S4x16x2x4096x4096 .f32) (b : Fin 4) (h : Fin 16) (m : Fin 2) (q k : Fin 4096) :
    wts E (ix5 b h m q k) = Ideal.div (E (ix5 b h m q k)) (∑ x : Fin 4096, E (ix5 b h m q x)) := by
  pointwise [wts]

theorem exps_at (S : FVec Ideal S4x16x2x4096x4096 .f32) (T : FVec Ideal S4x16x2x4096 .f32) (b : Fin 4) (h : Fin 16) (m : Fin 2) (q k : Fin 4096) :
    exps S T (ix5 b h m q k) = Ideal.exp (S (ix5 b h m q k) - T (ix4 b h m q)) := by
  pointwise [exps]

theorem mixed_at (X : FVec Ideal S16384x28672 .bf16) (L : FVec Ideal S1 .f32) (W : FVec Ideal S4x16x2x4096x4096 .f32) (b : Fin 4) (h : Fin 16) (q : Fin 4096) (d : Fin 256) :
    mixed X L W (ix4 b h q d) = ∑ x : Fin 4096, (W (ix5 b h 0 q x) - L (ix1 0) * W (ix5 b h 1 q x))
      * X (ix2 ⟨b.val * 4096 + x.val, by omega⟩ ⟨8192 + (h.val * 256 + d.val), by omega⟩) := by
  pointwise [mixed]

end Cert.ReferenceIdeal.Own

end
-- ==== Proof.RefB.lean ====
/- The reference's stages read at an index. -/
module

public import proofs.«01_k».proof.Proof.Ref
public import Idealize.ShloMosaic.Lib.Pointwise
public import Idealize.ShloMosaic.Lib.IdealHost

@[expose] public section

set_option maxRecDepth 16384

noncomputable section

namespace Cert.ReferenceIdeal.Own

open Idealize.ShloMosaic Cert.ReferenceIdeal Cert.ReferenceIdeal.Gen Cert.ReferenceIdeal.Value

theorem qs_at (X : FVec Ideal S16384x28672 .bf16) (b : Fin 4) (h : Fin 16) (m : Fin 2) (q : Fin 4096) (j : Fin 128) :
    qs X (ix5 b h m q j) = X (ix2 ⟨b.val * 4096 + q.val, by omega⟩ ⟨h.val * 256 + m.val * 128 + j.val, by omega⟩) := by
  pointwise [qs]

theorem ks_at (X : FVec Ideal S16384x28672 .bf16) (b : Fin 4) (h : Fin 16) (m : Fin 2) (q : Fin 4096) (j : Fin 128) :
    ks X (ix5 b h m q j) = X (ix2 ⟨b.val * 4096 + q.val, by omega⟩ ⟨4096 + (h.val * 256 + m.val * 128 + j.val), by omega⟩) := by
  pointwise [ks]

end Cert.ReferenceIdeal.Own

end
-- ==== Proof.RefC.lean ====
/- The reference's stages read at an index. -/
module

public import proofs.«01_k».proof.Proof.Ref
public import Idealize.ShloMosaic.Lib.Pointwise
public import Idealize.ShloMosaic.Lib.IdealHost

@[expose] public section

set_option maxRecDepth 16384

noncomputable section

namespace Cert.ReferenceIdeal.Own

open Idealize.ShloMosaic Cert.ReferenceIdeal Cert.ReferenceIdeal.Gen Cert.ReferenceIdeal.Value

theorem dots_at (Q K : FVec Ideal S4x16x2x4096x128 .f32) (b : Fin 4) (h : Fin 16) (m : Fin 2) (q k : Fin 4096) :
    dots Q K (ix5 b h m q k) = (∑ j : Fin 128, Q (ix5 b h m q j) * K (ix5 b h m k j)) * Ideal.log (Ideal.ofBits .f32 0x40000000#32) := by
  pointwise [dots]

end Cert.ReferenceIdeal.Own

end
-- ==== Proof.RefD.lean ====
/- The reference's stages read at an index. -/
module

public import proofs.«01_k».proof.Proof.Ref
public import Idealize.ShloMosaic.Lib.Pointwise
public import Idealize.ShloMosaic.Lib.IdealHost

@[expose] public section

set_option maxRecDepth 16384

noncomputable section

namespace Cert.ReferenceIdeal.Own

open Idealize.ShloMosaic Cert.ReferenceIdeal Cert.ReferenceIdeal.Gen Cert.ReferenceIdeal.Value

theorem chunks_at (k : Fin 4096) : chunks (ix1 k) = BitVec.ofNat 32 (k.val / 64) := by
  pointwise [chunks]
  revert k
  decide +kernel

theorem cmp_chunks : ∀ a b : Fin 64, IntOp.cmpi .sle (BitVec.ofNat 32 a.val) (BitVec.ofNat 32 b.val) = if a.val ≤ b.val then 1#1 else 0#1 := by
  decide +kernel

theorem sees_at (q k : Fin 4096) : sees (ix2 q k) = if k.val / 64 ≤ q.val / 64 then 1#1 else 0#1 := by
  pointwise [sees]
  rw [chunks_at, chunks_at]
  exact cmp_chunks ⟨k.val / 64, by omega⟩ ⟨q.val / 64, by omega⟩

theorem scores_at (D : FVec Ideal S4x16x2x4096x4096 .f32) (b : Fin 4) (h : Fin 16) (m : Fin 2) (q k : Fin 4096) :
    scores D (ix5 b h m q k) = if k.val / 64 ≤ q.val / 64 then D (ix5 b h m q k) else Ideal.ofBits .f32 0xFF800000#32 := by
  pointwise [scores]
  rw [sees_at]
  split <;> rfl

end Cert.ReferenceIdeal.Own

end
-- ==== Proof.RefT.lean ====
/- The reference's greatest scores are numbers. -/
module

public import proofs.«01_k».proof.Proof.Ref
public import proofs.«01_k».proof.Proof.Reals

@[expose] public section

set_option maxRecDepth 16384

noncomputable section

namespace Cert.ReferenceIdeal.Own

open Idealize.ShloMosaic Cert.ReferenceIdeal Cert.ReferenceIdeal.Gen

/-- A maximum down some axes of values none of which is infinite above, one of which is a number, is a number. -/
theorem reduce_real {s t u : Shape} {axes : List (Fin s.rank)} (x : s.Idx → EReal) (init : u.Idx → EReal) (h : s.ReducesTo axes t) (hu : 0 < u.numel) (j : t.Idx)
    (hinit : init (Shape.Idx.first hu) = ⊥) (hx : ∀ i, x i ≠ ⊤) (i : s.Idx) (hi : h.drop i = j) (hne : x i ≠ ⊥) :
    ∃ r : ℝ, Host.reduce (FloatOps.maximumf (F := Ideal) (φ := .f32)) x init h hu j = (r : EReal) := by
  have e := Host.reduce_eq_fold (max : EReal → EReal → EReal) x init h hu j
  rw [hinit] at e
  obtain ⟨r, hr⟩ := Cert.Attn.fold_real (Finset.univ.filter fun i => h.drop i = j) x (fun i _ => hx i) ⟨i, Finset.mem_filter.2 ⟨Finset.mem_univ _, hi⟩, hne⟩
  exact ⟨r, e.trans hr⟩

theorem max_at {s : Shape} (A B : FVec Ideal s .f32) (j : s.Idx) : maximumf A B j = max (A j) (B j) := rfl

theorem drop_at (b : Fin 4) (h : Fin 16) (m : Fin 2) (q k : Fin 4096) :
    (reducesTo_S4x16x2x4096x4096_S4x16x2x4096_d4).drop (ix5 b h m q k) = ix4 b h m q := by
  funext a
  refine Fin.ext ?_
  fin_cases a <;> rfl

theorem tops_real (S : FVec Ideal S4x16x2x4096x4096 .f32) (hS : ∀ i, S i ≠ ⊤) (b : Fin 4) (h : Fin 16) (m : Fin 2) (q k : Fin 4096) (hk : S (ix5 b h m q k) ≠ ⊥) :
    ∃ r : ℝ, tops S (ix4 b h m q) = (r : EReal) := by
  obtain ⟨r, hr⟩ := reduce_real S (constant (F := Ideal) S_ .f32 0xFF800000#32) reducesTo_S4x16x2x4096x4096_S4x16x2x4096_d4 h_S_ (ix4 b h m q)
    Cert.Attn.bits_bot hS (ix5 b h m q k) (drop_at b h m q k) hk
  refine ⟨r, ?_⟩
  unfold tops
  rw [max_at, hr]
  refine (congrArg (fun z => max z (r : EReal)) (?_ : _ = (⊥ : EReal))).trans (max_eq_right bot_le)
  exact Cert.Attn.bits_bot

end Cert.ReferenceIdeal.Own

end
-- ==== Proof.RefV.lean ====
/- The reference's result over the reals. -/
module

public import proofs.«01_k».proof.Proof.RefA
public import proofs.«01_k».proof.Proof.RefB
public import proofs.«01_k».proof.Proof.RefC
public import proofs.«01_k».proof.Proof.RefD
public import proofs.«01_k».proof.Proof.RefT

@[expose] public section

set_option maxRecDepth 16384

noncomputable section

namespace Cert.ReferenceIdeal.Own

open Idealize.ShloMosaic Cert.ReferenceIdeal Cert.ReferenceIdeal.Gen Cert.Attn

variable (X : FVec Ideal S16384x28672 .bf16) (x : ℕ → ℕ → ℝ) (hX : ∀ (r : Fin 16384) (c : Fin 28672), c.val < 12288 → X (ix2 r c) = (x r.val c.val : EReal))

/-- One query's row, one head's keys and values, as the arrays hold them. -/
def qrow (x : ℕ → ℕ → ℝ) (b h q : ℕ) : ℕ → ℝ := fun j => x (b * 4096 + q) (h * 256 + j)
def krow (x : ℕ → ℕ → ℝ) (b h : ℕ) : ℕ → ℕ → ℝ := fun k j => x (b * 4096 + k) (4096 + (h * 256 + j))
def vrow (x : ℕ → ℕ → ℝ) (b h : ℕ) : ℕ → ℕ → ℝ := fun k d => x (b * 4096 + k) (8192 + (h * 256 + d))

include hX

theorem dots_real (b : Fin 4) (h : Fin 16) (m : Fin 2) (q k : Fin 4096) :
    dots (qs X) (ks X) (ix5 b h m q k) = ((sc (qrow x b h q) (krow x b h) m k : ℝ) : EReal) * ((Real.log 2 : ℝ) : EReal) := by
  rw [dots_at, log_two, sc, coe_sum]
  refine congrArg (· * _) (Finset.sum_congr rfl fun j _ => ?_)
  rw [qs_at, ks_at, hX _ _ (by show _ < 12288; simp only []; omega), hX _ _ (by show _ < 12288; simp only []; omega), ← EReal.coe_mul, mul_comm]
  refine congrArg _ ?_
  unfold qrow krow
  rw [← Nat.add_assoc (h.val * 256)]

theorem scores_real (b : Fin 4) (h : Fin 16) (m : Fin 2) (q k : Fin 4096) :
    scores (dots (qs X) (ks X)) (ix5 b h m q k)
      = if k.val / 64 ≤ q.val / 64 then ((sc (qrow x b h q) (krow x b h) m k : ℝ) : EReal) * ((Real.log 2 : ℝ) : EReal) else ⊥ := by
  rw [scores_at, bits_bot, dots_real X x hX]

theorem tops_num (b : Fin 4) (h : Fin 16) (m : Fin 2) (q : Fin 4096) : ∃ M : ℝ, tops (scores (dots (qs X) (ks X))) (ix4 b h m q) = (M : EReal) := by
  refine tops_real _ (fun i => ?_) b h m q q ?_
  · rw [eq_ix5 i]
    refine ne_of_eq_of_ne (scores_real X x hX (i 0) (i 1) (i 2) (i 3) (i 4)) ?_
    split
    · rw [← EReal.coe_mul]; exact EReal.coe_ne_top _
    · exact bot_ne_top
  · rw [scores_real X x hX, if_pos le_rfl, ← EReal.coe_mul]
    exact EReal.coe_ne_bot _

theorem wts_real (b : Fin 4) (h : Fin 16) (m : Fin 2) (q k : Fin 4096) :
    wts (exps (scores (dots (qs X) (ks X))) (tops (scores (dots (qs X) (ks X))))) (ix5 b h m q k)
      = ((wt (qrow x b h q) (krow x b h) q m k / tot (qrow x b h q) (krow x b h) q m : ℝ) : EReal) := by
  obtain ⟨M, hM⟩ := tops_num X x hX b h m q
  have e : ∀ k : Fin 4096, exps (scores (dots (qs X) (ks X))) (tops (scores (dots (qs X) (ks X)))) (ix5 b h m q k)
      = ((Real.exp (-M) * wt (qrow x b h q) (krow x b h) q m k : ℝ) : EReal) := fun k => by
    rw [exps_at, hM, scores_real X x hX]
    unfold wt
    split
    · rw [exp_shift]
    · rw [exp_bot, mul_zero]
  have hs : (∑ k : Fin 4096, Real.exp (-M) * wt (qrow x b h q) (krow x b h) q m k) = Real.exp (-M) * tot (qrow x b h q) (krow x b h) q m := by
    rw [← Finset.mul_sum, tot, Finset.sum_range]
  have ht := tot_pos (qrow x b h q) (krow x b h) q m q.isLt
  have hM := Real.exp_pos (-M)
  rw [wts_at, e, Finset.sum_congr rfl fun k _ => e k, ← coe_sum, hs, div_real _ _ (mul_pos hM ht).ne', mul_div_mul_left _ _ hM.ne']

theorem mixed_real (L : FVec Ideal S1 .f32) (l : ℝ) (hL : L (ix1 0) = (l : EReal)) (b : Fin 4) (h : Fin 16) (q : Fin 4096) (d : Fin 256) :
    mixed X L (wts (exps (scores (dots (qs X) (ks X))) (tops (scores (dots (qs X) (ks X)))))) (ix4 b h q d)
      = ((mix (qrow x b h q) (krow x b h) (vrow x b h) l q d : ℝ) : EReal) := by
  rw [mixed_at]
  have e : ∀ k : Fin 4096, (wts (exps (scores (dots (qs X) (ks X))) (tops (scores (dots (qs X) (ks X))))) (ix5 b h 0 q k)
        - L (ix1 0) * wts (exps (scores (dots (qs X) (ks X))) (tops (scores (dots (qs X) (ks X))))) (ix5 b h 1 q k))
        * X (ix2 ⟨b.val * 4096 + k.val, by omega⟩ ⟨8192 + (h.val * 256 + d.val), by omega⟩)
      = (((wt (qrow x b h q) (krow x b h) q 0 k / tot (qrow x b h q) (krow x b h) q 0
          - l * (wt (qrow x b h q) (krow x b h) q 1 k / tot (qrow x b h q) (krow x b h) q 1)) * vrow x b h k d : ℝ) : EReal) := fun k => by
    rw [wts_real X x hX, wts_real X x hX, hL, hX _ _ (by show _ < 12288; simp only []; omega), ← EReal.coe_mul, ← EReal.coe_sub, ← EReal.coe_mul]
    rfl
  rw [Finset.sum_congr rfl fun k _ => e k, ← coe_sum]
  refine congrArg _ ?_
  unfold mix num
  rw [Finset.sum_range, Finset.sum_range, Finset.sum_div, Finset.sum_div, Finset.mul_sum, ← Finset.sum_sub_distrib]
  refine Finset.sum_congr rfl fun k _ => ?_
  ring

/-- The reference's result at row `r` and column `d`. -/
theorem result_real (L : FVec Ideal S1 .f32) (l : ℝ) (hL : L (ix1 0) = (l : EReal)) (G : FVec Ideal S256 .f32) (r : Fin 16384) (d : Fin 4096) :
    result X L G (ix2 r d)
      = Cert.Attn.fin (mix (qrow x (r.val / 4096) (d.val / 256) (r.val % 4096)) (krow x (r.val / 4096) (d.val / 256)) (vrow x (r.val / 4096) (d.val / 256)) l (r.val % 4096))
          (G (ix1 ⟨d.val % 256, by omega⟩)) (d.val % 256) := by
  unfold result
  rw [normed_at, mixed_real X x hX L l hL]
  have e := fun y : Fin 256 => mixed_real X x hX L l hL ⟨r.val / 4096, by omega⟩ ⟨d.val / 256, by omega⟩ ⟨r.val % 4096, by omega⟩ y
  rw [Finset.sum_congr rfl fun y _ => by rw [e y]]
  rfl

end Cert.ReferenceIdeal.Own

end
-- ==== Proof.KFinal.lean ====
/- The kernel's result array is the reference's. -/
module

public import proofs.«01_k».proof.Proof.Run
public import proofs.«01_k».proof.Proof.KVal
public import proofs.«01_k».proof.Proof.RefV
public import Idealize.ShloMosaic.Lib.Pipeline.ValueKit.Geometry

@[expose] public section

set_option maxRecDepth 16384

noncomputable section

namespace Cert.KernelIdeal.Own

open Idealize.ShloMosaic Cert.KernelIdeal Cert.KernelIdeal.Gen Cert.Attn
open Cert.ReferenceIdeal.Own (result result_real qrow krow vrow)

variable (m : (ℓ : Loc nD τ sig) → Buf (Elt Ideal) ℓ) (c : Dev nD)

theorem V_gain (d : Fin 256) : (V m c main_v0 : FVec Ideal S1x256 .f32) (ix2 0 d) = (m ((c.tc : Thread nD τ).loc main_arg2) : FVec Ideal S256 .f32) (ix1 d) := by
  have e : (V m c main_v0 : FVec Ideal S1x256 .f32) = shapeCast S1x256 (m ((c.tc : Thread nD τ).loc main_arg2) : FVec Ideal S256 .f32) shapeCasts_S256_S1x256 := by
    simp only [V, hostOps0, List.flatten_cons, List.flatten_nil, List.append_nil, List.cons_append, List.nil_append]
    after_results_simp <;> rfl
  rw [e]
  pointwise

theorem gain_at (t : Fin cfg0.N) (d : Fin 256) : (iblk m c 4 t : FVec Ideal S1x256 .f32) (ix2 0 d) = (m ((c.tc : Thread nD τ).loc main_arg2) : FVec Ideal S256 .f32) (ix1 d) := by
  refine Eq.trans ?_ (V_gain m c d)
  refine congrArg (V m c main_v0) (funext fun a => Fin.ext ?_)
  fin_cases a
  · rfl
  · show 0 * 256 + 1 * d.val = d.val
    omega

theorem lam_at (t : Fin cfg0.N) : (iblk m c 0 t : FVec Ideal S1 .f32) lamIx = (m ((c.tc : Thread nD τ).loc main_arg1) : FVec Ideal S1 .f32) (ix1 0) := by
  refine Eq.trans ?_ (congrFun (V_main_arg1 m c) (ix1 0))
  refine congrArg (V m c main_arg1) (funext fun a => Fin.ext ?_)
  fin_cases a
  rfl

theorem emb5 (t : Fin cfg0.N) (y : Fin 1024) (d : Fin 256) : (((cfg0.win 5).blk t).view.emb (ix2 y d : S1024x256.Idx) : S16384x4096.Idx)
    = ix2 ⟨(t.val / 64 * 4 + t.val % 4) * 1024 + y.val, by have := tlt t; omega⟩ ⟨t.val / 4 % 16 * 256 + d.val, by omega⟩ := by
  refine funext fun a => Fin.ext ?_
  fin_cases a
  · show cc0_transform_5 (grid0.coords t) 0 * 1024 + 1 * y.val = _
    rw [show cc0_transform_5 (grid0.coords t) 0 = _ from congrFun (tr5 t) 0, Nat.one_mul]; rfl
  · show cc0_transform_5 (grid0.coords t) 1 * 256 + 1 * d.val = _
    rw [show cc0_transform_5 (grid0.coords t) 1 = _ from congrFun (tr5 t) 1, Nat.one_mul]; rfl

variable (x : ℕ → ℕ → ℝ) (l : ℝ)
  (hX : ∀ (r : Fin 16384) (k : Fin 28672), k.val < 12288 → (m ((c.tc : Thread nD τ).loc main_arg0) : FVec Ideal S16384x28672 .bf16) (ix2 r k) = (x r.val k.val : EReal))
  (hL : (m ((c.tc : Thread nD τ).loc main_arg1) : FVec Ideal S1 .f32) (ix1 0) = (l : EReal))

include hX hL

theorem outAt_real (t : Fin cfg0.N) (y : Fin 1024) (d : Fin 256) :
    outAt m c t (ix2 y d) = fin (mix (qrow x (t.val / 64) (t.val / 4 % 16) (t.val % 4 * 1024 + y.val)) (krow x (t.val / 64) (t.val / 4 % 16)) (vrow x (t.val / 64) (t.val / 4 % 16)) l (t.val % 4 * 1024 + y.val))
      ((m ((c.tc : Thread nD τ).loc main_arg2) : FVec Ideal S256 .f32) (ix1 d)) d.val := by
  have ht := tlt t
  unfold outAt
  rw [iblk1, iblk2, iblk3]
  refine (outB_real _ _ _ (fun y => qrow x (t.val / 64) (t.val / 4 % 16) (t.val % 4 * 1024 + y)) (krow x (t.val / 64) (t.val / 4 % 16)) (vrow x (t.val / 64) (t.val / 4 % 16))
    ?_ ?_ ?_ (t.val % 4) (Nat.mod_lt _ (by norm_num)) (iblk m c 0 t) l ((lam_at m c t).trans hL) (iblk m c 4 t) y d).trans ?_
  · intro y j
    unfold rows1 qrow
    refine (congrFun (V_main_arg0 m c) _).trans ((hX _ _ ?_).trans (congrArg _ (congrArg₂ x ?_ ?_)))
    · show t.val / 4 % 16 * 256 + j.val < 12288
      omega
    · show (t.val / 64 * 4 + t.val % 4) * 1024 + y.val = _
      omega
    · rfl
  · intro k j
    unfold rows4 krow
    refine (congrFun (V_main_arg0 m c) _).trans ((hX _ _ ?_).trans (congrArg _ (congrArg₂ x ?_ ?_)))
    · show (16 + t.val / 4 % 16) * 256 + j.val < 12288
      omega
    · rfl
    · show (16 + t.val / 4 % 16) * 256 + j.val = _
      omega
  · intro k j
    unfold rows4 vrow
    refine (congrFun (V_main_arg0 m c) _).trans ((hX _ _ ?_).trans (congrArg _ (congrArg₂ x ?_ ?_)))
    · show (32 + t.val / 4 % 16) * 256 + j.val < 12288
      omega
    · rfl
    · show (32 + t.val / 4 % 16) * 256 + j.val = _
      omega
  · rw [gain_at]

theorem final : (dats m 0 c).arrAt 5 cfg0.N
    = result (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  have ht := tlt t
  obtain ⟨a, d, rfl⟩ : ∃ (a : Fin 1024) (d : Fin 256), y = (ix2 a d : S1024x256.Idx) := ⟨y 0, y 1, eq_ix2 (n0 := 1024) (n1 := 256) y⟩
  refine (outAt_real m c x l hX hL t a d).trans ?_
  refine Eq.trans ?_ (congrArg (result (m ((c.tc : Thread nD τ).loc main_arg0)) (m ((c.tc : Thread nD τ).loc main_arg1)) (m ((c.tc : Thread nD τ).loc main_arg2))) (emb5 t a d)).symm
  rw [result_real _ x hX _ l hL]
  simp only []
  have e1 : ((t.val / 64 * 4 + t.val % 4) * 1024 + a.val) / 4096 = t.val / 64 := by omega
  have e2 : ((t.val / 64 * 4 + t.val % 4) * 1024 + a.val) % 4096 = t.val % 4 * 1024 + a.val := by omega
  have e3 : (t.val / 4 % 16 * 256 + d.val) / 256 = t.val / 4 % 16 := by omega
  have e4 : (t.val / 4 % 16 * 256 + d.val) % 256 = d.val := by omega
  simp only [e1, e2, e3, e4]

end Cert.KernelIdeal.Own

end
-- ==== Proof.ProjBlk.lean ====
/- The projection kernel's block, read at an index. -/
module

public import proofs.«01_k».proof.Proof.Gen.ProjIdeal.Value
public import Idealize.ShloMosaic.Lib.Pointwise
public import Idealize.ShloMosaic.Lib.IdealHost
public import Idealize.ShloMosaic.Lib.Pipeline.ValueKit.Tiles

@[expose] public section

set_option maxRecDepth 16384

noncomputable section

namespace Cert.ProjIdeal.Own

open Idealize.ShloMosaic Cert.ProjIdeal Cert.ProjIdeal.Gen

/-- One group of 128 lanes: each lane by the first table, its partner by the second. -/
def turn (C S x : FVec Ideal S1024x128 .f32) : FVec Ideal S1024x128 .bf16 :=
  truncf .bf16 (addf (mulf x C) (mulf (select k0_pay8 (dynamicRotate 1 112#32 none x rotates_S1024x128_d1) (dynamicRotate 1 16#32 none x rotates_S1024x128_d1)) S)) bitsLt_bf16_f32

/-- The product of the rows with 256 of the columns. -/
def prod (a : FVec Ideal S1024x4096 .bf16) (w : FVec Ideal S4096x256 .bf16) : FVec Ideal S1024x256 .f32 :=
  matmul dot_S1024x4096_S4096x256_S1024x256_1_0_0_1_n_n none a (shapeCast S4096x256 w shapeCasts_S4096x256_S4096x256) (constant S1024x256 .f32 0x00000000#32)

def lo (x : FVec Ideal S1024x256 .f32) : FVec Ideal S1024x128 .f32 := extractStridedSlice S1024x128 ![0, 0] x slices_S1024x256_o0_0_S1024x128
def hi (x : FVec Ideal S1024x256 .f32) : FVec Ideal S1024x128 .f32 := extractStridedSlice S1024x128 ![0, 128] x slices_S1024x256_o0_128_S1024x128

theorem prod_at (a : FVec Ideal S1024x4096 .bf16) (w : FVec Ideal S4096x256 .bf16) (y : Fin 1024) (e : Fin 256) :
    prod a w (ix2 y e) = ∑ k : Fin 4096, a (ix2 y k) * w (ix2 k e) := by
  pointwise [prod]

theorem lo_at (x : FVec Ideal S1024x256 .f32) (y : Fin 1024) (l : Fin 128) : lo x (ix2 y l) = x (ix2 y ⟨l.val, by omega⟩) := by
  pointwise [lo]

theorem hi_at (x : FVec Ideal S1024x256 .f32) (y : Fin 1024) (l : Fin 128) : hi x (ix2 y l) = x (ix2 y ⟨128 + l.val, by omega⟩) := by
  pointwise [hi]

theorem low_at (y : Fin 1024) (l : Fin 128) : (k0_pay8 : IVec S1024x128 1) (ix2 y l) = if l.val < 16 then 1#1 else 0#1 := by
  have h : ∀ l : Fin 128, IntOp.cmpi .slt (BitVec.ofNat 32 l.val) 16#32 = if l.val < 16 then 1#1 else 0#1 := by decide +kernel
  refine Eq.trans ?_ (h l)
  pointwise [k0_pay8]

theorem turn_at (C S x : FVec Ideal S1024x128 .f32) (y : Fin 1024) (l : Fin 128) :
    turn C S x (ix2 y l) = x (ix2 y l) * C (ix2 y l)
      + (if l.val < 16 then x (ix2 y ⟨(l.val + 16) % 128, by omega⟩) else x (ix2 y ⟨(l.val + 112) % 128, by omega⟩)) * S (ix2 y l) := by
  have h1 : dynamicRotate 1 112#32 none x rotates_S1024x128_d1 (ix2 y l) = x (ix2 y ⟨(l.val + 16) % 128, by omega⟩) := by
    have e : (l.val + 128 - 112) % 128 = (l.val + 16) % 128 := by omega
    pointwise
    exact congrArg x (congrArg (ix2 y) (Fin.ext e))
  have h2 : dynamicRotate 1 16#32 none x rotates_S1024x128_d1 (ix2 y l) = x (ix2 y ⟨(l.val + 112) % 128, by omega⟩) := by
    have e : (l.val + 128 - 16) % 128 = (l.val + 112) % 128 := by omega
    pointwise
    exact congrArg x (congrArg (ix2 y) (Fin.ext e))
  show x (ix2 y l) * C (ix2 y l) + Scalar.select ((k0_pay8 : IVec S1024x128 1) (ix2 y l)) (dynamicRotate 1 112#32 none x rotates_S1024x128_d1 (ix2 y l)) (dynamicRotate 1 16#32 none x rotates_S1024x128_d1 (ix2 y l)) * S (ix2 y l) = _
  rw [low_at, h1, h2]
  by_cases h : l.val < 16
  · rw [if_pos h, if_pos h]; rfl
  · rw [if_neg h, if_neg h]; rfl

/-- The whole product of the block. -/
def acc (a : FVec Ideal S1024x4096 .bf16) (w : FVec Ideal S4096x1024 .bf16) (y : Fin 1024) (e : ℕ) : EReal :=
  if h : e < 1024 then ∑ k : Fin 4096, a (ix2 y k) * w (ix2 k ⟨e, h⟩) else 0

theorem turn_lo (C S : FVec Ideal S1024x128 .f32) (a : FVec Ideal S1024x4096 .bf16) (w : FVec Ideal S4096x1024 .bf16) (w' : FVec Ideal S4096x256 .bf16)
    (o : ℕ) (ho : o + 256 ≤ 1024) (hw : ∀ (k : Fin 4096) (e : Fin 256), w' (ix2 k e) = w (ix2 k ⟨o + e.val, by omega⟩)) (y : Fin 1024) (l : Fin 128) :
    turn C S (lo (prod a w')) (ix2 y l) = acc a w y (o + l.val) * C (ix2 y l)
      + acc a w y (o + (if l.val < 16 then (l.val + 16) % 128 else (l.val + 112) % 128)) * S (ix2 y l) := by
  have h : ∀ l : Fin 128, lo (prod a w') (ix2 y l) = acc a w y (o + l.val) := fun l => by
    rw [lo_at, prod_at, acc, dif_pos (by omega)]
    exact Finset.sum_congr rfl fun k _ => congrArg (a (ix2 y k) * ·) (hw k _)
  rw [turn_at, h, h, h]
  split <;> rfl

theorem turn_hi (C S : FVec Ideal S1024x128 .f32) (a : FVec Ideal S1024x4096 .bf16) (w : FVec Ideal S4096x1024 .bf16) (w' : FVec Ideal S4096x256 .bf16)
    (o : ℕ) (ho : o + 256 ≤ 1024) (hw : ∀ (k : Fin 4096) (e : Fin 256), w' (ix2 k e) = w (ix2 k ⟨o + e.val, by omega⟩)) (y : Fin 1024) (l : Fin 128) :
    turn C S (hi (prod a w')) (ix2 y l) = acc a w y (o + 128 + l.val) * C (ix2 y l)
      + acc a w y (o + 128 + (if l.val < 16 then (l.val + 16) % 128 else (l.val + 112) % 128)) * S (ix2 y l) := by
  have h : ∀ l : Fin 128, hi (prod a w') (ix2 y l) = acc a w y (o + 128 + l.val) := fun l => by
    rw [hi_at, prod_at, acc, dif_pos (by omega)]
    refine Finset.sum_congr rfl fun k _ => congrArg (a (ix2 y k) * ·) ((hw k _).trans ?_)
    exact congrArg w (congrArg (ix2 k) (Fin.ext (by show o + (128 + l.val) = o + 128 + l.val; omega)))
  rw [turn_at, h, h, h]
  split <;> rfl

/-- The lane a lane is rotated with. -/
def mate (e : ℕ) : ℕ := e / 128 * 128 + (if e % 128 < 16 then (e % 128 + 16) % 128 else (e % 128 + 112) % 128)

theorem ld_a (a : FVec Ideal S1024x4096 .bf16) : View.ld (Val := Elt Ideal) (S := S1024x4096) (e' := .bf16) a r0_1 = a := by
  funext j
  refine congrArg a (funext fun b => Fin.ext ?_)
  fin_cases b
  · show 0 + 1 * (j 0).val = (j 0).val
    omega
  · show 0 + 1 * (j 1).val = (j 1).val
    omega

theorem ld_t (a : FVec Ideal S1024x128 .f32) : View.ld (Val := Elt Ideal) (S := S1024x128) (e' := .f32) a r0_0 = a := by
  funext j
  refine congrArg a (funext fun b => Fin.ext ?_)
  fin_cases b
  · show 0 + 1 * (j 0).val = (j 0).val
    omega
  · show 0 + 1 * (j 1).val = (j 1).val
    omega

theorem ld_w (w : FVec Ideal S4096x1024 .bf16) (o : ℕ) (ho : o + 256 ≤ 1024) (inb) (k : Fin 4096) (e : Fin 256) :
    (View.ld (Val := Elt Ideal) (S := S4096x1024) (e' := .bf16) w (Rect.unit (s := S4096x1024) ![0, o] S4096x256.size inb) : FVec Ideal S4096x256 .bf16) (ix2 k e) = w (ix2 k ⟨o + e.val, by omega⟩) := by
  refine congrArg w (funext fun b => Fin.ext ?_)
  fin_cases b
  · show 0 + 1 * k.val = k.val
    omega
  · show o + 1 * e.val = o + e.val
    omega

theorem mate_add (o l : ℕ) (ho : o % 128 = 0) (hl : l < 128) : mate (o + l) = o + (if l < 16 then (l + 16) % 128 else (l + 112) % 128) := by
  have h1 : (o + l) / 128 * 128 = o := by omega
  have h2 : (o + l) % 128 = l := by omega
  rw [mate, h1, h2]

theorem out_at (i : grid0.Coords) (a : FVec Ideal S1024x4096 .bf16) (w : FVec Ideal S4096x1024 .bf16) (x2 x3 : FVec Ideal S1024x128 .f32) (y e : Fin 1024) :
    (out0_4 (F := Ideal) i a w x2 x3 : FVec Ideal S1024x1024 .bf16) (ix2 y e)
      = acc a w y e.val * (k0_pay6 (F := Ideal) i x2 : FVec Ideal S1024x128 .f32) (ix2 y ⟨e.val % 128, by omega⟩)
        + acc a w y (mate e.val) * (k0_pay7 (F := Ideal) i x3 : FVec Ideal S1024x128 .f32) (ix2 y ⟨e.val % 128, by omega⟩) := by
  have key : ∀ (o : ℕ) (l : Fin 128) (y' : Fin 1024), o % 128 = 0 → y.val = y'.val → e.val = o + l.val →
      acc a w y' (o + l.val) * (k0_pay6 (F := Ideal) i x2 : FVec Ideal S1024x128 .f32) (ix2 y' l)
        + acc a w y' (o + (if l.val < 16 then (l.val + 16) % 128 else (l.val + 112) % 128)) * (k0_pay7 (F := Ideal) i x3 : FVec Ideal S1024x128 .f32) (ix2 y' l)
      = acc a w y e.val * (k0_pay6 (F := Ideal) i x2 : FVec Ideal S1024x128 .f32) (ix2 y ⟨e.val % 128, by omega⟩)
        + acc a w y (mate e.val) * (k0_pay7 (F := Ideal) i x3 : FVec Ideal S1024x128 .f32) (ix2 y ⟨e.val % 128, by omega⟩) := by
    intro o l y' ho hy he
    obtain rfl : y = y' := Fin.ext hy
    have hl : l = (⟨e.val % 128, by omega⟩ : Fin 128) := Fin.ext (by show l.val = e.val % 128; omega)
    rw [← mate_add o l.val ho l.isLt, ← he, ← hl]
  unfold out0_4 k0_pay19 k0_pay20 k0_pay21
  rw [ld_a, ld_t, ld_t]
  canon_tiles x h
  all_goals obtain ⟨y', l, rfl⟩ : ∃ (y' : Fin 1024) (l : Fin 128), x = (ix2 y' l : S1024x128.Idx) := ⟨x 0, x 1, eq_ix2 (n0 := 1024) (n1 := 128) x⟩
  · exact (turn_hi _ _ a w _ 768 (by omega) (fun k e => ld_w w 768 (by omega) _ k e) y' l).trans (key 896 l y' (by omega) h0 h1)
  · exact (turn_lo _ _ a w _ 768 (by omega) (fun k e => ld_w w 768 (by omega) _ k e) y' l).trans (key 768 l y' (by omega) h0 h1)
  · exact (turn_hi _ _ a w _ 512 (by omega) (fun k e => ld_w w 512 (by omega) _ k e) y' l).trans (key 640 l y' (by omega) h0 h1)
  · exact (turn_lo _ _ a w _ 512 (by omega) (fun k e => ld_w w 512 (by omega) _ k e) y' l).trans (key 512 l y' (by omega) h0 h1)
  · exact (turn_hi _ _ a w _ 256 (by omega) (fun k e => ld_w w 256 (by omega) _ k e) y' l).trans (key 384 l y' (by omega) h0 h1)
  · exact (turn_lo _ _ a w _ 256 (by omega) (fun k e => ld_w w 256 (by omega) _ k e) y' l).trans (key 256 l y' (by omega) h0 h1)
  · exact (turn_hi _ _ a w _ 0 (by omega) (fun k e => ld_w w 0 (by omega) _ k e) y' l).trans (key 128 l y' (by omega) h0 h1)
  · exact (turn_lo _ _ a w _ 0 (by omega) (fun k e => ld_w w 0 (by omega) _ k e) y' l).trans (key 0 l y' (by omega) h0 (h1.trans (Nat.zero_add _).symm))

/-- The factor of the columns at grid column `j`: the queries' are scaled. -/
def fac (j : ℕ) : EReal := if j < 4 then (((Real.sqrt 128)⁻¹ * (Real.log 2)⁻¹ : ℝ) : EReal) else 1

theorem fac_eq (i : grid0.Coords) : (k0_pay5 (F := Ideal) i : EReal) = fac (i 1).val := by
  have h : ∀ j : Fin 28, Scalar.cmpi .slt (BitVec.ofNat 32 j.val) 4#32 = if j.val < 4 then 1#1 else 0#1 := by decide +kernel
  have e : (k0_pay5 (F := Ideal) i : EReal) = Scalar.select (Scalar.cmpi .slt (BitVec.ofNat 32 (i 1).val) 4#32) (((Real.sqrt 128)⁻¹ * (Real.log 2)⁻¹ : ℝ) : EReal) (Ideal.ofBits .f32 0x3F800000#32) := rfl
  rw [e, h (i 1), fac, Ideal.ofBits_one_f32]
  split <;> rfl

theorem pay6_at (i : grid0.Coords) (x : FVec Ideal S1024x128 .f32) (y : Fin 1024) (l : Fin 128) :
    (k0_pay6 (F := Ideal) i x : FVec Ideal S1024x128 .f32) (ix2 y l) = (if (i 1).val < 8 then x (ix2 y l) else 1) * fac (i 1).val := by
  have h : ∀ j : Fin 28, Scalar.cmpi .slt (BitVec.ofNat 32 j.val) 8#32 = if j.val < 8 then 1#1 else 0#1 := by decide +kernel
  have e : (k0_pay6 (F := Ideal) i x : FVec Ideal S1024x128 .f32) (ix2 y l) = Scalar.select (Scalar.cmpi .slt (BitVec.ofNat 32 (i 1).val) 8#32) (x (ix2 y l)) (Ideal.ofBits .f32 0x3F800000#32) * k0_pay5 (F := Ideal) i := by
    pointwise [k0_pay6]
  rw [e, h (i 1), fac_eq, Ideal.ofBits_one_f32]
  split <;> rfl

theorem pay7_at (i : grid0.Coords) (x : FVec Ideal S1024x128 .f32) (y : Fin 1024) (l : Fin 128) :
    (k0_pay7 (F := Ideal) i x : FVec Ideal S1024x128 .f32) (ix2 y l) = (if (i 1).val < 8 then x (ix2 y l) else 0) * fac (i 1).val := by
  have h : ∀ j : Fin 28, Scalar.cmpi .slt (BitVec.ofNat 32 j.val) 8#32 = if j.val < 8 then 1#1 else 0#1 := by decide +kernel
  have e : (k0_pay7 (F := Ideal) i x : FVec Ideal S1024x128 .f32) (ix2 y l) = Scalar.select (Scalar.cmpi .slt (BitVec.ofNat 32 (i 1).val) 8#32) (x (ix2 y l)) (Ideal.ofBits .f32 0x00000000#32) * k0_pay5 (F := Ideal) i := by
    pointwise [k0_pay7]
  rw [e, h (i 1), fac_eq, Ideal.ofBits_zero_f32]
  split <;> rfl

end Cert.ProjIdeal.Own

end
-- ==== Proof.ProjRef.lean ====
/- The projection's reference result, stage by stage, read at an index. -/
module

public import proofs.«01_k».proof.Proof.Gen.ProjReferenceIdeal.Run
public import Idealize.ShloMosaic.Lib.Pointwise
public import Idealize.ShloMosaic.Lib.IdealHost

@[expose] public section

set_option maxRecDepth 16384

noncomputable section

namespace Cert.ProjReferenceIdeal.Own

open Idealize.ShloMosaic Cert.ProjReferenceIdeal Cert.ProjReferenceIdeal.Gen Cert.ProjReferenceIdeal.Value

/-- The frequencies of the rotation. -/
def freqs : FVec Ideal S16 .f32 :=
  Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- Each position's angles. -/
def angs (P : IVec S4x4096 32) (f : FVec Ideal S16 .f32) : FVec Ideal S4x4096x16 .f32 :=
  mulf (broadcastInDim S4x4096x16 ![0, 1, 2] bcast_S4x4096x1_S4x4096x16_0_1_2 (broadcastInDim S4x4096x1 ![0, 1] bcast_S4x4096_S4x4096x1_0_1 (sitofp .f32 P))) (broadcastInDim S4x4096x16 ![0, 1, 2] bcast_S1x1x16_S4x4096x16_0_1_2 (broadcastInDim S1x1x16 ![2] bcast_S16_S1x1x16_2 f))

/-- A table of the angles, the same for every head and map. -/
def wide (t : FVec Ideal S4x4096x16 .f32) : FVec Ideal S4x4096x16x2x16 .f32 :=
  broadcastInDim S4x4096x16x2x16 ![0, 1, 2, 3, 4] bcast_S4x4096x1x1x16_S4x4096x16x2x16_0_1_2_3_4 (broadcastInDim S4x4096x1x1x16 ![0, 1, 4] bcast_S4x4096x16_S4x4096x1x1x16_0_1_4 t)

/-- The product of the stream and the weights. -/
def prods (A : FVec Ideal S16384x4096 .bf16) (W : FVec Ideal S4096x28672 .f32) : FVec Ideal S16384x28672 .f32 :=
  Host.dotGeneral dot_S16384x4096_S4096x28672_S16384x28672_1_0_0_1_n_n none (extf .f32 A bitsLt_bf16_f32) W

def qheads (D : FVec Ideal S16384x28672 .f32) : FVec Ideal S4x4096x16x2x128 .f32 :=
  shapeCast _ (extractStridedSlice S16384x4096 ![0, 0] D slices_S16384x28672_S16384x4096_0_0) shapeCasts_S16384x4096_S4x4096x16x2x128

def kheads (D : FVec Ideal S16384x28672 .f32) : FVec Ideal S4x4096x16x2x128 .f32 :=
  shapeCast _ (extractStridedSlice S16384x4096 ![0, 4096] D slices_S16384x28672_S16384x4096_0_4096) shapeCasts_S16384x4096_S4x4096x16x2x128

/-- The first 32 of the coordinates rotated by the angles. -/
def rope (C S : FVec Ideal S4x4096x16x2x16 .f32) (T : FVec Ideal S4x4096x16x2x128 .f32) : FVec Ideal S4x4096x16x2x128 .f32 :=
  concatenate S4x4096x16x2x128 4 [⟨S4x4096x16x2x16, subf (mulf (extractStridedSlice S4x4096x16x2x16 ![0, 0, 0, 0, 0] T slices_S4x4096x16x2x128_S4x4096x16x2x16_0_0_0_0_0) C) (mulf (extractStridedSlice S4x4096x16x2x16 ![0, 0, 0, 0, 16] T slices_S4x4096x16x2x128_S4x4096x16x2x16_0_0_0_0_16) S)⟩,
    ⟨S4x4096x16x2x16, addf (mulf (extractStridedSlice S4x4096x16x2x16 ![0, 0, 0, 0, 16] T slices_S4x4096x16x2x128_S4x4096x16x2x16_0_0_0_0_16) C) (mulf (extractStridedSlice S4x4096x16x2x16 ![0, 0, 0, 0, 0] T slices_S4x4096x16x2x128_S4x4096x16x2x16_0_0_0_0_0) S)⟩,
    ⟨S4x4096x16x2x96, extractStridedSlice S4x4096x16x2x96 ![0, 0, 0, 0, 32] T slices_S4x4096x16x2x128_S4x4096x16x2x96_0_0_0_0_32⟩]
    concatenates_S4x4096x16x2x16_S4x4096x16x2x16_S4x4096x16x2x96_S4x4096x16x2x128_d4

/-- The queries over the two constants. -/
def scaled (T : FVec Ideal S4x4096x16x2x128 .f32) : FVec Ideal S4x4096x16x2x128 .f32 :=
  Host.divf (Host.divf T (broadcastInDim S4x4096x16x2x128 ![] bcast_S_S4x4096x16x2x128 (Host.sqrt (constant S_ .f32 0x43000000#32)))) (broadcastInDim S4x4096x16x2x128 ![] bcast_S_S4x4096x16x2x128 (Host.log (constant S_ .f32 0x40000000#32)))

/-- Queries, keys and the rest, side by side. -/
def joined (Q K : FVec Ideal S4x4096x16x2x128 .f32) (D : FVec Ideal S16384x28672 .f32) : FVec Ideal S16384x28672 .bf16 :=
  truncf .bf16 (concatenate S16384x28672 1 [⟨S16384x4096, shapeCast S16384x4096 Q shapeCasts_S4x4096x16x2x128_S16384x4096⟩, ⟨S16384x4096, shapeCast S16384x4096 K shapeCasts_S4x4096x16x2x128_S16384x4096⟩,
    ⟨S16384x20480, extractStridedSlice S16384x20480 ![0, 8192] D slices_S16384x28672_S16384x20480_0_8192⟩] concatenates_S16384x4096_S16384x4096_S16384x20480_S16384x28672_d1) bitsLt_bf16_f32

def result (A : FVec Ideal S16384x4096 .bf16) (W : FVec Ideal S4096x28672 .f32) (P : IVec S4x4096 32) : FVec Ideal S16384x28672 .bf16 :=
  joined (scaled (rope (wide (Host.cos (angs P freqs))) (wide (Host.sin (angs P freqs))) (qheads (prods A W))))
    (rope (wide (Host.cos (angs P freqs))) (wide (Host.sin (angs P freqs))) (kheads (prods A W))) (prods A W)

set_option maxHeartbeats 4000000 in
theorem res_eq (m : (ℓ : Loc nD τ sig) → Buf (Elt Ideal) ℓ) (c : Dev nD) :
    res_main_v64 m c = result (m ((c.tc : Thread nD τ).loc main_arg0)) (m ((c.tc : Thread nD τ).loc main_arg1)) (m ((c.tc : Thread nD τ).loc main_arg2)) := by
  unfold res_main_v64
  rfl

theorem prods_at (A : FVec Ideal S16384x4096 .bf16) (W : FVec Ideal S4096x28672 .f32) (r : Fin 16384) (d : Fin 28672) :
    prods A W (ix2 r d) = ∑ k : Fin 4096, A (ix2 r k) * W (ix2 k d) := by
  pointwise [prods]

theorem angs_at (P : IVec S4x4096 32) (f : FVec Ideal S16 .f32) (b : Fin 4) (s : Fin 4096) (j : Fin 16) :
    angs P f (ix3 b s j) = FloatOps.sitofp (F := Ideal) .f32 (P (ix2 b s)) * f (ix1 j) := by
  pointwise [angs]

theorem wide_at (t : FVec Ideal S4x4096x16 .f32) (b : Fin 4) (s : Fin 4096) (h : Fin 16) (m : Fin 2) (j : Fin 16) :
    wide t (ix5 b s h m j) = t (ix3 b s j) := by
  pointwise [wide]

theorem qheads_at (D : FVec Ideal S16384x28672 .f32) (b : Fin 4) (s : Fin 4096) (h : Fin 16) (m : Fin 2) (j : Fin 128) :
    qheads D (ix5 b s h m j) = D (ix2 ⟨b.val * 4096 + s.val, by omega⟩ ⟨h.val * 256 + m.val * 128 + j.val, by omega⟩) := by
  pointwise [qheads]

theorem kheads_at (D : FVec Ideal S16384x28672 .f32) (b : Fin 4) (s : Fin 4096) (h : Fin 16) (m : Fin 2) (j : Fin 128) :
    kheads D (ix5 b s h m j) = D (ix2 ⟨b.val * 4096 + s.val, by omega⟩ ⟨4096 + (h.val * 256 + m.val * 128 + j.val), by omega⟩) := by
  pointwise [kheads]

theorem rope_at (C S : FVec Ideal S4x4096x16x2x16 .f32) (T : FVec Ideal S4x4096x16x2x128 .f32) (b : Fin 4) (s : Fin 4096) (h : Fin 16) (m : Fin 2) (j : Fin 128) :
    rope C S T (ix5 b s h m j)
      = if h1 : j.val < 16 then T (ix5 b s h m j) * C (ix5 b s h m ⟨j.val, h1⟩) - T (ix5 b s h m ⟨16 + j.val, by omega⟩) * S (ix5 b s h m ⟨j.val, h1⟩)
        else if h2 : j.val - 16 < 16 then T (ix5 b s h m ⟨16 + (j.val - 16), by omega⟩) * C (ix5 b s h m ⟨j.val - 16, h2⟩) + T (ix5 b s h m ⟨j.val - 16, by omega⟩) * S (ix5 b s h m ⟨j.val - 16, h2⟩)
        else T (ix5 b s h m ⟨32 + (j.val - 16 - 16), by omega⟩) := by
  pointwise [rope]

theorem scaled_at (T : FVec Ideal S4x4096x16x2x128 .f32) (b : Fin 4) (s : Fin 4096) (h : Fin 16) (m : Fin 2) (j : Fin 128) :
    scaled T (ix5 b s h m j) = Ideal.div (Ideal.div (T (ix5 b s h m j)) (Ideal.sqrt (Ideal.ofBits .f32 0x43000000#32))) (Ideal.log (Ideal.ofBits .f32 0x40000000#32)) := by
  pointwise [scaled]

theorem joined_at (Q K : FVec Ideal S4x4096x16x2x128 .f32) (D : FVec Ideal S16384x28672 .f32) (r : Fin 16384) (d : Fin 28672) :
    joined Q K D (ix2 r d) = if h1 : d.val < 4096 then Q (ix5 ⟨r.val / 4096, by omega⟩ ⟨r.val % 4096, by omega⟩ ⟨d.val / 256, by omega⟩ ⟨d.val / 128 % 2, by omega⟩ ⟨d.val % 128, by omega⟩)
      else if h2 : d.val - 4096 < 4096 then K (ix5 ⟨r.val / 4096, by omega⟩ ⟨r.val % 4096, by omega⟩ ⟨(d.val - 4096) / 256, by omega⟩ ⟨(d.val - 4096) / 128 % 2, by omega⟩ ⟨(d.val - 4096) % 128, by omega⟩)
      else D (ix2 r ⟨8192 + (d.val - 4096 - 4096), by omega⟩) := by
  pointwise [joined]

/-- A row of the product, by the column's number. -/
def col (A : FVec Ideal S16384x4096 .bf16) (W : FVec Ideal S4096x28672 .f32) (r : Fin 16384) (k : ℕ) : EReal :=
  if h : k < 28672 then ∑ x : Fin 4096, A (ix2 r x) * W (ix2 x ⟨k, h⟩) else 0

/-- A row's angle, by the frequency's number. -/
def ang (P : IVec S4x4096 32) (r : Fin 16384) (j : ℕ) : EReal :=
  if h : j < 16 then FloatOps.sitofp (F := Ideal) .f32 (P (ix2 ⟨r.val / 4096, by omega⟩ ⟨r.val % 4096, by omega⟩)) * freqs (ix1 ⟨j, h⟩) else 0

/-- The rotation of the group of 128 columns from `o` on, at its lane `l`. -/
def core (A : FVec Ideal S16384x4096 .bf16) (W : FVec Ideal S4096x28672 .f32) (P : IVec S4x4096 32) (r : Fin 16384) (o l : ℕ) : EReal :=
  if l < 16 then col A W r (o + l) * Ideal.cos (ang P r l) - col A W r (o + (16 + l)) * Ideal.sin (ang P r l)
  else if l - 16 < 16 then col A W r (o + (16 + (l - 16))) * Ideal.cos (ang P r (l - 16)) + col A W r (o + (l - 16)) * Ideal.sin (ang P r (l - 16))
  else col A W r (o + (32 + (l - 16 - 16)))

variable (A : FVec Ideal S16384x4096 .bf16) (W : FVec Ideal S4096x28672 .f32) (P : IVec S4x4096 32)

theorem cos_at (r : Fin 16384) (h : Fin 16) (m : Fin 2) (j : Fin 16) :
    wide (Host.cos (angs P freqs)) (ix5 ⟨r.val / 4096, by omega⟩ ⟨r.val % 4096, by omega⟩ h m j) = Ideal.cos (ang P r j.val) := by
  rw [wide_at, ang, dif_pos j.isLt]
  exact congrArg Ideal.cos (angs_at P freqs _ _ _)

theorem sin_at (r : Fin 16384) (h : Fin 16) (m : Fin 2) (j : Fin 16) :
    wide (Host.sin (angs P freqs)) (ix5 ⟨r.val / 4096, by omega⟩ ⟨r.val % 4096, by omega⟩ h m j) = Ideal.sin (ang P r j.val) := by
  rw [wide_at, ang, dif_pos j.isLt]
  exact congrArg Ideal.sin (angs_at P freqs _ _ _)

theorem prods_col (r : Fin 16384) (d : Fin 28672) : prods A W (ix2 r d) = col A W r d.val := by
  rw [prods_at, col, dif_pos d.isLt]

theorem rope_core (T : FVec Ideal S4x4096x16x2x128 .f32) (r : Fin 16384) (h : Fin 16) (m : Fin 2) (o : ℕ)
    (hT : ∀ j : Fin 128, T (ix5 ⟨r.val / 4096, by omega⟩ ⟨r.val % 4096, by omega⟩ h m j) = col A W r (o + j.val)) (j : Fin 128) :
    rope (wide (Host.cos (angs P freqs))) (wide (Host.sin (angs P freqs))) T (ix5 ⟨r.val / 4096, by omega⟩ ⟨r.val % 4096, by omega⟩ h m j) = core A W P r o j.val := by
  rw [rope_at, core]
  by_cases h1 : j.val < 16
  · rw [dif_pos h1, if_pos h1, hT, hT, cos_at, sin_at]
  · rw [dif_neg h1, if_neg h1]
    by_cases h2 : j.val - 16 < 16
    · rw [dif_pos h2, if_pos h2, hT, hT, cos_at, sin_at]
    · rw [dif_neg h2, if_neg h2, hT]

theorem q_col (r : Fin 16384) (h : Fin 16) (m : Fin 2) (j : Fin 128) :
    qheads (prods A W) (ix5 ⟨r.val / 4096, by omega⟩ ⟨r.val % 4096, by omega⟩ h m j) = col A W r (h.val * 256 + m.val * 128 + j.val) := by
  rw [qheads_at, prods_col]
  exact congrArg (col A W · _) (Fin.ext (by show r.val / 4096 * 4096 + r.val % 4096 = r.val; omega))

theorem k_col (r : Fin 16384) (h : Fin 16) (m : Fin 2) (j : Fin 128) :
    kheads (prods A W) (ix5 ⟨r.val / 4096, by omega⟩ ⟨r.val % 4096, by omega⟩ h m j) = col A W r (4096 + (h.val * 256 + m.val * 128) + j.val) := by
  rw [kheads_at, prods_col]
  refine (congrArg (col A W · _) (Fin.ext (by show r.val / 4096 * 4096 + r.val % 4096 = r.val; omega) : _ = r)).trans ?_
  exact congrArg (col A W r) (by show 4096 + (h.val * 256 + m.val * 128 + j.val) = _; omega)

/-- The result, by the part the column lies in. -/
theorem result_at (r : Fin 16384) (d : Fin 28672) :
    result A W P (ix2 r d) = if d.val < 4096 then Ideal.div (Ideal.div (core A W P r (d.val / 128 * 128) (d.val % 128)) (Ideal.sqrt (Ideal.ofBits .f32 0x43000000#32))) (Ideal.log (Ideal.ofBits .f32 0x40000000#32))
      else if d.val < 8192 then core A W P r (d.val / 128 * 128) (d.val % 128)
      else col A W r d.val := by
  rw [result, joined_at]
  by_cases h1 : d.val < 4096
  · rw [dif_pos h1, if_pos h1, scaled_at]
    have e : d.val / 256 * 256 + d.val / 128 % 2 * 128 = d.val / 128 * 128 := by omega
    have h := rope_core A W P (qheads (prods A W)) r ⟨d.val / 256, by omega⟩ ⟨d.val / 128 % 2, by omega⟩ _ (q_col A W r ⟨d.val / 256, by omega⟩ ⟨d.val / 128 % 2, by omega⟩) ⟨d.val % 128, by omega⟩
    rw [h]
    simp only [e]
  · rw [dif_neg h1, if_neg h1]
    by_cases h2 : d.val < 8192
    · have e : 4096 + ((d.val - 4096) / 256 * 256 + (d.val - 4096) / 128 % 2 * 128) = d.val / 128 * 128 := by omega
      have e' : (d.val - 4096) % 128 = d.val % 128 := by omega
      have h := rope_core A W P (kheads (prods A W)) r ⟨(d.val - 4096) / 256, by omega⟩ ⟨(d.val - 4096) / 128 % 2, by omega⟩ _ (k_col A W r ⟨(d.val - 4096) / 256, by omega⟩ ⟨(d.val - 4096) / 128 % 2, by omega⟩) ⟨(d.val - 4096) % 128, by omega⟩
      rw [dif_pos (by omega), if_pos h2, h]
      simp only [e, e']
    · rw [dif_neg (by omega), if_neg h2, prods_col]
      have e : 8192 + (d.val - 4096 - 4096) = d.val := by omega
      simp only [e]

end Cert.ProjReferenceIdeal.Own

end
-- ==== Proof.ProjVal.lean ====
/- The projection kernel's result array is its reference's. -/
module

public import proofs.«01_k».proof.Proof.ProjBlk
public import proofs.«01_k».proof.Proof.ProjRef
public import Idealize.ShloMosaic.Lib.Pipeline.ValueKit.Geometry

@[expose] public section

set_option maxRecDepth 16384

noncomputable section

namespace Cert.ProjIdeal.Own

open Idealize.ShloMosaic Cert.ProjIdeal Cert.ProjIdeal.Gen Cert.ProjIdeal.Value
open Cert.ProjReferenceIdeal.Own (freqs col ang core result result_at)

variable (m : (ℓ : Loc nD τ sig) → Buf (Elt Ideal) ℓ) (c : Dev nD)

theorem tlt (t : Fin cfg0.N) : t.val < 448 := t.isLt

theorem tr0 : ∀ t : Fin grid0.N, cc0_transform_0 (grid0.coords t) = ![t.val / 28, 0] := by decide +kernel
theorem tr1 : ∀ t : Fin grid0.N, cc0_transform_1 (grid0.coords t) = ![0, t.val % 28] := by decide +kernel
theorem tr2 : ∀ t : Fin grid0.N, cc0_transform_2 (grid0.coords t) = ![t.val / 28, 0] := by decide +kernel
theorem tr3 : ∀ t : Fin grid0.N, cc0_transform_3 (grid0.coords t) = ![t.val / 28, 0] := by decide +kernel
theorem tr4 : ∀ t : Fin grid0.N, cc0_transform_4 (grid0.coords t) = ![t.val / 28, t.val % 28] := by decide +kernel
theorem co1 : ∀ t : Fin grid0.N, ((grid0.coords t) 1).val = t.val % 28 := by decide +kernel

/-- Each row's angles. -/
def angles (P : IVec S4x4096 32) (f : FVec Ideal S16 .f32) : FVec Ideal S16384x16 .f32 :=
  mulf (broadcastInDim S16384x16 ![0, 1] bcast_S16384x1_S16384x16_0_1 (shapeCast S16384x1 (sitofp .f32 P : FVec Ideal S4x4096 .f32) shapeCasts_S4x4096_S16384x1))
    (broadcastInDim S16384x16 ![0, 1] bcast_S1x16_S16384x16_0_1 (broadcastInDim S1x16 ![1] bcast_S16_S1x16_1 f))

/-- A table: two columns of sixteen and a constant. -/
def table (u v : FVec Ideal S16384x16 .f32) (b : BitVec 32) : FVec Ideal S16384x128 .f32 :=
  concatenate S16384x128 1 [⟨S16384x16, u⟩, ⟨S16384x16, v⟩, ⟨S16384x96, broadcastInDim S16384x96 ![] bcast_S_S16384x96 (constant S_ .f32 b)⟩] concatenates_S16384x16_S16384x16_S16384x96_S16384x128_d1

theorem V_cos : (V m c main_v19 : FVec Ideal S16384x128 .f32) = table (Host.cos (angles (m ((c.tc : Thread nD τ).loc main_arg2)) freqs)) (Host.cos (angles (m ((c.tc : Thread nD τ).loc main_arg2)) freqs)) 0x3F800000#32 := by
  simp only [V, hostOps0, List.flatten_cons, List.flatten_nil, List.append_nil, List.cons_append, List.nil_append]
  after_results_simp <;> (try dsimp only [Matrix.cons_val]) <;> (try after_results_simp) <;> (try dsimp only [Matrix.cons_val]) <;> (try after_results_simp) <;> rfl

theorem V_sin : (V m c main_v22 : FVec Ideal S16384x128 .f32) = table (Host.negf (Host.sin (angles (m ((c.tc : Thread nD τ).loc main_arg2)) freqs))) (Host.sin (angles (m ((c.tc : Thread nD τ).loc main_arg2)) freqs)) 0x00000000#32 := by
  simp only [V, hostOps0, List.flatten_cons, List.flatten_nil, List.append_nil, List.cons_append, List.nil_append]
  after_results_simp <;> (try dsimp only [Matrix.cons_val]) <;> (try after_results_simp) <;> (try dsimp only [Matrix.cons_val]) <;> (try after_results_simp) <;> rfl

theorem V_w : (V m c main_v23 : FVec Ideal S4096x28672 .bf16) = (truncf .bf16 (m ((c.tc : Thread nD τ).loc main_arg1) : FVec Ideal S4096x28672 .f32) bitsLt_bf16_f32 : FVec Ideal S4096x28672 .bf16) := by
  simp only [V, hostOps0, List.flatten_cons, List.flatten_nil, List.append_nil, List.cons_append, List.nil_append]
  after_results_simp <;> rfl

theorem table_at (u v : FVec Ideal S16384x16 .f32) (b : BitVec 32) (r : Fin 16384) (l : Fin 128) :
    table u v b (ix2 r l) = if h1 : l.val < 16 then u (ix2 r ⟨l.val, h1⟩) else if h2 : l.val - 16 < 16 then v (ix2 r ⟨l.val - 16, h2⟩) else Ideal.ofBits .f32 b := by
  pointwise [table]

theorem angles_at (P : IVec S4x4096 32) (r : Fin 16384) (j : Fin 16) : angles P freqs (ix2 r j) = ang P r j.val := by
  rw [ang, dif_pos j.isLt]
  generalize freqs = f
  pointwise [angles]

theorem cos_at (P : IVec S4x4096 32) (r : Fin 16384) (j : Fin 16) : Host.cos (angles P freqs) (ix2 r j) = Ideal.cos (ang P r j.val) :=
  congrArg Ideal.cos (angles_at P r j)

theorem sin_at (P : IVec S4x4096 32) (r : Fin 16384) (j : Fin 16) : Host.sin (angles P freqs) (ix2 r j) = Ideal.sin (ang P r j.val) :=
  congrArg Ideal.sin (angles_at P r j)

theorem nsin_at (P : IVec S4x4096 32) (r : Fin 16384) (j : Fin 16) : Host.negf (Host.sin (angles P freqs)) (ix2 r j) = -Ideal.sin (ang P r j.val) :=
  congrArg (fun x : EReal => -Ideal.sin x) (angles_at P r j)

/-- The two tables' entries. -/
def tcos (P : IVec S4x4096 32) (r : Fin 16384) (l : ℕ) : EReal := if l < 16 then Ideal.cos (ang P r l) else if l - 16 < 16 then Ideal.cos (ang P r (l - 16)) else 1
def tsin (P : IVec S4x4096 32) (r : Fin 16384) (l : ℕ) : EReal := if l < 16 then -Ideal.sin (ang P r l) else if l - 16 < 16 then Ideal.sin (ang P r (l - 16)) else 0

theorem V_cos_at (r : Fin 16384) (l : Fin 128) : (V m c main_v19 : FVec Ideal S16384x128 .f32) (ix2 r l) = tcos (m ((c.tc : Thread nD τ).loc main_arg2)) r l.val := by
  rw [V_cos, table_at, tcos]
  by_cases h1 : l.val < 16
  · rw [dif_pos h1, if_pos h1, cos_at]
  · rw [dif_neg h1, if_neg h1]
    by_cases h2 : l.val - 16 < 16
    · rw [dif_pos h2, if_pos h2, cos_at]
    · rw [dif_neg h2, if_neg h2, Ideal.ofBits_one_f32]

theorem V_sin_at (r : Fin 16384) (l : Fin 128) : (V m c main_v22 : FVec Ideal S16384x128 .f32) (ix2 r l) = tsin (m ((c.tc : Thread nD τ).loc main_arg2)) r l.val := by
  rw [V_sin, table_at, tsin]
  by_cases h1 : l.val < 16
  · rw [dif_pos h1, if_pos h1, nsin_at]
  · rw [dif_neg h1, if_neg h1]
    by_cases h2 : l.val - 16 < 16
    · rw [dif_pos h2, if_pos h2, sin_at]
    · rw [dif_neg h2, if_neg h2, Ideal.ofBits_zero_f32]

theorem a_at (t : Fin cfg0.N) (y : Fin 1024) (k : Fin 4096) : (iblk m c 0 t : FVec Ideal S1024x4096 .bf16) (ix2 y k)
    = (m ((c.tc : Thread nD τ).loc main_arg0) : FVec Ideal S16384x4096 .bf16) (ix2 ⟨t.val / 28 * 1024 + y.val, by have := tlt t; omega⟩ k) := by
  refine Eq.trans ?_ (congrFun (V_main_arg0 m c) _)
  refine congrArg (V m c main_arg0) (funext fun a => Fin.ext ?_)
  fin_cases a
  · show cc0_transform_0 (grid0.coords t) 0 * 1024 + 1 * y.val = _
    rw [show cc0_transform_0 (grid0.coords t) 0 = _ from congrFun (tr0 t) 0, Nat.one_mul]; rfl
  · show cc0_transform_0 (grid0.coords t) 1 * 4096 + 1 * k.val = k.val
    rw [show cc0_transform_0 (grid0.coords t) 1 = 0 from congrFun (tr0 t) 1]; omega

theorem w_at (t : Fin cfg0.N) (k : Fin 4096) (e : Fin 1024) : (iblk m c 1 t : FVec Ideal S4096x1024 .bf16) (ix2 k e)
    = (m ((c.tc : Thread nD τ).loc main_arg1) : FVec Ideal S4096x28672 .f32) (ix2 k ⟨t.val % 28 * 1024 + e.val, by omega⟩) := by
  refine Eq.trans ?_ (congrFun (V_w m c) _)
  refine congrArg (V m c main_v23) (funext fun a => Fin.ext ?_)
  fin_cases a
  · show cc0_transform_1 (grid0.coords t) 0 * 4096 + 1 * k.val = k.val
    rw [show cc0_transform_1 (grid0.coords t) 0 = 0 from congrFun (tr1 t) 0]; omega
  · show cc0_transform_1 (grid0.coords t) 1 * 1024 + 1 * e.val = _
    rw [show cc0_transform_1 (grid0.coords t) 1 = _ from congrFun (tr1 t) 1, Nat.one_mul]; rfl

theorem c_at (t : Fin cfg0.N) (y : Fin 1024) (l : Fin 128) : (iblk m c 2 t : FVec Ideal S1024x128 .f32) (ix2 y l)
    = tcos (m ((c.tc : Thread nD τ).loc main_arg2)) ⟨t.val / 28 * 1024 + y.val, by have := tlt t; omega⟩ l.val := by
  refine Eq.trans ?_ (V_cos_at m c _ l)
  refine congrArg (V m c main_v19) (funext fun a => Fin.ext ?_)
  fin_cases a
  · show cc0_transform_2 (grid0.coords t) 0 * 1024 + 1 * y.val = _
    rw [show cc0_transform_2 (grid0.coords t) 0 = _ from congrFun (tr2 t) 0, Nat.one_mul]; rfl
  · show cc0_transform_2 (grid0.coords t) 1 * 128 + 1 * l.val = l.val
    rw [show cc0_transform_2 (grid0.coords t) 1 = 0 from congrFun (tr2 t) 1]; omega

theorem s_at (t : Fin cfg0.N) (y : Fin 1024) (l : Fin 128) : (iblk m c 3 t : FVec Ideal S1024x128 .f32) (ix2 y l)
    = tsin (m ((c.tc : Thread nD τ).loc main_arg2)) ⟨t.val / 28 * 1024 + y.val, by have := tlt t; omega⟩ l.val := by
  refine Eq.trans ?_ (V_sin_at m c _ l)
  refine congrArg (V m c main_v22) (funext fun a => Fin.ext ?_)
  fin_cases a
  · show cc0_transform_3 (grid0.coords t) 0 * 1024 + 1 * y.val = _
    rw [show cc0_transform_3 (grid0.coords t) 0 = _ from congrFun (tr3 t) 0, Nat.one_mul]; rfl
  · show cc0_transform_3 (grid0.coords t) 1 * 128 + 1 * l.val = l.val
    rw [show cc0_transform_3 (grid0.coords t) 1 = 0 from congrFun (tr3 t) 1]; omega

theorem emb4 (t : Fin cfg0.N) (y e : Fin 1024) : (((cfg0.win 4).blk t).view.emb (ix2 y e : S1024x1024.Idx) : S16384x28672.Idx)
    = ix2 ⟨t.val / 28 * 1024 + y.val, by have := tlt t; omega⟩ ⟨t.val % 28 * 1024 + e.val, by omega⟩ := by
  refine funext fun a => Fin.ext ?_
  fin_cases a
  · show cc0_transform_4 (grid0.coords t) 0 * 1024 + 1 * y.val = _
    rw [show cc0_transform_4 (grid0.coords t) 0 = _ from congrFun (tr4 t) 0, Nat.one_mul]; rfl
  · show cc0_transform_4 (grid0.coords t) 1 * 1024 + 1 * e.val = _
    rw [show cc0_transform_4 (grid0.coords t) 1 = _ from congrFun (tr4 t) 1, Nat.one_mul]; rfl

theorem acc_col (t : Fin cfg0.N) (y : Fin 1024) (e : ℕ) (he : e < 1024) : acc (iblk m c 0 t) (iblk m c 1 t) y e
    = col (m ((c.tc : Thread nD τ).loc main_arg0)) (m ((c.tc : Thread nD τ).loc main_arg1)) ⟨t.val / 28 * 1024 + y.val, by have := tlt t; omega⟩ (t.val % 28 * 1024 + e) := by
  rw [acc, dif_pos he, col, dif_pos (by omega)]
  refine Finset.sum_congr rfl fun k _ => ?_
  rw [a_at, w_at]

theorem real_128 : Ideal.ofBits .f32 0x43000000#32 = ((128 : ℝ) : EReal) := by
  simp [Ideal.ofBits, Ideal.ieee, -EReal.coe_mul]; norm_num

theorem real_2 : Ideal.ofBits .f32 0x40000000#32 = ((2 : ℝ) : EReal) := by
  simp [Ideal.ofBits, Ideal.ieee, -EReal.coe_mul]; norm_num

/-- Dividing by the two constants is the scale. -/
theorem div_fac (x : EReal) : Ideal.div (Ideal.div x (Ideal.sqrt (Ideal.ofBits .f32 0x43000000#32))) (Ideal.log (Ideal.ofBits .f32 0x40000000#32))
    = x * (((Real.sqrt 128)⁻¹ * (Real.log 2)⁻¹ : ℝ) : EReal) := by
  have h1 : Real.sqrt 128 ≠ 0 := (Real.sqrt_pos.mpr (by norm_num)).ne'
  have h2 : Real.log 2 ≠ 0 := (Real.log_pos (by norm_num)).ne'
  rw [real_128, real_2, Ideal.sqrt_coe, Ideal.log_coe, if_neg (by norm_num), if_neg (by norm_num), Ideal.div_coe h1, Ideal.div_coe h2, mul_assoc, ← EReal.coe_mul, one_div, one_div]

theorem fac_nonneg (j : ℕ) : 0 ≤ fac j := by
  rw [fac]
  split_ifs
  · exact EReal.coe_nonneg.mpr (mul_nonneg (inv_nonneg.mpr (Real.sqrt_nonneg _)) (inv_nonneg.mpr (Real.log_pos (by norm_num)).le))
  · exact zero_le_one

theorem fac_ne_top (j : ℕ) : fac j ≠ ⊤ := by
  rw [fac]
  split_ifs
  · exact EReal.coe_ne_top _
  · exact EReal.coe_ne_top 1

/-- The scale taken out of the sum of two products. -/
theorem scale_out (j : ℕ) (x u y v : EReal) : x * (u * fac j) + y * (v * fac j) = (x * u + y * v) * fac j := by
  rw [← mul_assoc, ← mul_assoc, EReal.right_distrib_of_nonneg_of_ne_top (fac_nonneg j) (fac_ne_top j)]

/-- A column and its mate against the two tables are the turned column. -/
theorem turned (A : FVec Ideal S16384x4096 .bf16) (W : FVec Ideal S4096x28672 .f32) (P : IVec S4x4096 32) (r : Fin 16384) (o l : ℕ) (ho : o % 128 = 0) (hl : l < 128) :
    col A W r (o + l) * tcos P r l + col A W r (mate (o + l)) * tsin P r l = core A W P r o l := by
  rw [mate_add o l ho hl, tcos, tsin, core]
  by_cases h1 : l < 16
  · rw [if_pos h1, if_pos h1, if_pos h1, if_pos h1, mul_neg, ← sub_eq_add_neg, Nat.mod_eq_of_lt (by omega : l + 16 < 128), Nat.add_comm l 16]
  · rw [if_neg h1, if_neg h1, if_neg h1, if_neg h1]
    by_cases h2 : l - 16 < 16
    · rw [if_pos h2, if_pos h2, if_pos h2, show 16 + (l - 16) = l by omega, show (l + 112) % 128 = l - 16 by omega]
    · rw [if_neg h2, if_neg h2, if_neg h2, mul_one, mul_zero, add_zero, show 32 + (l - 16 - 16) = l by omega]

theorem result_eq (A : FVec Ideal S16384x4096 .bf16) (W : FVec Ideal S4096x28672 .f32) (P : IVec S4x4096 32) (r : Fin 16384) (j e : ℕ) (he : e < 1024) (hd : j * 1024 + e < 28672) :
    col A W r (j * 1024 + e) * ((if j < 8 then tcos P r (e % 128) else 1) * fac j) + col A W r (j * 1024 + mate e) * ((if j < 8 then tsin P r (e % 128) else 0) * fac j)
      = result A W P (ix2 r ⟨j * 1024 + e, hd⟩) := by
  rw [result_at, scale_out]
  have e1 : (j * 1024 + e) / 128 * 128 + (j * 1024 + e) % 128 = j * 1024 + e := by omega
  have e2 : (j * 1024 + e) % 128 = e % 128 := by omega
  have e3 : j * 1024 + mate e = mate (j * 1024 + e) := by rw [mate, mate, e2]; omega
  have ht := turned A W P r ((j * 1024 + e) / 128 * 128) ((j * 1024 + e) % 128) (by omega) (by omega)
  rw [e1] at ht
  rw [e3, ← e2]
  show _ = if j * 1024 + e < 4096 then _ else if j * 1024 + e < 8192 then _ else _
  by_cases h1 : j < 4
  · rw [if_pos (by omega), if_pos (by omega), if_pos (by omega), ht, div_fac, fac, if_pos h1]
  · rw [if_neg (by omega : ¬ j * 1024 + e < 4096), fac, if_neg h1, mul_one]
    by_cases h2 : j < 8
    · rw [if_pos h2, if_pos h2, if_pos (by omega : j * 1024 + e < 8192), ht]
    · rw [if_neg h2, if_neg h2, if_neg (by omega : ¬ j * 1024 + e < 8192), mul_one, mul_zero, add_zero]

theorem mate_lt (e : ℕ) (he : e < 1024) : mate e < 1024 := by
  rw [mate]
  split_ifs <;> omega

/-- The result array, of the launch's arguments. -/
def goal : FVec Ideal S16384x28672 .bf16 :=
  result (m ((c.tc : Thread nD τ).loc main_arg0)) (m ((c.tc : Thread nD τ).loc main_arg1)) (m ((c.tc : Thread nD τ).loc main_arg2))

theorem out_eq (t : Fin cfg0.N) (y e : Fin 1024) :
    out0_4 (F := Ideal) (grid0.coords t) (iblk m c 0 t) (iblk m c 1 t) (iblk m c 2 t) (iblk m c 3 t) (ix2 y e)
      = goal m c (ix2 ⟨t.val / 28 * 1024 + y.val, by have := tlt t; omega⟩ ⟨t.val % 28 * 1024 + e.val, by omega⟩) := by
  rw [out_at, pay6_at, pay7_at, co1, acc_col m c t y e.val e.isLt, acc_col m c t y (mate e.val) (mate_lt _ e.isLt), c_at, s_at]
  exact result_eq _ _ _ _ _ _ e.isLt _

theorem final : (dats m 0 c).arrAt 4 cfg0.N = goal m c := by
  refine (dats m 0 c).arrAt_eq_of_covers 4 _ (by decide +kernel) fun t _ y => ?_
  obtain ⟨a, d, rfl⟩ : ∃ (a d : Fin 1024), y = (ix2 a d : S1024x1024.Idx) := ⟨y 0, y 1, eq_ix2 (n0 := 1024) (n1 := 1024) y⟩
  refine (congrFun (after0_4 m c t) (ix2 a d)).trans ((out_eq m c t a d).trans ?_)
  exact (congrArg (goal m c) (emb4 t a d)).symm

end Cert.ProjIdeal.Own

end
-- ==== Proof.MixBlk.lean ====
/- The mix kernel's block, read at an index. -/
module

public import proofs.«01_k».proof.Proof.Gen.MixIdeal.Value
public import Idealize.ShloMosaic.Lib.Pointwise
public import Idealize.ShloMosaic.Lib.IdealHost
public import Idealize.ShloMosaic.Lib.Pipeline.ValueKit.Geometry

@[expose] public section

set_option maxRecDepth 16384

noncomputable section

namespace Cert.MixIdeal.Own

open Idealize.ShloMosaic Cert.MixIdeal Cert.MixIdeal.Gen Cert.MixIdeal.Value

theorem pay_at (a : FVec Ideal S512x4096 .bf16) (u : FVec Ideal S4096x512 .bf16) (r : FVec Ideal S512x4096 .bf16) (w : FVec Ideal S4096x512 .bf16)
    (p : FVec Ideal S512x512 .bf16) (b : FVec Ideal S1x512 .f32) (q : FVec Ideal S512x512 .bf16) (e : FVec Ideal S1x512 .f32) (y d : Fin 512) :
    (k0_pay1 (F := Ideal) a u r w p b q e : FVec Ideal S512x512 .bf16) (ix2 y d)
      = Ideal.logistic (p (ix2 y d) + b (ix2 0 d)) * (∑ k : Fin 4096, a (ix2 y k) * u (ix2 k d))
        + Ideal.logistic (q (ix2 y d) + e (ix2 0 d)) * (∑ k : Fin 4096, r (ix2 y k) * w (ix2 k d)) := by
  pointwise [k0_pay1]

end Cert.MixIdeal.Own

end
-- ==== Proof.MixRef.lean ====
/- The mix's reference result, stage by stage, read at an index. -/
module

public import proofs.«01_k».proof.Proof.Gen.MixReferenceIdeal.Run
public import Idealize.ShloMosaic.Lib.Pointwise
public import Idealize.ShloMosaic.Lib.IdealHost

@[expose] public section

set_option maxRecDepth 16384

noncomputable section

namespace Cert.MixReferenceIdeal.Own

open Idealize.ShloMosaic Cert.MixReferenceIdeal Cert.MixReferenceIdeal.Gen Cert.MixReferenceIdeal.Value

/-- Both branches' gates, side by side. -/
def gates (P : FVec Ideal S16384x28672 .bf16) (B : FVec Ideal S8192 .f32) : FVec Ideal S16384x2x4096 .f32 :=
  shapeCast _ (Host.divf (broadcastInDim S16384x8192 ![] bcast_S_S16384x8192 (constant S_ .f32 0x3F800000#32)) (addf (broadcastInDim S16384x8192 ![] bcast_S_S16384x8192 (constant S_ .f32 0x3F800000#32)) (Host.exp (Host.negf (addf (extf .f32 (extractStridedSlice S16384x8192 ![0, 20480] P slices_S16384x28672_S16384x8192_0_20480) bitsLt_bf16_f32) (broadcastInDim S16384x8192 ![0, 1] bcast_S1x8192_S16384x8192_0_1 (broadcastInDim S1x8192 ![1] bcast_S8192_S1x8192_1 B))))))) shapeCasts_S16384x8192_S16384x2x4096

/-- The gated sum of the two branches' projections. -/
def result (A R : FVec Ideal S16384x4096 .bf16) (U W : FVec Ideal S4096x4096 .f32) (G : FVec Ideal S16384x2x4096 .f32) : FVec Ideal S16384x4096 .bf16 :=
  truncf .bf16 (addf (mulf (shapeCast _ (extractStridedSlice S16384x1x4096 ![0, 0, 0] G slices_S16384x2x4096_S16384x1x4096_0_0_0) shapeCasts_S16384x1x4096_S16384x4096) (Host.dotGeneral dot_S16384x4096_S4096x4096_S16384x4096_1_0_0_1_n_n none (extf .f32 A bitsLt_bf16_f32) U)) (mulf (shapeCast _ (extractStridedSlice S16384x1x4096 ![0, 1, 0] G slices_S16384x2x4096_S16384x1x4096_0_1_0) shapeCasts_S16384x1x4096_S16384x4096) (Host.dotGeneral dot_S16384x4096_S4096x4096_S16384x4096_1_0_0_1_n_n none (extf .f32 R bitsLt_bf16_f32) W))) bitsLt_bf16_f32

theorem gates_at (P : FVec Ideal S16384x28672 .bf16) (B : FVec Ideal S8192 .f32) (r : Fin 16384) (g : Fin 2) (d : Fin 4096) :
    gates P B (ix3 r g d) = Ideal.div (Ideal.ofBits .f32 0x3F800000#32) (Ideal.ofBits .f32 0x3F800000#32 + Ideal.exp (-(P (ix2 r ⟨20480 + (g.val * 4096 + d.val), by omega⟩) + B (ix1 ⟨g.val * 4096 + d.val, by omega⟩)))) := by
  pointwise [gates]

theorem result_at (A R : FVec Ideal S16384x4096 .bf16) (U W : FVec Ideal S4096x4096 .f32) (G : FVec Ideal S16384x2x4096 .f32) (r : Fin 16384) (d : Fin 4096) :
    result A R U W G (ix2 r d) = G (ix3 r 0 d) * (∑ k : Fin 4096, A (ix2 r k) * U (ix2 k d)) + G (ix3 r 1 d) * (∑ k : Fin 4096, R (ix2 r k) * W (ix2 k d)) := by
  pointwise [result]

end Cert.MixReferenceIdeal.Own

end
-- ==== Proof.MixVal.lean ====
/- The mix kernel's result array is its reference's. -/
module

public import proofs.«01_k».proof.Proof.MixBlk
public import proofs.«01_k».proof.Proof.MixRef
public import Idealize.ShloMosaic.Lib.Pipeline.ValueKit.Acc

@[expose] public section

set_option maxRecDepth 16384

noncomputable section

namespace Cert.MixIdeal.Own

open Idealize.ShloMosaic Cert.MixIdeal Cert.MixIdeal.Gen Cert.MixIdeal.Value
open Cert.MixReferenceIdeal.Own (gates gates_at result result_at)

variable (m : (ℓ : Loc nD τ sig) → Buf (Elt Ideal) ℓ) (c : Dev nD)

theorem tlt (t : Fin cfg0.N) : t.val < 256 := t.isLt

theorem tr0 : ∀ t : Fin grid0.N, cc0_transform_0 (grid0.coords t) = ![t.val / 8, 0] := by decide +kernel
theorem tr1 : ∀ t : Fin grid0.N, cc0_transform_1 (grid0.coords t) = ![t.val / 8, 0] := by decide +kernel
theorem tr2 : ∀ t : Fin grid0.N, cc0_transform_2 (grid0.coords t) = ![0, t.val % 8] := by decide +kernel
theorem tr3 : ∀ t : Fin grid0.N, cc0_transform_3 (grid0.coords t) = ![0, t.val % 8] := by decide +kernel
theorem tr4 : ∀ t : Fin grid0.N, cc0_transform_4 (grid0.coords t) = ![t.val / 8, 40 + t.val % 8] := by decide +kernel
theorem tr5 : ∀ t : Fin grid0.N, cc0_transform_5 (grid0.coords t) = ![t.val / 8, 48 + t.val % 8] := by decide +kernel
theorem tr6 : ∀ t : Fin grid0.N, cc0_transform_6 (grid0.coords t) = ![0, t.val % 8] := by decide +kernel
theorem tr7 : ∀ t : Fin grid0.N, cc0_transform_7 (grid0.coords t) = ![0, 8 + t.val % 8] := by decide +kernel
theorem tr8 : ∀ t : Fin grid0.N, cc0_transform_8 (grid0.coords t) = ![t.val / 8, t.val % 8] := by decide +kernel

theorem V_wa : (V m c main_v0 : FVec Ideal S4096x4096 .bf16) = (truncf .bf16 (m ((c.tc : Thread nD τ).loc main_arg2) : FVec Ideal S4096x4096 .f32) bitsLt_bf16_f32 : FVec Ideal S4096x4096 .bf16) := by
  simp only [V, hostOps0, List.flatten_cons, List.flatten_nil, List.append_nil, List.cons_append, List.nil_append]
  after_results_simp <;> rfl

theorem V_wr : (V m c main_v1 : FVec Ideal S4096x4096 .bf16) = (truncf .bf16 (m ((c.tc : Thread nD τ).loc main_arg3) : FVec Ideal S4096x4096 .f32) bitsLt_bf16_f32 : FVec Ideal S4096x4096 .bf16) := by
  simp only [V, hostOps0, List.flatten_cons, List.flatten_nil, List.append_nil, List.cons_append, List.nil_append]
  after_results_simp <;> rfl

theorem V_ba : (V m c main_v2 : FVec Ideal S1x8192 .f32) = shapeCast S1x8192 (m ((c.tc : Thread nD τ).loc main_arg5) : FVec Ideal S8192 .f32) shapeCasts_S8192_S1x8192 := by
  simp only [V, hostOps0, List.flatten_cons, List.flatten_nil, List.append_nil, List.cons_append, List.nil_append]
  after_results_simp <;> rfl

theorem V_br : (V m c main_v3 : FVec Ideal S1x8192 .f32) = shapeCast S1x8192 (m ((c.tc : Thread nD τ).loc main_arg5) : FVec Ideal S8192 .f32) shapeCasts_S8192_S1x8192 := by
  simp only [V, hostOps0, List.flatten_cons, List.flatten_nil, List.append_nil, List.cons_append, List.nil_append]
  after_results_simp <;> rfl

theorem flat_at (B : FVec Ideal S8192 .f32) (k : Fin 8192) : shapeCast S1x8192 B shapeCasts_S8192_S1x8192 (ix2 0 k) = B (ix1 k) := by
  pointwise

theorem a_at (t : Fin cfg0.N) (y : Fin 512) (k : Fin 4096) : (iblk m c 0 t : FVec Ideal S512x4096 .bf16) (ix2 y k)
    = (m ((c.tc : Thread nD τ).loc main_arg0) : FVec Ideal S16384x4096 .bf16) (ix2 ⟨t.val / 8 * 512 + y.val, by have := tlt t; omega⟩ k) := by
  refine Eq.trans ?_ (congrFun (V_main_arg0 m c) _)
  refine congrArg (V m c main_arg0) (funext fun a => Fin.ext ?_)
  fin_cases a
  · show cc0_transform_0 (grid0.coords t) 0 * 512 + 1 * y.val = _
    rw [show cc0_transform_0 (grid0.coords t) 0 = _ from congrFun (tr0 t) 0, Nat.one_mul]; rfl
  · show cc0_transform_0 (grid0.coords t) 1 * 4096 + 1 * k.val = k.val
    rw [show cc0_transform_0 (grid0.coords t) 1 = 0 from congrFun (tr0 t) 1]; omega

theorem r_at (t : Fin cfg0.N) (y : Fin 512) (k : Fin 4096) : (iblk m c 1 t : FVec Ideal S512x4096 .bf16) (ix2 y k)
    = (m ((c.tc : Thread nD τ).loc main_arg1) : FVec Ideal S16384x4096 .bf16) (ix2 ⟨t.val / 8 * 512 + y.val, by have := tlt t; omega⟩ k) := by
  refine Eq.trans ?_ (congrFun (V_main_arg1 m c) _)
  refine congrArg (V m c main_arg1) (funext fun a => Fin.ext ?_)
  fin_cases a
  · show cc0_transform_1 (grid0.coords t) 0 * 512 + 1 * y.val = _
    rw [show cc0_transform_1 (grid0.coords t) 0 = _ from congrFun (tr1 t) 0, Nat.one_mul]; rfl
  · show cc0_transform_1 (grid0.coords t) 1 * 4096 + 1 * k.val = k.val
    rw [show cc0_transform_1 (grid0.coords t) 1 = 0 from congrFun (tr1 t) 1]; omega

theorem u_at (t : Fin cfg0.N) (k : Fin 4096) (d : Fin 512) : (iblk m c 2 t : FVec Ideal S4096x512 .bf16) (ix2 k d)
    = (m ((c.tc : Thread nD τ).loc main_arg2) : FVec Ideal S4096x4096 .f32) (ix2 k ⟨t.val % 8 * 512 + d.val, by omega⟩) := by
  refine Eq.trans ?_ (congrFun (V_wa m c) _)
  refine congrArg (V m c main_v0) (funext fun a => Fin.ext ?_)
  fin_cases a
  · show cc0_transform_2 (grid0.coords t) 0 * 4096 + 1 * k.val = k.val
    rw [show cc0_transform_2 (grid0.coords t) 0 = 0 from congrFun (tr2 t) 0]; omega
  · show cc0_transform_2 (grid0.coords t) 1 * 512 + 1 * d.val = _
    rw [show cc0_transform_2 (grid0.coords t) 1 = _ from congrFun (tr2 t) 1, Nat.one_mul]; rfl

theorem w_at (t : Fin cfg0.N) (k : Fin 4096) (d : Fin 512) : (iblk m c 3 t : FVec Ideal S4096x512 .bf16) (ix2 k d)
    = (m ((c.tc : Thread nD τ).loc main_arg3) : FVec Ideal S4096x4096 .f32) (ix2 k ⟨t.val % 8 * 512 + d.val, by omega⟩) := by
  refine Eq.trans ?_ (congrFun (V_wr m c) _)
  refine congrArg (V m c main_v1) (funext fun a => Fin.ext ?_)
  fin_cases a
  · show cc0_transform_3 (grid0.coords t) 0 * 4096 + 1 * k.val = k.val
    rw [show cc0_transform_3 (grid0.coords t) 0 = 0 from congrFun (tr3 t) 0]; omega
  · show cc0_transform_3 (grid0.coords t) 1 * 512 + 1 * d.val = _
    rw [show cc0_transform_3 (grid0.coords t) 1 = _ from congrFun (tr3 t) 1, Nat.one_mul]; rfl

theorem p_at (t : Fin cfg0.N) (y d : Fin 512) : (iblk m c 4 t : FVec Ideal S512x512 .bf16) (ix2 y d)
    = (m ((c.tc : Thread nD τ).loc main_arg4) : FVec Ideal S16384x28672 .bf16) (ix2 ⟨t.val / 8 * 512 + y.val, by have := tlt t; omega⟩ ⟨(40 + t.val % 8) * 512 + d.val, by omega⟩) := by
  refine Eq.trans ?_ (congrFun (V_main_arg4 m c) _)
  refine congrArg (V m c main_arg4) (funext fun a => Fin.ext ?_)
  fin_cases a
  · show cc0_transform_4 (grid0.coords t) 0 * 512 + 1 * y.val = _
    rw [show cc0_transform_4 (grid0.coords t) 0 = _ from congrFun (tr4 t) 0, Nat.one_mul]; rfl
  · show cc0_transform_4 (grid0.coords t) 1 * 512 + 1 * d.val = _
    rw [show cc0_transform_4 (grid0.coords t) 1 = _ from congrFun (tr4 t) 1, Nat.one_mul]; rfl

theorem q_at (t : Fin cfg0.N) (y d : Fin 512) : (iblk m c 5 t : FVec Ideal S512x512 .bf16) (ix2 y d)
    = (m ((c.tc : Thread nD τ).loc main_arg4) : FVec Ideal S16384x28672 .bf16) (ix2 ⟨t.val / 8 * 512 + y.val, by have := tlt t; omega⟩ ⟨(48 + t.val % 8) * 512 + d.val, by omega⟩) := by
  refine Eq.trans ?_ (congrFun (V_main_arg4 m c) _)
  refine congrArg (V m c main_arg4) (funext fun a => Fin.ext ?_)
  fin_cases a
  · show cc0_transform_5 (grid0.coords t) 0 * 512 + 1 * y.val = _
    rw [show cc0_transform_5 (grid0.coords t) 0 = _ from congrFun (tr5 t) 0, Nat.one_mul]; rfl
  · show cc0_transform_5 (grid0.coords t) 1 * 512 + 1 * d.val = _
    rw [show cc0_transform_5 (grid0.coords t) 1 = _ from congrFun (tr5 t) 1, Nat.one_mul]; rfl

theorem b_at (t : Fin cfg0.N) (d : Fin 512) : (iblk m c 6 t : FVec Ideal S1x512 .f32) (ix2 0 d)
    = (m ((c.tc : Thread nD τ).loc main_arg5) : FVec Ideal S8192 .f32) (ix1 ⟨t.val % 8 * 512 + d.val, by omega⟩) := by
  refine Eq.trans ?_ ((congrFun (V_ba m c) _).trans (flat_at _ _))
  refine congrArg (V m c main_v2) (funext fun a => Fin.ext ?_)
  fin_cases a
  · show cc0_transform_6 (grid0.coords t) 0 * 1 + 1 * 0 = 0
    rw [show cc0_transform_6 (grid0.coords t) 0 = 0 from congrFun (tr6 t) 0]
  · show cc0_transform_6 (grid0.coords t) 1 * 512 + 1 * d.val = _
    rw [show cc0_transform_6 (grid0.coords t) 1 = _ from congrFun (tr6 t) 1, Nat.one_mul]; rfl

theorem e_at (t : Fin cfg0.N) (d : Fin 512) : (iblk m c 7 t : FVec Ideal S1x512 .f32) (ix2 0 d)
    = (m ((c.tc : Thread nD τ).loc main_arg5) : FVec Ideal S8192 .f32) (ix1 ⟨(8 + t.val % 8) * 512 + d.val, by omega⟩) := by
  refine Eq.trans ?_ ((congrFun (V_br m c) _).trans (flat_at _ _))
  refine congrArg (V m c main_v3) (funext fun a => Fin.ext ?_)
  fin_cases a
  · show cc0_transform_7 (grid0.coords t) 0 * 1 + 1 * 0 = 0
    rw [show cc0_transform_7 (grid0.coords t) 0 = 0 from congrFun (tr7 t) 0]
  · show cc0_transform_7 (grid0.coords t) 1 * 512 + 1 * d.val = _
    rw [show cc0_transform_7 (grid0.coords t) 1 = _ from congrFun (tr7 t) 1, Nat.one_mul]; rfl

theorem emb8 (t : Fin cfg0.N) (y d : Fin 512) : (((cfg0.win 8).blk t).view.emb (ix2 y d : S512x512.Idx) : S16384x4096.Idx)
    = ix2 ⟨t.val / 8 * 512 + y.val, by have := tlt t; omega⟩ ⟨t.val % 8 * 512 + d.val, by omega⟩ := by
  refine funext fun a => Fin.ext ?_
  fin_cases a
  · show cc0_transform_8 (grid0.coords t) 0 * 512 + 1 * y.val = _
    rw [show cc0_transform_8 (grid0.coords t) 0 = _ from congrFun (tr8 t) 0, Nat.one_mul]; rfl
  · show cc0_transform_8 (grid0.coords t) 1 * 512 + 1 * d.val = _
    rw [show cc0_transform_8 (grid0.coords t) 1 = _ from congrFun (tr8 t) 1, Nat.one_mul]; rfl

theorem logistic_eq (z : EReal) : Ideal.logistic z = Ideal.div (Ideal.ofBits .f32 0x3F800000#32) (Ideal.ofBits .f32 0x3F800000#32 + Ideal.exp (-z)) := by
  rw [Ideal.ofBits_one_f32]
  rfl

/-- The reference's result of the kernel's arguments. -/
def goal : FVec Ideal S16384x4096 .bf16 :=
  result (m ((c.tc : Thread nD τ).loc main_arg0)) (m ((c.tc : Thread nD τ).loc main_arg1)) (m ((c.tc : Thread nD τ).loc main_arg2)) (m ((c.tc : Thread nD τ).loc main_arg3))
    (gates (m ((c.tc : Thread nD τ).loc main_arg4)) (m ((c.tc : Thread nD τ).loc main_arg5)))

theorem out_eq (t : Fin cfg0.N) (y d : Fin 512) :
    (out0_8 (iblk m c 0 t) (iblk m c 1 t) (iblk m c 2 t) (iblk m c 3 t) (iblk m c 4 t) (iblk m c 5 t) (iblk m c 6 t) (iblk m c 7 t) : FVec Ideal S512x512 .bf16) (ix2 y d)
      = goal m c (ix2 ⟨t.val / 8 * 512 + y.val, by have := tlt t; omega⟩ ⟨t.val % 8 * 512 + d.val, by omega⟩) := by
  have h : out0_8 (iblk m c 0 t) (iblk m c 1 t) (iblk m c 2 t) (iblk m c 3 t) (iblk m c 4 t) (iblk m c 5 t) (iblk m c 6 t) (iblk m c 7 t)
      = k0_pay1 (F := Ideal) (iblk m c 0 t) (iblk m c 2 t) (iblk m c 1 t) (iblk m c 3 t) (iblk m c 4 t) (iblk m c 6 t) (iblk m c 5 t) (iblk m c 7 t) := by
    unfold out0_8
    frame_out
  rw [h, pay_at, goal, result_at, gates_at, gates_at, logistic_eq, logistic_eq, p_at, q_at, b_at, e_at]
  simp only [a_at, r_at, u_at, w_at]
  have e1 : (40 + t.val % 8) * 512 + d.val = 20480 + (0 * 4096 + (t.val % 8 * 512 + d.val)) := by omega
  have e2 : (48 + t.val % 8) * 512 + d.val = 20480 + (1 * 4096 + (t.val % 8 * 512 + d.val)) := by omega
  have e3 : (8 + t.val % 8) * 512 + d.val = 1 * 4096 + (t.val % 8 * 512 + d.val) := by omega
  have e4 : t.val % 8 * 512 + d.val = 0 * 4096 + (t.val % 8 * 512 + d.val) := by omega
  congr 4
  · exact congrArg Ideal.exp (congrArg Neg.neg (congrArg₂ (· + ·) (congrArg (m ((c.tc : Thread nD τ).loc main_arg4)) (congrArg (ix2 _) (Fin.ext e1))) (congrArg (m ((c.tc : Thread nD τ).loc main_arg5)) (congrArg ix1 (Fin.ext e4)))))
  · exact congrArg Ideal.exp (congrArg Neg.neg (congrArg₂ (· + ·) (congrArg (m ((c.tc : Thread nD τ).loc main_arg4)) (congrArg (ix2 _) (Fin.ext e2))) (congrArg (m ((c.tc : Thread nD τ).loc main_arg5)) (congrArg ix1 (Fin.ext e3)))))

theorem final : (dats m 0 c).arrAt 8 cfg0.N = goal m c := by
  refine (dats m 0 c).arrAt_eq_of_covers 8 _ (by decide +kernel) fun t _ y => ?_
  obtain ⟨a, d, rfl⟩ : ∃ (a d : Fin 512), y = (ix2 a d : S512x512.Idx) := ⟨y 0, y 1, eq_ix2 (n0 := 512) (n1 := 512) y⟩
  refine (congrFun (after0_8 m c t) (ix2 a d)).trans ((out_eq m c t a d).trans ?_)
  exact (congrArg (goal m c) (emb8 t a d)).symm

end Cert.MixIdeal.Own

end
-- ==== Proof.OutBody.lean ====
/- The body of the output projection's kernel, run from what it finds to what it leaves. -/
module

public import proofs.«01_k».proof.Proof.Gen.OutIdeal.Skeleton
public import proofs.«01_k».proof.Proof.Gen.OutIdeal.Frame
public import Idealize.ShloMosaic.Lib.VecWindow
public import Idealize.ShloMosaic.Lib.ValueIdxCore
public import Idealize.ShloMosaic.Lib.Exec
public import Idealize.ShloMosaic.Lib.Tactic
public import Idealize.ShloMosaic.Lib.Pipeline.Kit

@[expose] public section

set_option maxRecDepth 16384

noncomputable section

namespace Cert.OutIdeal.Own

open Idealize.ShloMosaic Idealize.ShloMosaic.TcCoe Idealize.ShloMosaic.Tactic Cert.OutIdeal Cert.OutIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem cond1_iff : ∀ i : grid0.Coords, k0_cond1 i = 1#1 ↔ (i 1).val = 7 := by decide +kernel
theorem off1_eq : ∀ i : grid0.Coords, k0_off1 i = ![(i 1).val, 0, 0] := by decide +kernel

instance (i) : ClosedOff (k0_off1 i) := ⟨_, off1_eq i⟩

/-- A buffer held whole at contents reading as `x`. -/
abbrev at_ {sp : Space} {s : Shape} {e : EltTy} (c : Dev nD) (m : Memref sig .tc sp s e) (x : Vec F s e) : sProp 𝕄G :=
  iprop(m.view.loc (c : Thread nD τ) ↦[m.view.set]{fullShare} m.view.rep x)

/-! ## The contents -/

/-- Chunk `n` of the kept rows. -/
def slc (S : Vec F S8x512x512 .f32) (n : Fin 8) : Vec F S1x512x512 .f32 :=
  VecWindow.window S ![n.val, 0, 0] S1x512x512.size (by intro a; fin_cases n <;> fin_cases a <;> decide)

/-- The kept rows with chunk `n` replaced. -/
def slPut (S : Vec F S8x512x512 .f32) (n : ℕ) (w : Vec F S1x512x512 .f32) : Vec F S8x512x512 .f32 :=
  VecWindow.put S ![n, 0, 0] S1x512x512.size w

theorem slc_slPut_same (S : Vec F S8x512x512 .f32) (n : Fin 8) (w : Vec F S1x512x512 .f32) : slc (slPut S n.val w) n = w :=
  VecWindow.window_put_same _ _ _ _ _

theorem slc_slPut_other (S : Vec F S8x512x512 .f32) (k : ℕ) (n : Fin 8) (w : Vec F S1x512x512 .f32) (h : n.val ≠ k) :
    slc (slPut S k w) n = slc S n :=
  VecWindow.window_put_of_disjoint _ _ _ _ _ _ _ 0 (by simp; omega)

/-- Chunk `n` of a row of 4096. -/
def gch (G : Vec F S1x4096 .f32) (n : Fin 8) : Vec F S1x512 .f32 :=
  VecWindow.window G ![0, n.val * 512] S1x512.size (by intro a; fin_cases n <;> fin_cases a <;> decide)

/-- The rows' means. -/
def mean (S : Vec F S8x512x512 .f32) : FVec F S512x1 .f32 :=
  k0_pay4 (k0_pay3 (slc S 0) (slc S 1) (slc S 2) (slc S 3) (slc S 4) (slc S 5)) (slc S 6) (slc S 7)

/-- The rows' variances. -/
def vari (S : Vec F S8x512x512 .f32) : FVec F S512x1 .f32 :=
  k0_pay7 (mean S) (k0_pay5 (k0_pay3 (slc S 0) (slc S 1) (slc S 2) (slc S 3) (slc S 4) (slc S 5)) (slc S 6) (slc S 7) (slc S 0) (slc S 1) (slc S 2))
    (k0_pay6 (slc S 3)) (slc S 4) (slc S 5) (slc S 6) (slc S 7)

/-- The rows' factors. -/
def rst (S : Vec F S8x512x512 .f32) : FVec F S512x1 .f32 := k0_pay9 (vari S) k0_pay8

/-- Chunk `n` of the rows normalised. -/
def nrm (S : Vec F S8x512x512 .f32) (G B : Vec F S1x4096 .f32) (n : Fin 8) : FVec F S512x512 .f32 :=
  k0_pay16 (mean S) (rst S) (slc S n) (gch G n) (gch B n)

/-- The result's block after its eight stores. -/
def res (T : Vec F S512x4096 .f32) (w : Fin 8 → FVec F S512x512 .f32) : Vec F S512x4096 .f32 :=
  VecWindow.put (VecWindow.put (VecWindow.put (VecWindow.put (VecWindow.put (VecWindow.put (VecWindow.put (VecWindow.put T
    ![0, 0] S512x512.size (w 0)) ![0, 2048] S512x512.size (w 4)) ![0, 512] S512x512.size (w 1)) ![0, 2560] S512x512.size (w 5))
    ![0, 1024] S512x512.size (w 2)) ![0, 3072] S512x512.size (w 6)) ![0, 1536] S512x512.size (w 3)) ![0, 3584] S512x512.size (w 7)

/-- A store agrees over two contents that agree outside it. -/
theorem put_same_of {s : Shape} {α : Type} (x x' : s.Idx → α) (off size : Fin s.rank → ℕ) (w : ((a : Fin s.rank) → Fin (size a)) → α) (y : s.Idx)
    (h : (¬ ∀ a, off a ≤ (y a).val ∧ (y a).val < off a + size a) → x y = x' y) : VecWindow.put x off size w y = VecWindow.put x' off size w y := by
  unfold VecWindow.put
  split
  · rfl
  · exact h ‹_›

theorem res_base (T T' : Vec F S512x4096 .f32) (w : Fin 8 → FVec F S512x512 .f32) : res T w = res T' w := by
  funext y
  have h0 : (y 0).val < 512 := (y 0).isLt
  have h1 : (y 1).val < 4096 := (y 1).isLt
  unfold res
  refine put_same_of _ _ _ _ _ y fun a7 => put_same_of _ _ _ _ _ y fun a6 => put_same_of _ _ _ _ _ y fun a5 => put_same_of _ _ _ _ _ y fun a4 =>
    put_same_of _ _ _ _ _ y fun a3 => put_same_of _ _ _ _ _ y fun a2 => put_same_of _ _ _ _ _ y fun a1 => put_same_of _ _ _ _ _ y fun a0 => ?_
  exfalso
  have k : ∀ n : ℕ, (¬ ∀ a : Fin 2, (![0, n] : Fin 2 → ℕ) a ≤ (y a).val ∧ (y a).val < (![0, n] : Fin 2 → ℕ) a + S512x512.size a) → ¬ (n ≤ (y 1).val ∧ (y 1).val < n + 512) :=
    fun n hn h => hn fun a => by
      fin_cases a
      · exact ⟨Nat.zero_le _, by show (y 0).val < 0 + 512; omega⟩
      · exact h
  have := k _ a0; have := k _ a1; have := k _ a2; have := k _ a3; have := k _ a4; have := k _ a5; have := k _ a6; have := k _ a7
  omega

/-- The packed block after its four stores. -/
def pkd (T : Vec F S512x2x2048 .bf16) (w : Fin 8 → FVec F S512x512 .f32) : Vec F S512x2x2048 .bf16 :=
  VecWindow.put (VecWindow.put (VecWindow.put (VecWindow.put T
    ![0, 0, 0] S512x2x512.size (k0_pay23 (w 0) (w 4))) ![0, 0, 512] S512x2x512.size (k0_pay23 (w 1) (w 5)))
    ![0, 0, 1024] S512x2x512.size (k0_pay23 (w 2) (w 6))) ![0, 0, 1536] S512x2x512.size (k0_pay23 (w 3) (w 7))

theorem pkd_base (T T' : Vec F S512x2x2048 .bf16) (w : Fin 8 → FVec F S512x512 .f32) : pkd T w = pkd T' w := by
  funext y
  have h0 : (y 0).val < 512 := (y 0).isLt
  have h1 : (y 1).val < 2 := (y 1).isLt
  have h2 : (y 2).val < 2048 := (y 2).isLt
  unfold pkd
  refine put_same_of _ _ _ _ _ y fun a3 => put_same_of _ _ _ _ _ y fun a2 => put_same_of _ _ _ _ _ y fun a1 => put_same_of _ _ _ _ _ y fun a0 => ?_
  exfalso
  have k : ∀ n : ℕ, (¬ ∀ a : Fin 3, (![0, 0, n] : Fin 3 → ℕ) a ≤ (y a).val ∧ (y a).val < (![0, 0, n] : Fin 3 → ℕ) a + S512x2x512.size a) → ¬ (n ≤ (y 2).val ∧ (y 2).val < n + 512) :=
    fun n hn h => hn fun a => by
      fin_cases a
      · exact ⟨Nat.zero_le _, by show (y 0).val < 0 + 512; omega⟩
      · exact ⟨Nat.zero_le _, by show (y 1).val < 0 + 2; omega⟩
      · exact h
  have := k _ a0; have := k _ a1; have := k _ a2; have := k _ a3
  omega

/-! ## The body -/

variable (c : Dev nD) (i : grid0.Coords)
  (arg2 : Memref sig .tc .vmem S512x4096 .bf16) (harg2 : arg2.IsWhole) (arg3 : Memref sig .tc .vmem S4096x512 .bf16) (harg3 : arg3.IsWhole)
  (arg4 : Memref sig .tc .vmem S512x512 .f32) (harg4 : arg4.IsWhole) (arg5 : Memref sig .tc .vmem S1x4096 .f32) (harg5 : arg5.IsWhole)
  (arg6 : Memref sig .tc .vmem S1x4096 .f32) (harg6 : arg6.IsWhole) (arg7 : Memref sig .tc .vmem S512x4096 .f32) (harg7 : arg7.IsWhole)
  (arg8 : Memref sig .tc .vmem S512x2x2048 .bf16) (harg8 : arg8.IsWhole) (arg9 : Memref sig .tc .vmem S8x512x512 .f32) (harg9 : arg9.IsWhole)

theorem ldG (m : Memref sig .tc .vmem S1x4096 .f32) (G : Vec F S1x4096 .f32) (n : Fin 8) {off : Fin S1x4096.rank → ℕ} (inb) (h : off = ![0, n.val * 512]) :
    m.view.readAt (Elt F) (Rect.unit off S1x512.size inb).toLoadRect (m.view.rep G) = gch G n :=
  View.readAt_rep_unit _ _ _ h _

theorem rdS (f) (S : Vec F S8x512x512 .f32) (hr : arg9.view.read (Elt F) f = S) (n : Fin 8) {off : Fin S8x512x512.rank → ℕ} (inb) (h : off = ![n.val, 0, 0]) :
    arg9.view.readAt (Elt F) (Rect.unit off S1x512x512.size inb).toLoadRect f = slc S n := by
  subst hr
  exact View.readAt_unit _ _ _ h _

/-- The body before a row's last chunk: the chunk is kept. -/
theorem body_keep (h7 : (i 1).val ≠ 7) (X : Vec F S512x4096 .bf16) (W : Vec F S4096x512 .bf16) (H : Vec F S512x512 .f32) (S : Vec F S8x512x512 .f32) (Q : PUnit → sProp 𝕄G) :
    iprop(at_ c arg2 X ∗ at_ c arg3 W ∗ at_ c arg4 H ∗ at_ c arg9 S
      ∗ ((at_ c arg2 X ∗ at_ c arg3 W ∗ at_ c arg4 H ∗ at_ c arg9 (slPut S (i 1).val (k0_pay1 H X W))) -∗ Q ⟨⟩))
    ⊢ wp frame (wpE (defs₀ (F := F)) Variants.none (c : Thread nD τ) none) Set.univ (cc0_out_ln (F := F) i arg2 harg2 arg3 harg3 arg4 harg4 arg5 harg5 arg6 harg6 arg7 harg7 arg8 harg8 arg9 harg9) Q := by
  rw [cc0_out_ln_eq_skeleton]
  unfold cc0_out_ln_skel
  iintro ⟨H2, H3, H4, H9, Hk⟩
  have hc : ¬ k0_cond1 i = 1#1 := fun h => h7 ((cond1_iff i).mp h)
  sl_exec
  sl_step
  rw [View.readAt_rep_full, View.readAt_rep_full, View.readAt_rep_full]
  iapply Hk
  iframe H2 H3 H4
  iapply (pointsTo_rep_of_read (c : Thread nD τ) arg9 _ fullShare _ ((View.read_writes_cons_put _ _ _ _ _ (off1_eq i)).trans (by rw [View.writes_nil, View.read_rep]; rfl))) $$ H9

/-- The body at a row's last chunk: the chunk is kept, and the row normalised into the two results. -/
theorem body_last (h7 : (i 1).val = 7) (X : Vec F S512x4096 .bf16) (W : Vec F S4096x512 .bf16) (H : Vec F S512x512 .f32) (G B : Vec F S1x4096 .f32)
    (T : Vec F S512x4096 .f32) (P : Vec F S512x2x2048 .bf16) (S S' : Vec F S8x512x512 .f32) (hS : slPut S (i 1).val (k0_pay1 H X W) = S') (Q : PUnit → sProp 𝕄G) :
    iprop(at_ c arg2 X ∗ at_ c arg3 W ∗ at_ c arg4 H ∗ at_ c arg5 G ∗ at_ c arg6 B ∗ at_ c arg7 T ∗ at_ c arg8 P ∗ at_ c arg9 S
      ∗ ((at_ c arg2 X ∗ at_ c arg3 W ∗ at_ c arg4 H ∗ at_ c arg5 G ∗ at_ c arg6 B ∗ at_ c arg7 (res T (nrm S' G B)) ∗ at_ c arg8 (pkd P (nrm S' G B)) ∗ at_ c arg9 S') -∗ Q ⟨⟩))
    ⊢ wp frame (wpE (defs₀ (F := F)) Variants.none (c : Thread nD τ) none) Set.univ (cc0_out_ln (F := F) i arg2 harg2 arg3 harg3 arg4 harg4 arg5 harg5 arg6 harg6 arg7 harg7 arg8 harg8 arg9 harg9) Q := by
  rw [cc0_out_ln_eq_skeleton]
  unfold cc0_out_ln_skel
  iintro ⟨H2, H3, H4, H5, H6, H7, H8, H9, Hk⟩
  have hc : k0_cond1 i = 1#1 := (cond1_iff i).mpr h7
  sl_exec
  sl_step
  sl_unfold_run_names
  rw [View.readAt_rep_full arg4.view H, View.readAt_rep_full arg2.view X, View.readAt_rep_full arg3.view W]
  generalize hf : arg9.view.writes (Elt F) (arg9.view.rep S) [⟨Rect.unit (s := S8x512x512) (k0_off1 i) S1x512x512.size (k0_off1_inb i), k0_pay1 H X W⟩] = f
  have hr : arg9.view.read (Elt F) f = S' := by
    rw [← hf, View.read_writes_cons_put _ _ _ _ _ (off1_eq i), View.writes_nil, View.read_rep]; exact hS
  have e0 : ∀ b, arg9.view.readAt (Elt F) (Rect.unit (s := S8x512x512) ![0, 0, 0] S1x512x512.size b).toLoadRect f = slc S' 0 := fun b => rdS arg9 f S' hr 0 b rfl
  have e1 : ∀ b, arg9.view.readAt (Elt F) (Rect.unit (s := S8x512x512) ![1, 0, 0] S1x512x512.size b).toLoadRect f = slc S' 1 := fun b => rdS arg9 f S' hr 1 b rfl
  have e2 : ∀ b, arg9.view.readAt (Elt F) (Rect.unit (s := S8x512x512) ![2, 0, 0] S1x512x512.size b).toLoadRect f = slc S' 2 := fun b => rdS arg9 f S' hr 2 b rfl
  have e3 : ∀ b, arg9.view.readAt (Elt F) (Rect.unit (s := S8x512x512) ![3, 0, 0] S1x512x512.size b).toLoadRect f = slc S' 3 := fun b => rdS arg9 f S' hr 3 b rfl
  have e4 : ∀ b, arg9.view.readAt (Elt F) (Rect.unit (s := S8x512x512) ![4, 0, 0] S1x512x512.size b).toLoadRect f = slc S' 4 := fun b => rdS arg9 f S' hr 4 b rfl
  have e5 : ∀ b, arg9.view.readAt (Elt F) (Rect.unit (s := S8x512x512) ![5, 0, 0] S1x512x512.size b).toLoadRect f = slc S' 5 := fun b => rdS arg9 f S' hr 5 b rfl
  have e6 : ∀ b, arg9.view.readAt (Elt F) (Rect.unit (s := S8x512x512) ![6, 0, 0] S1x512x512.size b).toLoadRect f = slc S' 6 := fun b => rdS arg9 f S' hr 6 b rfl
  have e7 : ∀ b, arg9.view.readAt (Elt F) (Rect.unit (s := S8x512x512) ![7, 0, 0] S1x512x512.size b).toLoadRect f = slc S' 7 := fun b => rdS arg9 f S' hr 7 b rfl
  have g0 : ∀ b, arg5.view.readAt (Elt F) (Rect.unit (s := S1x4096) ![0, 0] S1x512.size b).toLoadRect (arg5.view.rep G) = gch G 0 := fun b => ldG arg5 G 0 b rfl
  have g1 : ∀ b, arg5.view.readAt (Elt F) (Rect.unit (s := S1x4096) ![0, 512] S1x512.size b).toLoadRect (arg5.view.rep G) = gch G 1 := fun b => ldG arg5 G 1 b rfl
  have g2 : ∀ b, arg5.view.readAt (Elt F) (Rect.unit (s := S1x4096) ![0, 1024] S1x512.size b).toLoadRect (arg5.view.rep G) = gch G 2 := fun b => ldG arg5 G 2 b rfl
  have g3 : ∀ b, arg5.view.readAt (Elt F) (Rect.unit (s := S1x4096) ![0, 1536] S1x512.size b).toLoadRect (arg5.view.rep G) = gch G 3 := fun b => ldG arg5 G 3 b rfl
  have g4 : ∀ b, arg5.view.readAt (Elt F) (Rect.unit (s := S1x4096) ![0, 2048] S1x512.size b).toLoadRect (arg5.view.rep G) = gch G 4 := fun b => ldG arg5 G 4 b rfl
  have g5 : ∀ b, arg5.view.readAt (Elt F) (Rect.unit (s := S1x4096) ![0, 2560] S1x512.size b).toLoadRect (arg5.view.rep G) = gch G 5 := fun b => ldG arg5 G 5 b rfl
  have g6 : ∀ b, arg5.view.readAt (Elt F) (Rect.unit (s := S1x4096) ![0, 3072] S1x512.size b).toLoadRect (arg5.view.rep G) = gch G 6 := fun b => ldG arg5 G 6 b rfl
  have g7 : ∀ b, arg5.view.readAt (Elt F) (Rect.unit (s := S1x4096) ![0, 3584] S1x512.size b).toLoadRect (arg5.view.rep G) = gch G 7 := fun b => ldG arg5 G 7 b rfl
  have h0 : ∀ b, arg6.view.readAt (Elt F) (Rect.unit (s := S1x4096) ![0, 0] S1x512.size b).toLoadRect (arg6.view.rep B) = gch B 0 := fun b => ldG arg6 B 0 b rfl
  have h1 : ∀ b, arg6.view.readAt (Elt F) (Rect.unit (s := S1x4096) ![0, 512] S1x512.size b).toLoadRect (arg6.view.rep B) = gch B 1 := fun b => ldG arg6 B 1 b rfl
  have h2 : ∀ b, arg6.view.readAt (Elt F) (Rect.unit (s := S1x4096) ![0, 1024] S1x512.size b).toLoadRect (arg6.view.rep B) = gch B 2 := fun b => ldG arg6 B 2 b rfl
  have h3 : ∀ b, arg6.view.readAt (Elt F) (Rect.unit (s := S1x4096) ![0, 1536] S1x512.size b).toLoadRect (arg6.view.rep B) = gch B 3 := fun b => ldG arg6 B 3 b rfl
  have h4 : ∀ b, arg6.view.readAt (Elt F) (Rect.unit (s := S1x4096) ![0, 2048] S1x512.size b).toLoadRect (arg6.view.rep B) = gch B 4 := fun b => ldG arg6 B 4 b rfl
  have h5 : ∀ b, arg6.view.readAt (Elt F) (Rect.unit (s := S1x4096) ![0, 2560] S1x512.size b).toLoadRect (arg6.view.rep B) = gch B 5 := fun b => ldG arg6 B 5 b rfl
  have h6 : ∀ b, arg6.view.readAt (Elt F) (Rect.unit (s := S1x4096) ![0, 3072] S1x512.size b).toLoadRect (arg6.view.rep B) = gch B 6 := fun b => ldG arg6 B 6 b rfl
  have h7' : ∀ b, arg6.view.readAt (Elt F) (Rect.unit (s := S1x4096) ![0, 3584] S1x512.size b).toLoadRect (arg6.view.rep B) = gch B 7 := fun b => ldG arg6 B 7 b rfl
  rw [e0, e1, e2, e3, e4, e5, e6, e7, g0, g1, g2, g3, g4, g5, g6, g7, h0, h1, h2, h3, h4, h5, h6, h7']
  ihave H9 := (pointsTo_rep_of_read (c : Thread nD τ) arg9 f fullShare S' hr) $$ H9
  ihave H7 := (pointsTo_rep_of_read (c : Thread nD τ) arg7 _ fullShare (res T (nrm S' G B)) (by
    iterate 8 rw [View.read_writes_cons_put _ _ _ _ _ rfl]
    rw [View.writes_nil, View.read_rep]
    rfl)) $$ H7
  ihave H8 := (pointsTo_rep_of_read (c : Thread nD τ) arg8 _ fullShare (pkd P (nrm S' G B)) (by
    iterate 4 rw [View.read_writes_cons_put _ _ _ _ _ rfl]
    rw [View.writes_nil, View.read_rep]
    rfl)) $$ H8
  iapply Hk
  iframe

end Cert.OutIdeal.Own

end
-- ==== Proof.OutRun.lean ====
/- The launch of the output projection's kernel: the pipeline's proof data, the body at every point, the run. -/
module

public import proofs.«01_k».proof.Proof.OutBody
public import Idealize.ShloMosaic.Lib.Pipeline.Frame

@[expose] public section

set_option maxRecDepth 16384

noncomputable section

namespace Cert.OutIdeal.Own

open Idealize.ShloMosaic Idealize.ShloMosaic.TcCoe Idealize.ShloMosaic.Tactic Cert.OutIdeal Cert.OutIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F]

local notation "𝕄G" => MT nD τ sig Unit (Elt F) ℕ (UR sig nD τ) ℕ

variable (m : (ℓ : Loc nD τ sig) → Buf (Elt F) ℓ) (ρ : Dev nD → PrngReg) (c : Dev nD)

theorem coord1 : ∀ t : Fin grid0.N, (grid0.coords t 1).val = t.val % 8 := by decide +kernel

theorem tlt (t : Fin cfg0.N) : t.val < 256 := lt_of_lt_of_eq t.isLt N_0

/-- The point of number `n`. -/
def pt (n : ℕ) : Fin cfg0.N := ⟨n % 256, lt_of_lt_of_eq (Nat.mod_lt _ (by decide)) N_0.symm⟩

theorem pt_val (t : Fin cfg0.N) : pt t.val = t := Fin.ext (Nat.mod_eq_of_lt (tlt t))

/-- The chunk the body keeps at the point of number `n`. -/
def chunk (n : ℕ) : FVec F S1x512x512 .f32 := k0_pay1 (iblk m c 2 (pt n)) (iblk m c 0 (pt n)) (iblk m c 1 (pt n))

/-- The eight chunks of the rows of block `r`. -/
def full (r : ℕ) : Vec F S8x512x512 .f32 := fun y => chunk m c (r * 8 + (y 0).val) (ix3 ⟨0, by decide⟩ (y 1) (y 2))

/-- Contents for the stores to be read over: which does not matter. -/
def base5 : Vec F S512x4096 .f32 := fun _ => Scalar.ofBits .f32 0#32
def base6 : Vec F S512x2x2048 .bf16 := fun _ => Scalar.ofBits .bf16 0#16

/-- The result's block at point `t`, where it is written back. -/
def outAt (t : Fin cfg0.N) : Vec F S512x4096 .f32 := res base5 (nrm (full m c (t.val / 8)) (iblk m c 3 t) (iblk m c 4 t))

/-- The packed block at point `t`, where it is written back. -/
def pkdAt (t : Fin cfg0.N) : Vec F S512x2x2048 .bf16 := pkd base6 (nrm (full m c (t.val / 8)) (iblk m c 3 t) (iblk m c 4 t))

theorem slc_full (r : ℕ) (n : Fin 8) : slc (full m c r) n = chunk m c (r * 8 + n.val) := by
  funext y
  have h0 : (y 0).val < 1 := (y 0).isLt
  show chunk m c (r * 8 + (n.val + 1 * (y 0).val)) _ = _
  have e0 : (y 0).val = 0 := by omega
  rw [e0, Nat.mul_zero, Nat.add_zero]
  refine congrArg _ (funext fun a => Fin.ext ?_)
  fin_cases a
  · exact e0.symm
  · show 0 + 1 * (y 1).val = _; rw [Nat.zero_add, Nat.one_mul]; rfl
  · show 0 + 1 * (y 2).val = _; rw [Nat.zero_add, Nat.one_mul]; rfl

/-- Contents are told by their eight chunks. -/
theorem slc_ext (S S' : Vec F S8x512x512 .f32) (h : ∀ n, slc S n = slc S' n) : S = S' := by
  funext y
  have := congrFun (h ⟨(y 0).val, (y 0).isLt⟩) (ix3 ⟨0, by decide⟩ (y 1) (y 2))
  have e : ∀ T : Vec F S8x512x512 .f32, slc T ⟨(y 0).val, (y 0).isLt⟩ (ix3 ⟨0, by decide⟩ (y 1) (y 2)) = T y := fun T => by
    refine congrArg T (funext fun a => Fin.ext ?_)
    fin_cases a
    · show (y 0).val + 1 * 0 = (y 0).val; omega
    · show 0 + 1 * (y 1).val = (y 1).val; omega
    · show 0 + 1 * (y 2).val = (y 2).val; omega
  rwa [e, e] at this

/-- Before point `n` the chunks of the row begun are kept. -/
def Kept (n : ℕ) (S : Vec F S8x512x512 .f32) : Prop := ∀ k : Fin 8, k.val < n % 8 → slc S k = chunk m c (n / 8 * 8 + k.val)

theorem kept_step (t : Fin cfg0.N) (S : Vec F S8x512x512 .f32) (h : Kept m c t.val S) (k : Fin 8) (hk : k.val ≤ t.val % 8) :
    slc (slPut S (t.val % 8) (k0_pay1 (iblk m c 2 t) (iblk m c 0 t) (iblk m c 1 t))) k = chunk m c (t.val / 8 * 8 + k.val) := by
  by_cases he : k.val = t.val % 8
  · rw [← he, slc_slPut_same]
    have : t.val / 8 * 8 + k.val = t.val := by omega
    rw [this]
    unfold chunk
    rw [pt_val]
  · rw [slc_slPut_other _ _ _ _ he]
    exact h k (by omega)

/-- Between points: the scratch at the chunks of the row begun, and the generator register. -/
def PhiS (n : ℕ) : sProp 𝕄G :=
  iprop((∃ S, ⌜Kept m c n S⌝ ∗ at_ c (Memref.whole cc0_scratch0) S) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => pkdAt m c t
  Φ n := PhiS m c n.val
  q _ := fullShare
  owed _ := 0

theorem at_of_owns {sp : Space} {sh : Shape} {e : EltTy} (M : Memref sig .tc sp sh e) (x : Vec F sh e) :
    owns (c : Thread nD τ) M fullShare x ⊢ (at_ c M x : sProp 𝕄G) := by
  unfold owns
  iintro ⟨%f, %hf, H⟩
  iapply (pointsTo_rep_of_read (c : Thread nD τ) M f fullShare x hf) $$ H

theorem owns_of_at {sp : Space} {sh : Shape} {e : EltTy} (M : Memref sig .tc sp sh e) (x : Vec F sh e) :
    (at_ c M x : sProp 𝕄G) ⊢ owns (c : Thread nD τ) M fullShare x := by
  unfold owns
  iintro H
  iexists _
  isplitr
  · ipureintro; exact View.read_rep _ _
  · iexact H

/-- The body's row of the table of bodies. -/
theorem row_eq (t : Fin cfg0.N) : defs₀ (F := F) .tc cfg0.body (cfg0.bodyArgs t (cfg0.slots t)) = bodyAt0 t := by
  unfold defs₀; rw [Defs.onTc_tc]

/-- What the body is called with at point `t`, and what it returns. -/
def bodyPre (t : Fin cfg0.N) : sProp 𝕄G :=
  iprop((dats m 0 c).Φ t.castSucc ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)))
def bodyPost (t : Fin cfg0.N) : sProp 𝕄G :=
  iprop((dats m 0 c).Φ t.succ ∗ (dats m 0 c).owesAt () t.succ ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ owns (c : Thread nD τ) ((cfg0.win 3).stage (cfg0.slots t 3)) fullShare ((dats m 0 c).after 3 t) ∗ owns (c : Thread nD τ) ((cfg0.win 4).stage (cfg0.slots t 4)) fullShare ((dats m 0 c).after 4 t) ∗ (dats m 0 c).leavesExact 5 t ∗ (dats m 0 c).leavesExact 6 t)

theorem lv_idle5 (t : Fin cfg0.N) (h7 : t.val % 8 ≠ 7) : (dats m 0 c).leavesExact 5 t = iprop(∃ d, owns (c : Thread nD τ) ((cfg0.win 5).stage (cfg0.slots t 5)) fullShare ((dats m 0 c).before 5 t d)) := by
  refine Dat.leavesExact_idle _ 5 t ?_ (by rw [Bool.eq_false_iff]; exact fun h => h7 ((flush0_5 t).mp h))
  show (!(k0_cond1 (grid0.coords t) == 1#1)) = true
  rw [Bool.not_eq_true', beq_eq_false_iff_ne]
  exact fun h => h7 ((coord1 t) ▸ (cond1_iff _).mp h)
theorem lv_idle6 (t : Fin cfg0.N) (h7 : t.val % 8 ≠ 7) : (dats m 0 c).leavesExact 6 t = iprop(∃ d, owns (c : Thread nD τ) ((cfg0.win 6).stage (cfg0.slots t 6)) fullShare ((dats m 0 c).before 6 t d)) := by
  refine Dat.leavesExact_idle _ 6 t ?_ (by rw [Bool.eq_false_iff]; exact fun h => h7 ((flush0_6 t).mp h))
  show (!(k0_cond1 (grid0.coords t) == 1#1)) = true
  rw [Bool.not_eq_true', beq_eq_false_iff_ne]
  exact fun h => h7 ((coord1 t) ▸ (cond1_iff _).mp h)

theorem live (t : Fin cfg0.N) (h7 : t.val % 8 = 7) : (!(k0_cond1 (grid0.coords t) == 1#1)) = false := by
  rw [Bool.not_eq_false', beq_iff_eq]
  exact (cond1_iff _).mpr ((coord1 t).trans h7)

theorem lv_live5 (t : Fin cfg0.N) (h7 : t.val % 8 = 7) : (dats m 0 c).leavesExact 5 t = owns (c : Thread nD τ) ((cfg0.win 5).stage (cfg0.slots t 5)) fullShare (outAt m c t) := by
  unfold Dat.leavesExact
  rw [show cfg0.idle 5 (cfg0.grid.coords t) = false from live t h7]
  dsimp only [dats]
theorem lv_live6 (t : Fin cfg0.N) (h7 : t.val % 8 = 7) : (dats m 0 c).leavesExact 6 t = owns (c : Thread nD τ) ((cfg0.win 6).stage (cfg0.slots t 6)) fullShare (pkdAt m c t) := by
  unfold Dat.leavesExact
  rw [show cfg0.idle 6 (cfg0.grid.coords t) = false from live t h7]
  dsimp only [dats]

set_option maxHeartbeats 1600000 in
theorem sound_body (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.castSucc = PhiS m c t.val from rfl, show (dats m 0 c).Φ t.succ = PhiS m c (t.val + 1) from rfl,
    show (dats m 0 c).owesAt () t.succ = (dats m 0 c).owesAt () t.castSucc from rfl]
  unfold PhiS
  iintro ⟨⟨⟨%S, %hS, H9⟩, Hr⟩, Ho, ⟨%d0, H2⟩, ⟨%d1, H3⟩, ⟨%d2, H4⟩, ⟨%d3, H5⟩, ⟨%d4, H6⟩, ⟨%d5, H7⟩, ⟨%d6, H8⟩⟩
  rw [before0_0_of m (dats m 0 c) rfl (fun _ => rfl) t d0, before0_1_of m (dats m 0 c) rfl (fun _ => rfl) t d1, before0_2_of m (dats m 0 c) rfl (fun _ => rfl) t d2,
    before0_3_of m (dats m 0 c) rfl (fun _ => rfl) t d3, before0_4_of m (dats m 0 c) rfl (fun _ => rfl) t d4]
  ihave H2 := (at_of_owns c _ _) $$ H2
  ihave H3 := (at_of_owns c _ _) $$ H3
  ihave H4 := (at_of_owns c _ _) $$ H4
  have hc : (grid0.coords t 1).val = t.val % 8 := coord1 t
  have ht := tlt t
  by_cases h7 : t.val % 8 = 7
  · ihave H5 := (at_of_owns c _ _) $$ H5
    ihave H6 := (at_of_owns c _ _) $$ H6
    ihave H7 := (at_of_owns c _ _) $$ H7
    ihave H8 := (at_of_owns c _ _) $$ H8
    iapply (body_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _)
      (hc.trans h7) (iblk m c 0 t) (iblk m c 1 t) (iblk m c 2 t) (iblk m c 3 t) (iblk m c 4 t) _ _ S (full m c (t.val / 8))
      (by rw [hc]; exact slc_ext _ _ fun n => (kept_step m c t S hS n (by omega)).trans (slc_full m c _ n).symm) _)
    iframe H2 H3 H4 H5 H6 H7 H8 H9
    iintro ⟨H2, H3, H4, H5, H6, H7, H8, H9⟩
    rw [res_base _ base5, pkd_base _ base6, ← outAt.eq_1, ← pkdAt.eq_1, lv_live5 m c t h7, lv_live6 m c t h7]
    isplitl [H9 Hr]
    · iframe Hr
      iexists _
      iframe H9
      ipureintro
      intro k hk
      exact absurd hk (by omega)
    iframe Ho
    ihave H2 := (owns_of_at c _ _) $$ H2
    ihave H3 := (owns_of_at c _ _) $$ H3
    ihave H4 := (owns_of_at c _ _) $$ H4
    ihave H5 := (owns_of_at c _ _) $$ H5
    ihave H6 := (owns_of_at c _ _) $$ H6
    ihave H7 := (owns_of_at c _ _) $$ H7
    ihave H8 := (owns_of_at c _ _) $$ H8
    isplitl [H2]; · iexact H2
    isplitl [H3]; · iexact H3
    isplitl [H4]; · iexact H4
    isplitl [H5]; · iexact H5
    isplitl [H6]; · iexact H6
    isplitl [H7]; · iexact H7
    iexact H8
  · iapply (body_keep c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _)
      (fun h => h7 (hc.symm.trans h)) (iblk m c 0 t) (iblk m c 1 t) (iblk m c 2 t) S _)
    iframe H2 H3 H4 H9
    iintro ⟨H2, H3, H4, H9⟩
    rw [lv_idle5 m c t h7, lv_idle6 m c t h7]
    isplitl [H9 Hr]
    · iframe Hr
      iexists _
      iframe H9
      ipureintro
      rw [hc]
      intro k hk
      rw [show (t.val + 1) / 8 = t.val / 8 by omega]
      exact kept_step m c t S hS k (by omega)
    iframe Ho
    ihave H2 := (owns_of_at c _ _) $$ H2
    ihave H3 := (owns_of_at c _ _) $$ H3
    ihave H4 := (owns_of_at c _ _) $$ H4
    isplitl [H2]; · iexact H2
    isplitl [H3]; · iexact H3
    isplitl [H4]; · iexact H4
    isplitl [H5]; · iexact H5
    isplitl [H6]; · iexact H6
    isplitl [H7]; · iexists d5; iexact H7
    iexists d6; iexact H8

theorem body_obligation : BodyObligation (dats m 0 c) (defs₀ (F := F)) Variants.none () Set.univ := fun t => by
  rw [bigSep_W0, bigSep_W0, row_eq]
  exact Idealize.ShloMosaic.triple_restated (sound_body m c t) rfl .rfl fun _ => .rfl

/-! ## The launch -/

theorem phi_in : Pipeline.ΦA spec0 c ⊢ (dats m 0 c).Φ 0 := by
  rw [show (dats m 0 c).Φ 0 = PhiS m c 0 from rfl]
  unfold Pipeline.ΦA PhiS
  rw [scopedRest0_eq]
  simp only [← owns_whole]
  iintro ⟨⟨%f9, H9⟩, Hr⟩
  iframe Hr
  ihave H9 := (at_of_owns c _ _) $$ H9
  iexists f9
  iframe
  ipureintro
  exact fun _ h => absurd h (Nat.not_lt_zero _)

theorem phi_out : (dats m 0 c).Φ (Fin.last cfg0.N) ⊢ Pipeline.ΦA spec0 c := by
  rw [show (dats m 0 c).Φ (Fin.last cfg0.N) = PhiS m c cfg0.N from rfl]
  unfold Pipeline.ΦA PhiS
  rw [scopedRest0_eq]
  simp only [← owns_whole]
  iintro ⟨⟨%S, %hS, H9⟩, Hr⟩
  iframe Hr
  ihave H9 := (owns_of_at c _ _) $$ H9
  iexists _; iexact H9

set_option backward.isDefEq.respectTransparency.types false in
/-- Every fair run of the kernel ends with the arrays at what the proof data compute and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hin := phi_in m) (hout := phi_out m)

end Cert.OutIdeal.Own

end
-- ==== Proof.OutBlk.lean ====
/- The output projection's chunks, means, variances and results, read at an index. -/
module

public import proofs.«01_k».proof.Proof.OutBody
public import Idealize.ShloMosaic.Lib.Pointwise
public import Idealize.ShloMosaic.Lib.IdealHost

@[expose] public section

set_option maxRecDepth 16384

noncomputable section

namespace Cert.OutIdeal.Own

open Idealize.ShloMosaic Cert.OutIdeal Cert.OutIdeal.Gen

theorem chunk_at (H : FVec Ideal S512x512 .f32) (X : FVec Ideal S512x4096 .bf16) (W : FVec Ideal S4096x512 .bf16) (y d : Fin 512) :
    (k0_pay1 (F := Ideal) H X W : FVec Ideal S1x512x512 .f32) (ix3 0 y d)
      = Ideal.ofBits .f32 0x3F9837F0#32 * H (ix2 y d) + ∑ k : Fin 4096, X (ix2 y k) * W (ix2 k d) := by
  pointwise [k0_pay1]

theorem pay3_at (a b c d e f : FVec Ideal S1x512x512 .f32) (y : Fin 512) :
    (k0_pay3 (F := Ideal) a b c d e f : FVec Ideal S512x1 .f32) (ix2 y 0)
      = 0 + (∑ k : Fin 512, a (ix3 0 y k)) + (∑ k : Fin 512, b (ix3 0 y k)) + (∑ k : Fin 512, c (ix3 0 y k)) + (∑ k : Fin 512, d (ix3 0 y k))
        + (∑ k : Fin 512, e (ix3 0 y k)) + (∑ k : Fin 512, f (ix3 0 y k)) := by
  pointwise [k0_pay3]

theorem pay4_at (A : FVec Ideal S512x1 .f32) (g h : FVec Ideal S1x512x512 .f32) (y : Fin 512) :
    (k0_pay4 (F := Ideal) A g h : FVec Ideal S512x1 .f32) (ix2 y 0)
      = Ideal.div (A (ix2 y 0) + (∑ k : Fin 512, g (ix3 0 y k)) + (∑ k : Fin 512, h (ix3 0 y k))) (Ideal.ofBits .f32 0x45800000#32) := by
  pointwise [k0_pay4]

theorem nrm_at (M R : FVec Ideal S512x1 .f32) (s : FVec Ideal S1x512x512 .f32) (g b : FVec Ideal S1x512 .f32) (y d : Fin 512) :
    (k0_pay16 (F := Ideal) M R s g b : FVec Ideal S512x512 .f32) (ix2 y d)
      = (s (ix3 0 y d) - M (ix2 y 0)) * R (ix2 y 0) * g (ix2 0 d) + b (ix2 0 d) := by
  pointwise [k0_pay16]

theorem pay5_at (A : FVec Ideal S512x1 .f32) (g h a b c : FVec Ideal S1x512x512 .f32) (y : Fin 512) :
    (k0_pay5 (F := Ideal) A g h a b c : FVec Ideal S512x1 .f32) (ix2 y 0)
      = 0 + (∑ k : Fin 512, (a (ix3 0 y k) - (k0_pay4 (F := Ideal) A g h : FVec Ideal S512x1 .f32) (ix2 y 0)) * (a (ix3 0 y k) - (k0_pay4 (F := Ideal) A g h : FVec Ideal S512x1 .f32) (ix2 y 0)))
        + (∑ k : Fin 512, (b (ix3 0 y k) - (k0_pay4 (F := Ideal) A g h : FVec Ideal S512x1 .f32) (ix2 y 0)) * (b (ix3 0 y k) - (k0_pay4 (F := Ideal) A g h : FVec Ideal S512x1 .f32) (ix2 y 0)))
        + (∑ k : Fin 512, (c (ix3 0 y k) - (k0_pay4 (F := Ideal) A g h : FVec Ideal S512x1 .f32) (ix2 y 0)) * (c (ix3 0 y k) - (k0_pay4 (F := Ideal) A g h : FVec Ideal S512x1 .f32) (ix2 y 0))) := by
  pointwise [k0_pay5]

theorem pay7_at (M A : FVec Ideal S512x1 .f32) (d e f g h : FVec Ideal S1x512x512 .f32) (y : Fin 512) :
    (k0_pay7 (F := Ideal) M A (k0_pay6 (F := Ideal) d) e f g h : FVec Ideal S512x1 .f32) (ix2 y 0)
      = Ideal.div (A (ix2 y 0) + (∑ k : Fin 512, (d (ix3 0 y k) - M (ix2 y 0)) * (d (ix3 0 y k) - M (ix2 y 0)))
        + (∑ k : Fin 512, (e (ix3 0 y k) - M (ix2 y 0)) * (e (ix3 0 y k) - M (ix2 y 0)))
        + (∑ k : Fin 512, (f (ix3 0 y k) - M (ix2 y 0)) * (f (ix3 0 y k) - M (ix2 y 0)))
        + (∑ k : Fin 512, (g (ix3 0 y k) - M (ix2 y 0)) * (g (ix3 0 y k) - M (ix2 y 0)))
        + (∑ k : Fin 512, (h (ix3 0 y k) - M (ix2 y 0)) * (h (ix3 0 y k) - M (ix2 y 0)))) (Ideal.ofBits .f32 0x45800000#32) := by
  pointwise [k0_pay7, k0_pay6]

theorem pay9_at (A : FVec Ideal S512x1 .f32) (y : Fin 512) :
    (k0_pay9 (F := Ideal) A (k0_pay8 (F := Ideal)) : FVec Ideal S512x1 .f32) (ix2 y 0) = Ideal.rsqrt (A (ix2 y 0) + Ideal.ofBits .f32 0x3727C5AC#32) := by
  pointwise [k0_pay9, k0_pay8]

/-- Eight sums of 512 are one of 4096. -/
theorem sum_chunks (f : Fin 4096 → EReal) :
    0 + (∑ k : Fin 512, f ⟨0 * 512 + k.val, by omega⟩) + (∑ k : Fin 512, f ⟨1 * 512 + k.val, by omega⟩) + (∑ k : Fin 512, f ⟨2 * 512 + k.val, by omega⟩)
      + (∑ k : Fin 512, f ⟨3 * 512 + k.val, by omega⟩) + (∑ k : Fin 512, f ⟨4 * 512 + k.val, by omega⟩) + (∑ k : Fin 512, f ⟨5 * 512 + k.val, by omega⟩)
      + (∑ k : Fin 512, f ⟨6 * 512 + k.val, by omega⟩) + (∑ k : Fin 512, f ⟨7 * 512 + k.val, by omega⟩) = ∑ k : Fin 4096, f k := by
  have e : (∑ k : Fin 4096, f k) = ∑ p : Fin 8 × Fin 512, f ⟨p.1.val * 512 + p.2.val, by omega⟩ := by
    refine (Fintype.sum_equiv (finProdFinEquiv (m := 8) (n := 512)) _ _ fun p => congrArg f (Fin.ext ?_)).symm
    show p.1.val * 512 + p.2.val = p.2.val + 512 * p.1.val
    omega
  rw [e, Fintype.sum_prod_type, Fin.sum_univ_eight, zero_add]
  rfl

/-- What chunk `n` of the kept rows is in terms of the rows. -/
def Rows (S : Vec Ideal S8x512x512 .f32) (y : Fin 512) (f : Fin 4096 → EReal) : Prop :=
  ∀ (n : Fin 8) (k : Fin 512), (slc S n : FVec Ideal S1x512x512 .f32) (ix3 0 y k) = f ⟨n.val * 512 + k.val, by omega⟩

variable (S : Vec Ideal S8x512x512 .f32) (y : Fin 512) (f : Fin 4096 → EReal) (h : Rows S y f)

include h

theorem mean_at : (mean S : FVec Ideal S512x1 .f32) (ix2 y 0) = Ideal.div (∑ k, f k) (Ideal.ofBits .f32 0x45800000#32) := by
  unfold mean
  rw [pay4_at, pay3_at, ← sum_chunks f]
  simp only [h 0, h 1, h 2, h 3, h 4, h 5, h 6, h 7]
  rfl

theorem vari_at (μ : EReal) (hm : (mean S : FVec Ideal S512x1 .f32) (ix2 y 0) = μ) :
    (vari S : FVec Ideal S512x1 .f32) (ix2 y 0) = Ideal.div (∑ k, (f k - μ) * (f k - μ)) (Ideal.ofBits .f32 0x45800000#32) := by
  unfold vari
  rw [pay7_at, pay5_at, ← sum_chunks fun k => (f k - μ) * (f k - μ), hm]
  unfold mean at hm
  rw [hm]
  simp only [h 0, h 1, h 2, h 3, h 4, h 5, h 6, h 7]
  rfl

theorem row_at (G B : Vec Ideal S1x4096 .f32) (n : Fin 8) (d : Fin 512) (μ : EReal) (hm : (mean S : FVec Ideal S512x1 .f32) (ix2 y 0) = μ)  (v : EReal) (hv : (vari S : FVec Ideal S512x1 .f32) (ix2 y 0) = v) :
    (nrm S G B n : FVec Ideal S512x512 .f32) (ix2 y d)
      = (f ⟨n.val * 512 + d.val, by omega⟩ - μ) * Ideal.rsqrt (v + Ideal.ofBits .f32 0x3727C5AC#32)
        * (G : FVec Ideal S1x4096 .f32) (ix2 0 ⟨n.val * 512 + d.val, by omega⟩) + (B : FVec Ideal S1x4096 .f32) (ix2 0 ⟨n.val * 512 + d.val, by omega⟩) := by
  have eg : ∀ T : Vec Ideal S1x4096 .f32, (gch T n : FVec Ideal S1x512 .f32) (ix2 0 d) = (T : FVec Ideal S1x4096 .f32) (ix2 0 ⟨n.val * 512 + d.val, by omega⟩) := fun T => by
    refine congrArg T (funext fun a => Fin.ext ?_)
    fin_cases a
    · rfl
    · show n.val * 512 + 1 * d.val = n.val * 512 + d.val; omega
  unfold nrm rst
  rw [nrm_at, pay9_at, hm, hv, h n, eg, eg]

end Cert.OutIdeal.Own

end
-- ==== Proof.OutRef.lean ====
/- The output projection's reference result, stage by stage, read at an index. -/
module

public import proofs.«01_k».proof.Proof.Gen.OutReferenceIdeal.Run
public import Idealize.ShloMosaic.Lib.Pointwise
public import Idealize.ShloMosaic.Lib.IdealHost

@[expose] public section

set_option maxRecDepth 16384

noncomputable section

namespace Cert.OutReferenceIdeal.Own

open Idealize.ShloMosaic Cert.OutReferenceIdeal Cert.OutReferenceIdeal.Gen Cert.OutReferenceIdeal.Value

/-- The rows before they are normalised. -/
def rows (A : FVec Ideal S16384x4096 .bf16) (W : FVec Ideal S4096x4096 .f32) (H : FVec Ideal S16384x4096 .f32) : FVec Ideal S16384x4096 .f32 :=
  addf (mulf (broadcastInDim S16384x4096 ![] bcast_S_S16384x4096 (constant S_ .f32 0x3F9837F0#32)) H)
    (Host.dotGeneral dot_S16384x4096_S4096x4096_S16384x4096_1_0_0_1_n_n none (extf .f32 A bitsLt_bf16_f32) W)

/-- A row's average. -/
def avg (Y : FVec Ideal S16384x4096 .f32) : FVec Ideal S16384x1 .f32 :=
  Host.divf (broadcastInDim S16384x1 ![0] bcast_S16384_S16384x1_0 (Host.reduceAdd Y (constant S_ .f32 0x00000000#32) reducesTo_S16384x4096_S16384_d1 h_S_)) (broadcastInDim S16384x1 ![] bcast_S_S16384x1 (constant S_ .f32 0x45800000#32))

/-- The rows less their averages. -/
def dev (Y : FVec Ideal S16384x4096 .f32) (M : FVec Ideal S16384x1 .f32) : FVec Ideal S16384x4096 .f32 :=
  subf Y (broadcastInDim S16384x4096 ![0, 1] bcast_S16384x1_S16384x4096_0_1 M)

/-- The rows normalised, from the deviations and the variances. -/
def norm (D : FVec Ideal S16384x4096 .f32) (V : FVec Ideal S16384x1 .f32) (G B : FVec Ideal S4096 .f32) : FVec Ideal S16384x4096 .f32 :=
  addf (mulf (mulf D (broadcastInDim S16384x4096 ![0, 1] bcast_S16384x1_S16384x4096_0_1 (Host.rsqrt (addf V (broadcastInDim S16384x1 ![] bcast_S_S16384x1 (constant S_ .f32 0x3727C5AC#32))))))
    (broadcastInDim S16384x4096 ![0, 1] bcast_S1x4096_S16384x4096_0_1 (broadcastInDim S1x4096 ![1] bcast_S4096_S1x4096_1 G)))
    (broadcastInDim S16384x4096 ![0, 1] bcast_S1x4096_S16384x4096_0_1 (broadcastInDim S1x4096 ![1] bcast_S4096_S1x4096_1 B))

/-- The whole result. -/
def result (A : FVec Ideal S16384x4096 .bf16) (W : FVec Ideal S4096x4096 .f32) (H : FVec Ideal S16384x4096 .f32) (G B : FVec Ideal S4096 .f32) : FVec Ideal S16384x4096 .f32 :=
  norm (dev (rows A W H) (avg (rows A W H))) (avg (mulf (dev (rows A W H) (avg (rows A W H))) (dev (rows A W H) (avg (rows A W H))))) G B

/-- A row before it is normalised. -/
def row (A : FVec Ideal S16384x4096 .bf16) (W : FVec Ideal S4096x4096 .f32) (H : FVec Ideal S16384x4096 .f32) (r : Fin 16384) (d : Fin 4096) : EReal :=
  Ideal.ofBits .f32 0x3F9837F0#32 * H (ix2 r d) + ∑ k : Fin 4096, A (ix2 r k) * W (ix2 k d)

theorem rows_at (A : FVec Ideal S16384x4096 .bf16) (W : FVec Ideal S4096x4096 .f32) (H : FVec Ideal S16384x4096 .f32) (r : Fin 16384) (d : Fin 4096) :
    rows A W H (ix2 r d) = row A W H r d := by
  unfold row
  pointwise [rows]

theorem avg_at (Y : FVec Ideal S16384x4096 .f32) (r : Fin 16384) :
    avg Y (ix2 r 0) = Ideal.div (∑ k : Fin 4096, Y (ix2 r k)) (Ideal.ofBits .f32 0x45800000#32) := by
  pointwise [avg]

theorem dev_at (Y : FVec Ideal S16384x4096 .f32) (M : FVec Ideal S16384x1 .f32) (r : Fin 16384) (d : Fin 4096) : dev Y M (ix2 r d) = Y (ix2 r d) - M (ix2 r 0) := by
  pointwise [dev]

theorem sq_at (Y : FVec Ideal S16384x4096 .f32) (r : Fin 16384) (d : Fin 4096) : mulf Y Y (ix2 r d) = Y (ix2 r d) * Y (ix2 r d) := rfl

theorem norm_at (D : FVec Ideal S16384x4096 .f32) (V : FVec Ideal S16384x1 .f32) (G B : FVec Ideal S4096 .f32) (r : Fin 16384) (d : Fin 4096) :
    norm D V G B (ix2 r d) = D (ix2 r d) * Ideal.rsqrt (V (ix2 r 0) + Ideal.ofBits .f32 0x3727C5AC#32) * G (ix1 d) + B (ix1 d) := by
  pointwise [norm]

theorem result_at (A : FVec Ideal S16384x4096 .bf16) (W : FVec Ideal S4096x4096 .f32) (H : FVec Ideal S16384x4096 .f32) (G B : FVec Ideal S4096 .f32) (r : Fin 16384) (d : Fin 4096)
    (μ : EReal) (hμ : μ = Ideal.div (∑ k, row A W H r k) (Ideal.ofBits .f32 0x45800000#32)) :
    result A W H G B (ix2 r d) = (row A W H r d - μ)
      * Ideal.rsqrt (Ideal.div (∑ k, (row A W H r k - μ) * (row A W H r k - μ)) (Ideal.ofBits .f32 0x45800000#32) + Ideal.ofBits .f32 0x3727C5AC#32) * G (ix1 d) + B (ix1 d) := by
  have e : avg (rows A W H) (ix2 r 0) = μ := by
    rw [avg_at, hμ]
    simp only [rows_at]
  unfold result
  rw [norm_at, avg_at, dev_at, rows_at, e]
  simp only [sq_at, dev_at, rows_at, e]

end Cert.OutReferenceIdeal.Own

end
-- ==== Proof.OutVal.lean ====
/- The output projection's result array is its reference's. -/
module

public import proofs.«01_k».proof.Proof.OutRun
public import proofs.«01_k».proof.Proof.OutBlk
public import proofs.«01_k».proof.Proof.OutRef
public import Idealize.ShloMosaic.Lib.Pipeline.ValueKit.Geometry
public import Idealize.ShloMosaic.Lib.Pipeline.ValueKit.Acc

@[expose] public section

set_option maxRecDepth 16384

noncomputable section

namespace Cert.OutIdeal.Own

open Idealize.ShloMosaic Cert.OutIdeal Cert.OutIdeal.Gen
open Cert.OutReferenceIdeal.Own (row result result_at)

variable (m : (ℓ : Loc nD τ sig) → Buf (Elt Ideal) ℓ) (c : Dev nD)

theorem tr0 : ∀ t : Fin grid0.N, cc0_transform_0 (grid0.coords t) = ![t.val / 8, 0] := by decide +kernel
theorem tr1 : ∀ t : Fin grid0.N, cc0_transform_1 (grid0.coords t) = ![0, t.val % 8] := by decide +kernel
theorem tr2 : ∀ t : Fin grid0.N, cc0_transform_2 (grid0.coords t) = ![t.val / 8, t.val % 8] := by decide +kernel
theorem tr5 : ∀ t : Fin grid0.N, cc0_transform_5 (grid0.coords t) = ![t.val / 8, 0] := by decide +kernel

theorem V_w : (V m c main_v0 : FVec Ideal S4096x4096 .bf16) = (truncf .bf16 (m ((c.tc : Thread nD τ).loc main_arg1) : FVec Ideal S4096x4096 .f32) bitsLt_bf16_f32 : FVec Ideal S4096x4096 .bf16) := by
  simp only [V, hostOps0, List.flatten_cons, List.flatten_nil, List.append_nil, List.cons_append, List.nil_append]
  after_results_simp <;> rfl

theorem V_g : (V m c main_v1 : FVec Ideal S1x4096 .f32) = shapeCast S1x4096 (m ((c.tc : Thread nD τ).loc main_arg3) : FVec Ideal S4096 .f32) shapeCasts_S4096_S1x4096 := by
  simp only [V, hostOps0, List.flatten_cons, List.flatten_nil, List.append_nil, List.cons_append, List.nil_append]
  after_results_simp <;> rfl

theorem V_b : (V m c main_v2 : FVec Ideal S1x4096 .f32) = shapeCast S1x4096 (m ((c.tc : Thread nD τ).loc main_arg4) : FVec Ideal S4096 .f32) shapeCasts_S4096_S1x4096 := by
  simp only [V, hostOps0, List.flatten_cons, List.flatten_nil, List.append_nil, List.cons_append, List.nil_append]
  after_results_simp <;> rfl

theorem flat_at (B : FVec Ideal S4096 .f32) (k : Fin 4096) : shapeCast S1x4096 B shapeCasts_S4096_S1x4096 (ix2 0 k) = B (ix1 k) := by
  pointwise

theorem x_at (t : Fin cfg0.N) (y : Fin 512) (k : Fin 4096) : (iblk m c 0 t : FVec Ideal S512x4096 .bf16) (ix2 y k)
    = (m ((c.tc : Thread nD τ).loc main_arg0) : FVec Ideal S16384x4096 .bf16) (ix2 ⟨t.val / 8 * 512 + y.val, by have := tlt t; omega⟩ k) := by
  refine Eq.trans ?_ (congrFun (V_main_arg0 m c) _)
  refine congrArg (V m c main_arg0) (funext fun a => Fin.ext ?_)
  fin_cases a
  · show cc0_transform_0 (grid0.coords t) 0 * 512 + 1 * y.val = _
    rw [show cc0_transform_0 (grid0.coords t) 0 = _ from congrFun (tr0 t) 0, Nat.one_mul]; rfl
  · show cc0_transform_0 (grid0.coords t) 1 * 4096 + 1 * k.val = k.val
    rw [show cc0_transform_0 (grid0.coords t) 1 = 0 from congrFun (tr0 t) 1]; omega

theorem w_at (t : Fin cfg0.N) (k : Fin 4096) (d : Fin 512) : (iblk m c 1 t : FVec Ideal S4096x512 .bf16) (ix2 k d)
    = (m ((c.tc : Thread nD τ).loc main_arg1) : FVec Ideal S4096x4096 .f32) (ix2 k ⟨t.val % 8 * 512 + d.val, by omega⟩) := by
  refine Eq.trans ?_ (congrFun (V_w m c) _)
  refine congrArg (V m c main_v0) (funext fun a => Fin.ext ?_)
  fin_cases a
  · show cc0_transform_1 (grid0.coords t) 0 * 4096 + 1 * k.val = k.val
    rw [show cc0_transform_1 (grid0.coords t) 0 = 0 from congrFun (tr1 t) 0]; omega
  · show cc0_transform_1 (grid0.coords t) 1 * 512 + 1 * d.val = _
    rw [show cc0_transform_1 (grid0.coords t) 1 = _ from congrFun (tr1 t) 1, Nat.one_mul]; rfl

theorem h_at (t : Fin cfg0.N) (y d : Fin 512) : (iblk m c 2 t : FVec Ideal S512x512 .f32) (ix2 y d)
    = (m ((c.tc : Thread nD τ).loc main_arg2) : FVec Ideal S16384x4096 .f32) (ix2 ⟨t.val / 8 * 512 + y.val, by have := tlt t; omega⟩ ⟨t.val % 8 * 512 + d.val, by omega⟩) := by
  refine Eq.trans ?_ (congrFun (V_main_arg2 m c) _)
  refine congrArg (V m c main_arg2) (funext fun a => Fin.ext ?_)
  fin_cases a
  · show cc0_transform_2 (grid0.coords t) 0 * 512 + 1 * y.val = _
    rw [show cc0_transform_2 (grid0.coords t) 0 = _ from congrFun (tr2 t) 0, Nat.one_mul]; rfl
  · show cc0_transform_2 (grid0.coords t) 1 * 512 + 1 * d.val = _
    rw [show cc0_transform_2 (grid0.coords t) 1 = _ from congrFun (tr2 t) 1, Nat.one_mul]; rfl

theorem g_at (t : Fin cfg0.N) (d : Fin 4096) : (iblk m c 3 t : FVec Ideal S1x4096 .f32) (ix2 0 d) = (m ((c.tc : Thread nD τ).loc main_arg3) : FVec Ideal S4096 .f32) (ix1 d) := by
  refine Eq.trans ?_ ((congrFun (V_g m c) _).trans (flat_at _ _))
  refine congrArg (V m c main_v1) (funext fun a => Fin.ext ?_)
  fin_cases a
  · rfl
  · show 0 * 4096 + 1 * d.val = d.val
    omega

theorem b_at (t : Fin cfg0.N) (d : Fin 4096) : (iblk m c 4 t : FVec Ideal S1x4096 .f32) (ix2 0 d) = (m ((c.tc : Thread nD τ).loc main_arg4) : FVec Ideal S4096 .f32) (ix1 d) := by
  refine Eq.trans ?_ ((congrFun (V_b m c) _).trans (flat_at _ _))
  refine congrArg (V m c main_v2) (funext fun a => Fin.ext ?_)
  fin_cases a
  · rfl
  · show 0 * 4096 + 1 * d.val = d.val
    omega

theorem emb5 (t : Fin cfg0.N) (y : Fin 512) (d : Fin 4096) : (((cfg0.win 5).blk t).view.emb (ix2 y d : S512x4096.Idx) : S16384x4096.Idx)
    = ix2 ⟨t.val / 8 * 512 + y.val, by have := tlt t; omega⟩ d := by
  refine funext fun a => Fin.ext ?_
  fin_cases a
  · show cc0_transform_5 (grid0.coords t) 0 * 512 + 1 * y.val = _
    rw [show cc0_transform_5 (grid0.coords t) 0 = _ from congrFun (tr5 t) 0, Nat.one_mul]; rfl
  · show cc0_transform_5 (grid0.coords t) 1 * 4096 + 1 * d.val = d.val
    rw [show cc0_transform_5 (grid0.coords t) 1 = 0 from congrFun (tr5 t) 1]; omega

/-- The kept rows of a block are the reference's rows. -/
theorem full_rows (r : ℕ) (hr : r < 32) (y : Fin 512) : Rows (full m c r) y
    (row (m ((c.tc : Thread nD τ).loc main_arg0)) (m ((c.tc : Thread nD τ).loc main_arg1)) (m ((c.tc : Thread nD τ).loc main_arg2)) ⟨r * 512 + y.val, by omega⟩) := by
  intro n k
  have hp : (pt (r * 8 + n.val)).val = r * 8 + n.val := Nat.mod_eq_of_lt (by omega)
  have e1 : (pt (r * 8 + n.val)).val / 8 = r := by omega
  have e2 : (pt (r * 8 + n.val)).val % 8 = n.val := by omega
  rw [slc_full]
  unfold chunk row
  rw [chunk_at, h_at]
  simp only [x_at, w_at, e1, e2]

/-- One store's window, read at an entry of it. -/
theorem put_in (T : Vec Ideal S512x4096 .f32) (n : ℕ) (w : FVec Ideal S512x512 .f32) (y : Fin 512) (d : Fin 4096) (h : n ≤ d.val ∧ d.val < n + 512) :
    VecWindow.put T ![0, n] S512x512.size w (ix2 y d : S512x4096.Idx) = w (ix2 y ⟨d.val - n, by omega⟩) := by
  unfold VecWindow.put
  rw [dif_pos (fun a => by
    fin_cases a
    · exact ⟨Nat.zero_le _, by show y.val < 0 + 512; omega⟩
    · exact h)]
  refine congrArg w (funext fun a => Fin.ext ?_)
  fin_cases a
  · show y.val - 0 = y.val; omega
  · rfl

/-- One store's window, read outside it. -/
theorem put_out (T : Vec Ideal S512x4096 .f32) (n : ℕ) (w : FVec Ideal S512x512 .f32) (y : Fin 512) (d : Fin 4096) (h : ¬ (n ≤ d.val ∧ d.val < n + 512)) :
    VecWindow.put T ![0, n] S512x512.size w (ix2 y d : S512x4096.Idx) = T (ix2 y d : S512x4096.Idx) := by
  unfold VecWindow.put
  rw [dif_neg (fun hn => h (hn 1))]

theorem res_at (T : Vec Ideal S512x4096 .f32) (w : Fin 8 → FVec Ideal S512x512 .f32) (y : Fin 512) (d : Fin 4096) :
    res T w (ix2 y d : S512x4096.Idx) = w ⟨d.val / 512, by omega⟩ (ix2 y ⟨d.val % 512, by omega⟩) := by
  have hd := d.isLt
  have key : ∀ (n : Fin 8) (h : n.val * 512 ≤ d.val ∧ d.val < n.val * 512 + 512), w n (ix2 y ⟨d.val - n.val * 512, by omega⟩) = w ⟨d.val / 512, by omega⟩ (ix2 y ⟨d.val % 512, by omega⟩) := fun n h => by
    have e : (⟨d.val / 512, by omega⟩ : Fin 8) = n := Fin.ext (by show d.val / 512 = n.val; omega)
    rw [e]
    exact congrArg _ (congrArg (ix2 y) (Fin.ext (by show d.val - n.val * 512 = d.val % 512; omega)))
  unfold res
  by_cases h7 : 3584 ≤ d.val ∧ d.val < 3584 + 512
  · rw [put_in _ _ _ _ _ h7]; exact key 7 h7
  rw [put_out _ _ _ _ _ h7]
  by_cases h3 : 1536 ≤ d.val ∧ d.val < 1536 + 512
  · rw [put_in _ _ _ _ _ h3]; exact key 3 h3
  rw [put_out _ _ _ _ _ h3]
  by_cases h6 : 3072 ≤ d.val ∧ d.val < 3072 + 512
  · rw [put_in _ _ _ _ _ h6]; exact key 6 h6
  rw [put_out _ _ _ _ _ h6]
  by_cases h2 : 1024 ≤ d.val ∧ d.val < 1024 + 512
  · rw [put_in _ _ _ _ _ h2]; exact key 2 h2
  rw [put_out _ _ _ _ _ h2]
  by_cases h5 : 2560 ≤ d.val ∧ d.val < 2560 + 512
  · rw [put_in _ _ _ _ _ h5]; exact key 5 h5
  rw [put_out _ _ _ _ _ h5]
  by_cases h1 : 512 ≤ d.val ∧ d.val < 512 + 512
  · rw [put_in _ _ _ _ _ h1]; exact key 1 h1
  rw [put_out _ _ _ _ _ h1]
  by_cases h4 : 2048 ≤ d.val ∧ d.val < 2048 + 512
  · rw [put_in _ _ _ _ _ h4]; exact key 4 h4
  rw [put_out _ _ _ _ _ h4]
  have h0 : 0 ≤ d.val ∧ d.val < 0 + 512 := by omega
  rw [put_in _ _ _ _ _ h0]; exact key 0 ⟨by show 0 * 512 ≤ d.val; omega, by show d.val < 0 * 512 + 512; omega⟩

/-- The reference's result of the kernel's arguments. -/
def goal : FVec Ideal S16384x4096 .f32 :=
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem out_eq (t : Fin cfg0.N) (y : Fin 512) (d : Fin 4096) :
    outAt m c t (ix2 y d : S512x4096.Idx) = goal m c (ix2 ⟨t.val / 8 * 512 + y.val, by have := tlt t; omega⟩ d) := by
  have ht := tlt t
  have hd := d.isLt
  have hR := full_rows m c (t.val / 8) (by omega) y
  have e : (⟨d.val / 512 * 512 + d.val % 512, by omega⟩ : Fin 4096) = d := Fin.ext (by show d.val / 512 * 512 + d.val % 512 = d.val; omega)
  unfold outAt goal
  rw [res_at, row_at _ y _ hR _ _ _ _ _ (mean_at _ y _ hR) _ (vari_at _ y _ hR _ (mean_at _ y _ hR)), result_at _ _ _ _ _ _ _ _ rfl, g_at, b_at]
  simp only [e]

theorem final : (dats m 0 c).arrAt 5 cfg0.N = goal m c := by
  refine (dats m 0 c).arrAt_eq_of_covers 5 _ (by decide +kernel) fun t _ y => ?_
  obtain ⟨a, d, rfl⟩ : ∃ (a : Fin 512) (d : Fin 4096), y = (ix2 a d : S512x4096.Idx) := ⟨y 0, y 1, eq_ix2 (n0 := 512) (n1 := 4096) y⟩
  exact (out_eq m c t a d).trans (congrArg (goal m c) (emb5 t a d)).symm

end Cert.OutIdeal.Own

end
-- ==== Proof.NormRef.lean ====
/- The first norm's reference result, stage by stage, read at an index. -/
module

public import proofs.«01_k».proof.Proof.Gen.NormReferenceIdeal.Run
public import Idealize.ShloMosaic.Lib.Pointwise
public import Idealize.ShloMosaic.Lib.IdealHost

@[expose] public section

set_option maxRecDepth 16384

noncomputable section

namespace Cert.NormReferenceIdeal.Own

open Idealize.ShloMosaic Cert.NormReferenceIdeal Cert.NormReferenceIdeal.Gen Cert.NormReferenceIdeal.Value

/-- A row's average. -/
def avg (Y : FVec Ideal S16384x4096 .f32) : FVec Ideal S16384x1 .f32 :=
  Host.divf (broadcastInDim S16384x1 ![0] bcast_S16384_S16384x1_0 (Host.reduceAdd Y (constant S_ .f32 0x00000000#32) reducesTo_S16384x4096_S16384_d1 h_S_)) (broadcastInDim S16384x1 ![] bcast_S_S16384x1 (constant S_ .f32 0x45800000#32))

/-- The rows less their averages. -/
def dev (Y : FVec Ideal S16384x4096 .f32) : FVec Ideal S16384x4096 .f32 :=
  subf Y (broadcastInDim S16384x4096 ![0, 1] bcast_S16384x1_S16384x4096_0_1 (avg Y))

/-- The rows normalised. -/
def result (X : FVec Ideal S16384x4096 .f32) (G B : FVec Ideal S4096 .f32) : FVec Ideal S16384x4096 .f32 :=
  addf (mulf (mulf (dev X) (broadcastInDim S16384x4096 ![0, 1] bcast_S16384x1_S16384x4096_0_1 (Host.rsqrt (addf (avg (mulf (dev X) (dev X))) (broadcastInDim S16384x1 ![] bcast_S_S16384x1 (constant S_ .f32 0x3727C5AC#32))))))
    (broadcastInDim S16384x4096 ![0, 1] bcast_S1x4096_S16384x4096_0_1 (broadcastInDim S1x4096 ![1] bcast_S4096_S1x4096_1 G)))
    (broadcastInDim S16384x4096 ![0, 1] bcast_S1x4096_S16384x4096_0_1 (broadcastInDim S1x4096 ![1] bcast_S4096_S1x4096_1 B))

theorem avg_at (Y : FVec Ideal S16384x4096 .f32) (r : Fin 16384) :
    avg Y (ix2 r 0) = Ideal.div (∑ k : Fin 4096, Y (ix2 r k)) (Ideal.ofBits .f32 0x45800000#32) := by
  pointwise [avg]

theorem dev_at (Y : FVec Ideal S16384x4096 .f32) (r : Fin 16384) (d : Fin 4096) : dev Y (ix2 r d) = Y (ix2 r d) - avg Y (ix2 r 0) := by
  pointwise [dev]

theorem sq_at (Y : FVec Ideal S16384x4096 .f32) (r : Fin 16384) (d : Fin 4096) : mulf Y Y (ix2 r d) = Y (ix2 r d) * Y (ix2 r d) := rfl

theorem norm_at (X : FVec Ideal S16384x4096 .f32) (G B : FVec Ideal S4096 .f32) (r : Fin 16384) (d : Fin 4096) :
    result X G B (ix2 r d) = dev X (ix2 r d) * Ideal.rsqrt (avg (mulf (dev X) (dev X)) (ix2 r 0) + Ideal.ofBits .f32 0x3727C5AC#32) * G (ix1 d) + B (ix1 d) := by
  pointwise [result]

theorem result_at (X : FVec Ideal S16384x4096 .f32) (G B : FVec Ideal S4096 .f32) (r : Fin 16384) (d : Fin 4096)
    (μ : EReal) (hμ : μ = Ideal.div (∑ k : Fin 4096, X (ix2 r k)) (Ideal.ofBits .f32 0x45800000#32)) :
    result X G B (ix2 r d) = (X (ix2 r d) - μ)
      * Ideal.rsqrt (Ideal.div (∑ k : Fin 4096, (X (ix2 r k) - μ) * (X (ix2 r k) - μ)) (Ideal.ofBits .f32 0x45800000#32) + Ideal.ofBits .f32 0x3727C5AC#32) * G (ix1 d) + B (ix1 d) := by
  have e : avg X (ix2 r 0) = μ := by rw [avg_at, hμ]
  rw [norm_at, avg_at, dev_at, e]
  simp only [sq_at, dev_at, e]

end Cert.NormReferenceIdeal.Own

end
-- ==== Proof.NormVal.lean ====
/- The first norm's result arrays are its reference's. -/
module

public import proofs.«01_k».proof.Proof.Gen.NormIdeal.Value
public import proofs.«01_k».proof.Proof.NormRef
public import Idealize.ShloMosaic.Lib.Pointwise
public import Idealize.ShloMosaic.Lib.IdealHost
public import Idealize.ShloMosaic.Lib.Pipeline.ValueKit.Geometry
public import Idealize.ShloMosaic.Lib.Pipeline.ValueKit.Acc

@[expose] public section

set_option maxRecDepth 16384

noncomputable section

namespace Cert.NormIdeal.Own

open Idealize.ShloMosaic Cert.NormIdeal Cert.NormIdeal.Gen Cert.NormIdeal.Value
open Cert.NormReferenceIdeal.Own (result result_at)

/-- A row's average in a block. -/
def avg (x : FVec Ideal S256x4096 .f32) : FVec Ideal S256x1 .f32 :=
  divf (shapeCast S256x1 (multiReduction .add [1] S256 x 0x00000000#32 reduces_S256x4096_S256 (.inl rfl) rfl) shapeCasts_S256_S256x1) (broadcast S256x1 (Scalar.ofBits .f32 0x45800000#32))

/-- The rows of a block less their averages. -/
def dev (x : FVec Ideal S256x4096 .f32) : FVec Ideal S256x4096 .f32 := subf x (broadcastTo S256x4096 (avg x) broadcasts_S256x1_S256x4096)

theorem avg_at (x : FVec Ideal S256x4096 .f32) (y : Fin 256) :
    avg x (ix2 y 0) = Ideal.div (∑ k : Fin 4096, x (ix2 y k)) (Ideal.ofBits .f32 0x45800000#32) := by
  pointwise [avg]

theorem dev_at (x : FVec Ideal S256x4096 .f32) (y : Fin 256) (d : Fin 4096) : dev x (ix2 y d) = x (ix2 y d) - avg x (ix2 y 0) := by
  pointwise [dev]

theorem sq_at (x : FVec Ideal S256x4096 .f32) (y : Fin 256) (d : Fin 4096) : mulf x x (ix2 y d) = x (ix2 y d) * x (ix2 y d) := rfl

/-- The block's result from its deviations and variances. -/
def fin (D : FVec Ideal S256x4096 .f32) (W : FVec Ideal S256x1 .f32) (g b : FVec Ideal S1x4096 .f32) : FVec Ideal S256x4096 .f32 :=
  addf (mulf (mulf D (broadcastTo S256x4096 (rsqrt (addf W (broadcast S256x1 (Scalar.ofBits .f32 0x3727C5AC#32)))) broadcasts_S256x1_S256x4096))
    (broadcastTo S256x4096 (shapeCast S1x4096 g shapeCasts_S1x4096_S1x4096) broadcasts_S1x4096_S256x4096)) (broadcastTo S256x4096 (shapeCast S1x4096 b shapeCasts_S1x4096_S1x4096) broadcasts_S1x4096_S256x4096)

theorem fin_at (D : FVec Ideal S256x4096 .f32) (W : FVec Ideal S256x1 .f32) (g b : FVec Ideal S1x4096 .f32) (y : Fin 256) (d : Fin 4096) :
    fin D W g b (ix2 y d) = D (ix2 y d) * Ideal.rsqrt (W (ix2 y 0) + Ideal.ofBits .f32 0x3727C5AC#32) * g (ix2 0 d) + b (ix2 0 d) := by
  pointwise [fin]

theorem pay_eq (x : FVec Ideal S256x4096 .f32) (g b : FVec Ideal S1x4096 .f32) :
    k0_pay1 (F := Ideal) x g b = fin (dev x) (avg (mulf (dev x) (dev x))) g b := rfl

theorem pay_at (x : FVec Ideal S256x4096 .f32) (g b : FVec Ideal S1x4096 .f32) (y : Fin 256) (d : Fin 4096)
    (μ : EReal) (hμ : μ = Ideal.div (∑ k : Fin 4096, x (ix2 y k)) (Ideal.ofBits .f32 0x45800000#32)) :
    (k0_pay1 (F := Ideal) x g b : FVec Ideal S256x4096 .f32) (ix2 y d) = (x (ix2 y d) - μ)
      * Ideal.rsqrt (Ideal.div (∑ k : Fin 4096, (x (ix2 y k) - μ) * (x (ix2 y k) - μ)) (Ideal.ofBits .f32 0x45800000#32) + Ideal.ofBits .f32 0x3727C5AC#32) * g (ix2 0 d) + b (ix2 0 d) := by
  have e : avg x (ix2 y 0) = μ := by rw [avg_at, hμ]
  rw [pay_eq, fin_at, avg_at, dev_at, e]
  simp only [sq_at, dev_at, e]

variable (m : (ℓ : Loc nD τ sig) → Buf (Elt Ideal) ℓ) (c : Dev nD)

theorem tlt (t : Fin cfg0.N) : t.val < 64 := t.isLt

theorem tr0 : ∀ t : Fin grid0.N, cc0_transform_0 (grid0.coords t) = ![t.val, 0] := by decide +kernel
theorem tr3 : ∀ t : Fin grid0.N, cc0_transform_3 (grid0.coords t) = ![t.val, 0] := by decide +kernel
theorem tr4 : ∀ t : Fin grid0.N, cc0_transform_4 (grid0.coords t) = ![t.val, 0] := by decide +kernel

theorem V_g : (V m c main_v0 : FVec Ideal S1x4096 .f32) = shapeCast S1x4096 (m ((c.tc : Thread nD τ).loc main_arg1) : FVec Ideal S4096 .f32) shapeCasts_S4096_S1x4096 := by
  simp only [V, hostOps0, List.flatten_cons, List.flatten_nil, List.append_nil, List.cons_append, List.nil_append]
  after_results_simp <;> rfl

theorem V_b : (V m c main_v1 : FVec Ideal S1x4096 .f32) = shapeCast S1x4096 (m ((c.tc : Thread nD τ).loc main_arg2) : FVec Ideal S4096 .f32) shapeCasts_S4096_S1x4096 := by
  simp only [V, hostOps0, List.flatten_cons, List.flatten_nil, List.append_nil, List.cons_append, List.nil_append]
  after_results_simp <;> rfl

theorem flat_at (B : FVec Ideal S4096 .f32) (k : Fin 4096) : shapeCast S1x4096 B shapeCasts_S4096_S1x4096 (ix2 0 k) = B (ix1 k) := by
  pointwise

theorem x_at (t : Fin cfg0.N) (y : Fin 256) (k : Fin 4096) : (iblk m c 0 t : FVec Ideal S256x4096 .f32) (ix2 y k)
    = (m ((c.tc : Thread nD τ).loc main_arg0) : FVec Ideal S16384x4096 .f32) (ix2 ⟨t.val * 256 + y.val, by have := tlt t; omega⟩ k) := by
  refine Eq.trans ?_ (congrFun (V_main_arg0 m c) _)
  refine congrArg (V m c main_arg0) (funext fun a => Fin.ext ?_)
  fin_cases a
  · show cc0_transform_0 (grid0.coords t) 0 * 256 + 1 * y.val = _
    rw [show cc0_transform_0 (grid0.coords t) 0 = _ from congrFun (tr0 t) 0, Nat.one_mul]; rfl
  · show cc0_transform_0 (grid0.coords t) 1 * 4096 + 1 * k.val = k.val
    rw [show cc0_transform_0 (grid0.coords t) 1 = 0 from congrFun (tr0 t) 1]; omega

theorem g_at (t : Fin cfg0.N) (d : Fin 4096) : (iblk m c 1 t : FVec Ideal S1x4096 .f32) (ix2 0 d) = (m ((c.tc : Thread nD τ).loc main_arg1) : FVec Ideal S4096 .f32) (ix1 d) := by
  refine Eq.trans ?_ ((congrFun (V_g m c) _).trans (flat_at _ _))
  refine congrArg (V m c main_v0) (funext fun a => Fin.ext ?_)
  fin_cases a
  · rfl
  · show 0 * 4096 + 1 * d.val = d.val
    omega

theorem b_at (t : Fin cfg0.N) (d : Fin 4096) : (iblk m c 2 t : FVec Ideal S1x4096 .f32) (ix2 0 d) = (m ((c.tc : Thread nD τ).loc main_arg2) : FVec Ideal S4096 .f32) (ix1 d) := by
  refine Eq.trans ?_ ((congrFun (V_b m c) _).trans (flat_at _ _))
  refine congrArg (V m c main_v1) (funext fun a => Fin.ext ?_)
  fin_cases a
  · rfl
  · show 0 * 4096 + 1 * d.val = d.val
    omega

theorem emb3 (t : Fin cfg0.N) (y : Fin 256) (d : Fin 4096) : (((cfg0.win 3).blk t).view.emb (ix2 y d : S256x4096.Idx) : S16384x4096.Idx)
    = ix2 ⟨t.val * 256 + y.val, by have := tlt t; omega⟩ d := by
  refine funext fun a => Fin.ext ?_
  fin_cases a
  · show cc0_transform_3 (grid0.coords t) 0 * 256 + 1 * y.val = _
    rw [show cc0_transform_3 (grid0.coords t) 0 = _ from congrFun (tr3 t) 0, Nat.one_mul]; rfl
  · show cc0_transform_3 (grid0.coords t) 1 * 4096 + 1 * d.val = d.val
    rw [show cc0_transform_3 (grid0.coords t) 1 = 0 from congrFun (tr3 t) 1]; omega

theorem emb4 (t : Fin cfg0.N) (y : Fin 256) (d : Fin 4096) : (((cfg0.win 4).blk t).view.emb (ix2 y d : S256x4096.Idx) : S16384x4096.Idx)
    = ix2 ⟨t.val * 256 + y.val, by have := tlt t; omega⟩ d := by
  refine funext fun a => Fin.ext ?_
  fin_cases a
  · show cc0_transform_4 (grid0.coords t) 0 * 256 + 1 * y.val = _
    rw [show cc0_transform_4 (grid0.coords t) 0 = _ from congrFun (tr4 t) 0, Nat.one_mul]; rfl
  · show cc0_transform_4 (grid0.coords t) 1 * 4096 + 1 * d.val = d.val
    rw [show cc0_transform_4 (grid0.coords t) 1 = 0 from congrFun (tr4 t) 1]; omega

/-- The reference's result of the kernel's arguments. -/
def goal : FVec Ideal S16384x4096 .f32 :=
  result (m ((c.tc : Thread nD τ).loc main_arg0)) (m ((c.tc : Thread nD τ).loc main_arg1)) (m ((c.tc : Thread nD τ).loc main_arg2))

/-- The same in the narrow format. -/
def goalb : FVec Ideal S16384x4096 .bf16 := truncf .bf16 (goal m c) bitsLt_bf16_f32

theorem blk_eq (t : Fin cfg0.N) (y : Fin 256) (d : Fin 4096) :
    (k0_pay1 (F := Ideal) (iblk m c 0 t) (iblk m c 1 t) (iblk m c 2 t) : FVec Ideal S256x4096 .f32) (ix2 y d) = goal m c (ix2 ⟨t.val * 256 + y.val, by have := tlt t; omega⟩ d) := by
  unfold goal
  rw [pay_at _ _ _ _ _ _ rfl, result_at _ _ _ _ _ _ rfl, g_at, b_at]
  simp only [x_at]

theorem out3 (t : Fin cfg0.N) : out0_3 (iblk m c 0 t) (iblk m c 1 t) (iblk m c 2 t) = k0_pay1 (F := Ideal) (iblk m c 0 t) (iblk m c 1 t) (iblk m c 2 t) := by
  unfold out0_3
  frame_out

theorem out4 (t : Fin cfg0.N) : out0_4 (iblk m c 0 t) (iblk m c 1 t) (iblk m c 2 t) = k0_pay2 (F := Ideal) (iblk m c 0 t) (iblk m c 1 t) (iblk m c 2 t) := by
  unfold out0_4
  frame_out

theorem final3 : (dats m 0 c).arrAt 3 cfg0.N = goal m c := by
  refine (dats m 0 c).arrAt_eq_of_covers 3 _ (by decide +kernel) fun t _ y => ?_
  obtain ⟨a, d, rfl⟩ : ∃ (a : Fin 256) (d : Fin 4096), y = (ix2 a d : S256x4096.Idx) := ⟨y 0, y 1, eq_ix2 (n0 := 256) (n1 := 4096) y⟩
  refine (congrFun (after0_3 m c t) (ix2 a d)).trans ((congrFun (out3 m c t) (ix2 a d)).trans ((blk_eq m c t a d).trans ?_))
  exact (congrArg (goal m c) (emb3 t a d)).symm

theorem final4 : (dats m 0 c).arrAt 4 cfg0.N = goalb m c := by
  refine (dats m 0 c).arrAt_eq_of_covers 4 _ (by decide +kernel) fun t _ y => ?_
  obtain ⟨a, d, rfl⟩ : ∃ (a : Fin 256) (d : Fin 4096), y = (ix2 a d : S256x4096.Idx) := ⟨y 0, y 1, eq_ix2 (n0 := 256) (n1 := 4096) y⟩
  refine (congrFun (after0_4 m c t) (ix2 a d)).trans ((congrFun (out4 m c t) (ix2 a d)).trans ((blk_eq m c t a d).trans ?_))
  exact (congrArg (goal m c) (emb4 t a d)).symm

end Cert.NormIdeal.Own

end
-- ==== Proof.PlanVal.lean ====
/- The rows of the chosen experts' copies: the call's result array is its reference's. -/
module

public import proofs.«01_k».proof.Proof.Gen.PlanIdeal.Value
public import proofs.«01_k».proof.Proof.Gen.PlanReferenceIdeal.Run
public import proofs.«01_k».proof.Proof.Gen.Pre_in_range
public import Idealize.ShloMosaic.Lib.Pointwise
public import Idealize.ShloMosaic.Lib.ValueIdxCore
public import Idealize.ShloMosaic.Lib.Pipeline.ValueKit.Geometry
public import Idealize.ShloMosaic.Lib.Pipeline.ValueKit.Acc

@[expose] public section

set_option maxRecDepth 16384

noncomputable section

namespace Cert.PlanReferenceIdeal.Own

open Idealize.ShloMosaic Cert.PlanReferenceIdeal Cert.PlanReferenceIdeal.Gen

/-- An index counted from the last expert, when below zero, counted from the first. -/
def wrapped (I : IVec S16384x128 32) : IVec S16384x128 32 :=
  select (cmpi .slt I (broadcastInDim S16384x128 ![] bcast_S_S16384x128 (constantI S_ 32 0#32))) (addi I (broadcastInDim S16384x128 ![] bcast_S_S16384x128 (constantI S_ 32 128#32))) I

/-- The same for one index. -/
def wrap (b : BitVec 32) : BitVec 32 := Scalar.select (IntOp.cmpi .slt b 0#32) (IntOp.addi b 128#32) b

/-- The reference's result. -/
def result (I P : IVec S16384x128 32) (S : IVec S128 32) : IVec S16384x128 32 :=
  addi (Host.gather gather_S128_S16384x128x1_S16384x128_n_0_n_n_0_2_1 S (broadcastInDim S16384x128x1 ![0, 1] bcast_S16384x128_S16384x128x1_0_1 (wrapped I))) P

theorem wrapped_at (I : IVec S16384x128 32) (r : Fin 16384) (e : Fin 128) : wrapped I (ix2 r e) = wrap (I (ix2 r e)) := by
  pointwise [wrapped, wrap]

theorem col_at (J : IVec S16384x128 32) (r : Fin 16384) (e : Fin 128) :
    broadcastInDim S16384x128x1 ![0, 1] bcast_S16384x128_S16384x128x1_0_1 J (ix3 r e 0) = J (ix2 r e) := by
  pointwise

theorem result_at (I P : IVec S16384x128 32) (S : IVec S128 32) (r : Fin 16384) (e : Fin 128) :
    result I P S (ix2 r e) = IntOp.addi (S (ix1 ⟨min (wrap (I (ix2 r e))).toInt.toNat 127, by omega⟩)) (P (ix2 r e)) := by
  refine congrArg (fun z => IntOp.addi z (P (ix2 r e))) ?_
  refine (Idealize.ShloMosaic.ValueIdx.gather_take_apply (N := 128) (R := 16384) (C := 128) (by decide) gather_S128_S16384x128x1_S16384x128_n_0_n_n_0_2_1_wf S _ (ix2 r e)).trans ?_
  refine congrArg S (congrArg ix1 (Fin.ext ?_))
  refine congrArg (fun b : BitVec 32 => min b.toInt.toNat 127) ?_
  refine Eq.trans ?_ ((col_at (wrapped I) r e).trans (wrapped_at I r e))
  refine congrArg _ (funext fun a => Fin.ext ?_)
  fin_cases a <;> rfl

/-- Of an index in the range both readings of it, reduced and clamped, are the same. -/
theorem wrap_of_range (b : BitVec 32) (h0 : (-128#32).sle b = true) (h1 : b.slt 128#32 = true) :
    (wrap b).toNat % 128 = min (wrap b).toInt.toNat 127 := by
  have e0 : -128 ≤ b.toInt := by have := BitVec.sle_iff_toInt_le.mp h0; simpa using this
  have e1 : b.toInt < 128 := by have := BitVec.slt_iff_toInt_lt.mp h1; simpa using this
  have key : (wrap b).toNat < 128 := by
    by_cases hs : b.slt 0#32 = true
    · have e2 : b.toInt < 0 := by have := BitVec.slt_iff_toInt_lt.mp hs; simpa using this
      have hw : wrap b = b + 128#32 := by simp [wrap, IntOp.cmpi, IntOp.addi, Scalar.select, hs]
      rw [hw, BitVec.toNat_add]
      rw [BitVec.toInt_eq_toNat_cond] at e0 e1 e2
      have := b.isLt
      simp only [BitVec.toNat_ofNat]
      split at e2 <;> omega
    · have hw : wrap b = b := by simp [wrap, IntOp.cmpi, IntOp.addi, Scalar.select, hs]
      have e2 : ¬ b.toInt < 0 := fun hn => hs (BitVec.slt_iff_toInt_lt.mpr (by simpa using hn))
      rw [hw]
      rw [BitVec.toInt_eq_toNat_cond] at e0 e1 e2
      have := b.isLt
      split at e2 <;> omega
  have hi : (wrap b).toInt = ((wrap b).toNat : ℤ) := by
    rw [BitVec.toInt_eq_toNat_cond, if_pos (by omega)]
  rw [hi, Int.toNat_natCast]
  omega

/-- What the precondition says of one index. -/
theorem range_of (I P : IVec S16384x128 32) (S : IVec S128 32) (h : Cert.Pre_in_range.fn (F := Ideal) I P S = fun _ => 1#1)
    (r : Fin 16384) (e : Fin 128) : (-128#32).sle (I (ix2 r e)) = true ∧ (I (ix2 r e)).slt 128#32 = true := by
  have h := congrFun h (ix2 r e)
  have h : IntOp.andi (IntOp.cmpi .sge (I (ix2 r e)) 4294967168#32) (IntOp.cmpi .slt (I (ix2 r e)) 128#32) = 1#1 := by
    revert h
    pointwise [Cert.Pre_in_range.fn]
    exact id
  generalize I (ix2 r e) = b at h ⊢
  show (4294967168#32).sle b = true ∧ b.slt 128#32 = true
  simp only [IntOp.cmpi, IntOp.andi] at h
  revert h
  cases (4294967168#32).sle b <;> cases b.slt 128#32 <;> simp

end Cert.PlanReferenceIdeal.Own

namespace Cert.PlanIdeal.Own

open Idealize.ShloMosaic Cert.PlanIdeal Cert.PlanIdeal.Gen Cert.PlanIdeal.Value
open Cert.PlanReferenceIdeal.Own (wrap result result_at wrap_of_range range_of)

theorem pay_at (s : IVec S1x128 32) (i p : IVec S1024x128 32) (y : Fin 1024) (e : Fin 128) :
    (k0_pay1 (F := Ideal) s i p : IVec S1024x128 32) (ix2 y e) = IntOp.addi (s (ix2 0 ⟨(wrap (i (ix2 y e))).toNat % 128, Nat.mod_lt _ (by decide)⟩)) (p (ix2 y e)) := by
  pointwise [k0_pay1, wrap]

variable (m : (ℓ : Loc nD τ sig) → Buf (Elt Ideal) ℓ) (c : Dev nD)

theorem tlt (t : Fin cfg0.N) : t.val < 16 := t.isLt

theorem tr0 : ∀ t : Fin grid0.N, cc0_transform_0 (grid0.coords t) = ![t.val, 0] := by decide +kernel
theorem tr1 : ∀ t : Fin grid0.N, cc0_transform_1 (grid0.coords t) = ![t.val, 0] := by decide +kernel
theorem tr3 : ∀ t : Fin grid0.N, cc0_transform_3 (grid0.coords t) = ![t.val, 0] := by decide +kernel

theorem V_s : (V m c main_v0 : IVec S1x128 32) = shapeCast S1x128 (m ((c.tc : Thread nD τ).loc main_arg2) : IVec S128 32) shapeCasts_S128_S1x128 := by
  simp only [V, hostOps0, List.flatten_cons, List.flatten_nil, List.append_nil, List.cons_append, List.nil_append]
  after_results_simp <;> rfl

theorem flat_at (B : IVec S128 32) (k : Fin 128) : shapeCast S1x128 B shapeCasts_S128_S1x128 (ix2 0 k) = B (ix1 k) := by
  pointwise

theorem i_at (t : Fin cfg0.N) (y : Fin 1024) (k : Fin 128) : (iblk m c 0 t : IVec S1024x128 32) (ix2 y k)
    = (m ((c.tc : Thread nD τ).loc main_arg0) : IVec S16384x128 32) (ix2 ⟨t.val * 1024 + y.val, by have := tlt t; omega⟩ k) := by
  refine Eq.trans ?_ (congrFun (V_main_arg0 m c) _)
  refine congrArg (V m c main_arg0) (funext fun a => Fin.ext ?_)
  fin_cases a
  · show cc0_transform_0 (grid0.coords t) 0 * 1024 + 1 * y.val = _
    rw [show cc0_transform_0 (grid0.coords t) 0 = _ from congrFun (tr0 t) 0, Nat.one_mul]; rfl
  · show cc0_transform_0 (grid0.coords t) 1 * 128 + 1 * k.val = k.val
    rw [show cc0_transform_0 (grid0.coords t) 1 = 0 from congrFun (tr0 t) 1]; omega

theorem p_at (t : Fin cfg0.N) (y : Fin 1024) (k : Fin 128) : (iblk m c 1 t : IVec S1024x128 32) (ix2 y k)
    = (m ((c.tc : Thread nD τ).loc main_arg1) : IVec S16384x128 32) (ix2 ⟨t.val * 1024 + y.val, by have := tlt t; omega⟩ k) := by
  refine Eq.trans ?_ (congrFun (V_main_arg1 m c) _)
  refine congrArg (V m c main_arg1) (funext fun a => Fin.ext ?_)
  fin_cases a
  · show cc0_transform_1 (grid0.coords t) 0 * 1024 + 1 * y.val = _
    rw [show cc0_transform_1 (grid0.coords t) 0 = _ from congrFun (tr1 t) 0, Nat.one_mul]; rfl
  · show cc0_transform_1 (grid0.coords t) 1 * 128 + 1 * k.val = k.val
    rw [show cc0_transform_1 (grid0.coords t) 1 = 0 from congrFun (tr1 t) 1]; omega

theorem s_at (t : Fin cfg0.N) (k : Fin 128) : (iblk m c 2 t : IVec S1x128 32) (ix2 0 k) = (m ((c.tc : Thread nD τ).loc main_arg2) : IVec S128 32) (ix1 k) := by
  refine Eq.trans ?_ ((congrFun (V_s m c) _).trans (flat_at _ _))
  refine congrArg (V m c main_v0) (funext fun a => Fin.ext ?_)
  fin_cases a
  · rfl
  · show 0 * 128 + 1 * k.val = k.val
    omega

theorem emb3 (t : Fin cfg0.N) (y : Fin 1024) (k : Fin 128) : (((cfg0.win 3).blk t).view.emb (ix2 y k : S1024x128.Idx) : S16384x128.Idx)
    = ix2 ⟨t.val * 1024 + y.val, by have := tlt t; omega⟩ k := by
  refine funext fun a => Fin.ext ?_
  fin_cases a
  · show cc0_transform_3 (grid0.coords t) 0 * 1024 + 1 * y.val = _
    rw [show cc0_transform_3 (grid0.coords t) 0 = _ from congrFun (tr3 t) 0, Nat.one_mul]; rfl
  · show cc0_transform_3 (grid0.coords t) 1 * 128 + 1 * k.val = k.val
    rw [show cc0_transform_3 (grid0.coords t) 1 = 0 from congrFun (tr3 t) 1]; omega

/-- The reference's result of the kernel's arguments. -/
def goal : IVec S16384x128 32 :=
  result (m ((c.tc : Thread nD τ).loc main_arg0)) (m ((c.tc : Thread nD τ).loc main_arg1)) (m ((c.tc : Thread nD τ).loc main_arg2))

theorem out3 (t : Fin cfg0.N) : out0_3 (F := Ideal) (iblk m c 0 t) (iblk m c 1 t) (iblk m c 2 t) = k0_pay1 (F := Ideal) (iblk m c 2 t) (iblk m c 0 t) (iblk m c 1 t) := by
  unfold out0_3
  frame_out

theorem final3 (h : Cert.Pre_in_range.fn (F := Ideal) (m ((c.tc : Thread nD τ).loc main_arg0)) (m ((c.tc : Thread nD τ).loc main_arg1)) (m ((c.tc : Thread nD τ).loc main_arg2)) = fun _ => 1#1) :
    (dats m 0 c).arrAt 3 cfg0.N = goal m c := by
  refine (dats m 0 c).arrAt_eq_of_covers 3 _ (by decide +kernel) fun t _ y => ?_
  obtain ⟨a, d, rfl⟩ : ∃ (a : Fin 1024) (d : Fin 128), y = (ix2 a d : S1024x128.Idx) := ⟨y 0, y 1, eq_ix2 (n0 := 1024) (n1 := 128) y⟩
  refine (congrFun (after0_3 m c t) (ix2 a d)).trans ((congrFun (out3 m c t) (ix2 a d)).trans (Eq.trans ?_ (congrArg (goal m c) (emb3 t a d)).symm))
  unfold goal
  rw [pay_at, result_at, s_at, i_at, p_at]
  obtain ⟨h0, h1⟩ := range_of _ _ _ h ⟨t.val * 1024 + a.val, by have := tlt t; omega⟩ d
  have hw := wrap_of_range _ h0 h1
  exact congrArg (fun z => IntOp.addi ((m ((c.tc : Thread nD τ).loc main_arg2) : IVec S128 32) (ix1 z)) _) (Fin.ext hw)

end Cert.PlanIdeal.Own

end
-- ==== Proof.lean ====
/- The six kernels' certificate: the frames, the two texts' agreement and the value. -/
module

public import proofs.«01_k».proof.Defs
public import proofs.«01_k».proof.Proof.Run
public import proofs.«01_k».proof.Proof.K.Run
public import proofs.«01_k».proof.Proof.KFinal
public import proofs.«01_k».proof.Proof.Gen.ReferenceIdeal.Run
public import proofs.«01_k».proof.Proof.Gen.Pre_finite
public import proofs.«01_k».proof.Proof.Gen.Proj.Frame
public import proofs.«01_k».proof.Proof.Gen.ProjIdeal.Value
public import proofs.«01_k».proof.Proof.Gen.ProjReferenceIdeal.Run
public import proofs.«01_k».proof.Proof.Gen.Mix.Frame
public import proofs.«01_k».proof.Proof.Gen.MixIdeal.Value
public import proofs.«01_k».proof.Proof.Gen.MixReferenceIdeal.Run
public import proofs.«01_k».proof.Proof.Gen.Out.Frame
public import proofs.«01_k».proof.Proof.Gen.OutIdeal.Frame
public import proofs.«01_k».proof.Proof.Gen.OutIdeal.Skeleton
public import proofs.«01_k».proof.Proof.Gen.Out.Skeleton
public import proofs.«01_k».proof.Proof.Gen.OutReferenceIdeal.Run
public import proofs.«01_k».proof.Proof.Gen.Norm.Frame
public import proofs.«01_k».proof.Proof.Gen.NormIdeal.Value
public import proofs.«01_k».proof.Proof.Gen.NormReferenceIdeal.Run
public import proofs.«01_k».proof.Proof.Gen.Pre_in_range
public import proofs.«01_k».proof.Proof.Gen.Plan.Frame
public import proofs.«01_k».proof.Proof.Gen.PlanIdeal.Value
public import proofs.«01_k».proof.Proof.Gen.PlanReferenceIdeal.Run
public import proofs.«01_k».proof.Proof.ProjVal
public import proofs.«01_k».proof.Proof.MixVal
public import proofs.«01_k».proof.Proof.OutVal
public import proofs.«01_k».proof.Proof.NormVal
public import proofs.«01_k».proof.Proof.PlanVal
public import proofs.«01_k».proof.Proof.K.OutRun
public import Idealize.ShloMosaic.Lib.Bf16Pair
public import Idealize.ShloMosaic.Lib.Bf16PairInverse

@[expose] public section

set_option maxRecDepth 16384

noncomputable section

namespace Cert.Proof

open Idealize.ShloMosaic Idealize.SL.Sem

theorem frame_P : Cert.quiescent_Kernel := fun m ρ _ =>
  (θ_run Cert.Kernel.defs _ _).mono (fun r h => ⟨fun c => ⟨
      ((h.1 c).1 3).trans (((Cert.Kernel.Own.dats m 0 c).arrAt_in 3 rfl _).trans (Cert.Kernel.Gen.V_main_arg0 m c)),
      ((h.1 c).1 0).trans (((Cert.Kernel.Own.dats m 0 c).arrAt_in 0 rfl _).trans (Cert.Kernel.Gen.V_main_arg1 m c)),
      ((h.1 c).2 Cert.Kernel.main_arg2 (Pipeline.mem_restRefs_of Cert.Kernel.main_arg2 (by decide) (by decide))).trans (Cert.Kernel.Gen.V_main_arg2 m c)⟩, h.2⟩)
    (Cert.Kernel.Own.run_main m ρ)

theorem frame_PI : Cert.quiescent_KernelIdeal := fun m ρ _ =>
  (θ_run Cert.KernelIdeal.defs _ _).mono (fun r h => ⟨fun c => ⟨
      ((h.1 c).1 3).trans (((Cert.KernelIdeal.Own.dats m 0 c).arrAt_in 3 rfl _).trans (Cert.KernelIdeal.Gen.V_main_arg0 m c)),
      ((h.1 c).1 0).trans (((Cert.KernelIdeal.Own.dats m 0 c).arrAt_in 0 rfl _).trans (Cert.KernelIdeal.Gen.V_main_arg1 m c)),
      ((h.1 c).2 Cert.KernelIdeal.main_arg2 (Pipeline.mem_restRefs_of Cert.KernelIdeal.main_arg2 (by decide) (by decide))).trans (Cert.KernelIdeal.Gen.V_main_arg2 m c)⟩, h.2⟩)
    (Cert.KernelIdeal.Own.run_main m ρ)

theorem frame_PI_pre : Cert.quiescent_KernelIdeal_pre_finite := fun m ρ _ => frame_PI m ρ trivial

theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_RI_pre : Cert.quiescent_ReferenceIdeal_pre_finite := fun m ρ _ => frame_RI m ρ trivial

theorem bits_and : ∀ a b : BitVec 1, IntOp.andi a b = 1#1 → a = 1#1 ∧ b = 1#1 := by decide

theorem inf_bf16 : Ideal.ofBits .bf16 0x7F80#16 = ⊤ := by simp [Ideal.ofBits, Ideal.ieee]

theorem inf_f32 : Ideal.ofBits .f32 0x7F800000#32 = ⊤ := by simp [Ideal.ofBits, Ideal.ieee]

/-- What is less than infinity in absolute value is a number. -/
theorem real_of_olt (x t : EReal) (ht : t = ⊤) (h : Ideal.cmp .olt (max x (-x)) t = 1#1) : ∃ v : ℝ, x = (v : EReal) := by
  have hlt : max x (-x) < ⊤ := by
    rw [← ht]
    by_contra hn
    simp [Ideal.cmp, hn] at h
  have h1 : x ≠ ⊤ := ((le_max_left _ _).trans_lt hlt).ne
  have h2 : x ≠ ⊥ := fun hb => by simp [hb] at hlt
  exact ⟨_, (EReal.coe_toReal h1 h2).symm⟩

/-- What the precondition says of the arrays: the queries, keys and values are numbers, and so is the second map's weight. -/
theorem numbers (X : FVec Ideal Cert.KernelIdeal.S16384x28672 .bf16) (L : FVec Ideal Cert.KernelIdeal.S1 .f32) (G : FVec Ideal Cert.KernelIdeal.S256 .f32)
    (h : Cert.Pre_finite.fn (F := Ideal) X L G = fun _ => 1#1) :
    (∀ (r : Fin 16384) (k : Fin 28672), k.val < 12288 → ∃ v : ℝ, X (ix2 r k) = (v : EReal)) ∧ ∃ l : ℝ, L (ix1 0) = (l : EReal) := by
  have e : ∀ (r : Fin 16384) (k : Fin 12288), IntOp.andi (FloatOps.cmpf (F := Ideal) (φ := .bf16) .olt (FloatOps.absf (F := Ideal) (φ := .bf16) (X (ix2 r ⟨k.val, by omega⟩))) (Ideal.ofBits .bf16 0x7F80#16)) (FloatOps.cmpf (F := Ideal) (φ := .f32) .olt (FloatOps.absf (F := Ideal) (φ := .f32) (L (ix1 0))) (Ideal.ofBits .f32 0x7F800000#32)) = 1#1 := fun r k => by
    have h := congrFun h (ix2 r k)
    revert h
    pointwise [Cert.Pre_finite.fn]
    intro h
    exact h
  refine ⟨fun r k hk => real_of_olt _ _ inf_bf16 (bits_and _ _ (e r ⟨k.val, hk⟩)).1, real_of_olt _ _ inf_f32 (bits_and _ _ (e 0 0)).2⟩

theorem value : Cert.algebraic_KernelIdeal_ReferenceIdeal_pre_finite := fun m ρ m' ρ' hpre harg => by
  have hn := fun c => numbers _ _ _ (hpre c)
  refine ⟨fun c => Cert.ReferenceIdeal.Own.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ⟨?_,
      ((h.1 c).1 3).trans (((Cert.KernelIdeal.Own.dats m 0 c).arrAt_in 3 rfl _).trans (Cert.KernelIdeal.Gen.V_main_arg0 m c)),
      ((h.1 c).1 0).trans (((Cert.KernelIdeal.Own.dats m 0 c).arrAt_in 0 rfl _).trans (Cert.KernelIdeal.Gen.V_main_arg1 m c)),
      ((h.1 c).2 Cert.KernelIdeal.main_arg2 (Pipeline.mem_restRefs_of Cert.KernelIdeal.main_arg2 (by decide) (by decide))).trans (Cert.KernelIdeal.Gen.V_main_arg2 m c)⟩)
      (Cert.KernelIdeal.Own.run_main m ρ)
    obtain ⟨hX, l, hL⟩ := hn c
    refine ((h.1 c).1 5).trans (Cert.KernelIdeal.Own.final m c (fun r k => if h : r < 16384 ∧ k < 28672 then EReal.toReal ((m ((c.tc : Thread Cert.KernelIdeal.nD Cert.KernelIdeal.τ).loc Cert.KernelIdeal.main_arg0) : FVec Ideal Cert.KernelIdeal.S16384x28672 .bf16) (ix2 ⟨r, h.1⟩ ⟨k, h.2⟩)) else 0) l (fun r k hk => ?_) hL)
    obtain ⟨v, hv⟩ := hX r k hk
    rw [dif_pos ⟨r.isLt, k.isLt⟩, hv]
    exact congrArg _ (EReal.toReal_coe v).symm
  · refine (θ_run Cert.ReferenceIdeal.defs _ _).mono (fun r h c => ⟨(h c).1.trans ?_, (h c).2⟩) (Cert.ReferenceIdeal.Value.run (F := Ideal) m' ρ')
    obtain ⟨a0, a1, a2⟩ := harg c
    rw [Cert.ReferenceIdeal.Own.res_eq, a0, a1, a2]

theorem frame_Proj_reference : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

theorem frame_Mix_reference : Cert.quiescent_MixReferenceIdeal := fun m ρ _ =>
  (θ_run Cert.MixReferenceIdeal.defs _ _).mono (fun r h => ⟨fun c => (h c).2, sem_eq_zero_of_no_sems (by decide) r.2⟩)
    (Cert.MixReferenceIdeal.Value.run (F := Ideal) m ρ)

theorem scale_named : Cert.preserves_Proj_ProjIdeal :=
  IdealRules.named_const.statement Cert.ProjIdeal.κ "q_scale" .f32 0x3E0293EE#32 (((Real.sqrt 128)⁻¹ * (Real.log 2)⁻¹ : ℝ) : EReal) rfl

theorem value_proj : Cert.algebraic_ProjIdeal_ProjReferenceIdeal := fun m ρ m' ρ' _ harg => by
  refine ⟨fun c => Cert.ProjIdeal.Own.goal m c, ?_, ?_⟩
  · exact (θ_run Cert.ProjIdeal.defs _ _).mono (fun r h c => ⟨(h c).1.trans (Cert.ProjIdeal.Own.final m c), (h c).2⟩) (Cert.ProjIdeal.Value.run_blocks (F := Ideal) m ρ)
  · refine (θ_run Cert.ProjReferenceIdeal.defs _ _).mono (fun r h c => ⟨(h c).1.trans ?_, (h c).2⟩) (Cert.ProjReferenceIdeal.Value.run (F := Ideal) m' ρ')
    obtain ⟨a0, a1, a2⟩ := harg c
    rw [Cert.ProjReferenceIdeal.Own.res_eq, a0, a1, a2]
    rfl

theorem value_mix : Cert.algebraic_MixIdeal_MixReferenceIdeal := fun m ρ m' ρ' _ harg => by
  refine ⟨fun c => Cert.MixIdeal.Own.goal m c, ?_, ?_⟩
  · exact (θ_run Cert.MixIdeal.defs _ _).mono (fun r h c => ⟨(h c).1.trans (Cert.MixIdeal.Own.final m c), (h c).2⟩) (Cert.MixIdeal.Value.run_blocks (F := Ideal) m ρ)
  · refine (θ_run Cert.MixReferenceIdeal.defs _ _).mono (fun r h c => ⟨(h c).1.trans ?_, (h c).2⟩) (Cert.MixReferenceIdeal.Value.run (F := Ideal) m' ρ')
    obtain ⟨a0, a1, a2, a3, a4, a5⟩ := harg c
    rw [a0, a1, a2, a3, a4, a5]
    rfl

theorem frame_Out : Cert.quiescent_Out := fun m ρ _ =>
  (θ_run Cert.Out.defs _ _).mono (fun r h => ⟨fun c => ⟨
      ((h.1 c).1 0).trans (((Cert.Out.Own.dats m 0 c).arrAt_in 0 rfl _).trans (Cert.Out.Gen.V_main_arg0 m c)),
      ((h.1 c).2 Cert.Out.main_arg1 (Pipeline.mem_restRefs_of Cert.Out.main_arg1 (by decide) (by decide))).trans (Cert.Out.Gen.V_main_arg1 m c),
      ((h.1 c).1 2).trans (((Cert.Out.Own.dats m 0 c).arrAt_in 2 rfl _).trans (Cert.Out.Gen.V_main_arg2 m c)),
      ((h.1 c).2 Cert.Out.main_arg3 (Pipeline.mem_restRefs_of Cert.Out.main_arg3 (by decide) (by decide))).trans (Cert.Out.Gen.V_main_arg3 m c),
      ((h.1 c).2 Cert.Out.main_arg4 (Pipeline.mem_restRefs_of Cert.Out.main_arg4 (by decide) (by decide))).trans (Cert.Out.Gen.V_main_arg4 m c)⟩, h.2⟩)
    (Cert.Out.Own.run_main m ρ)

theorem frame_OutIdeal : Cert.quiescent_OutIdeal := fun m ρ _ =>
  (θ_run Cert.OutIdeal.defs _ _).mono (fun r h => ⟨fun c => ⟨
      ((h.1 c).1 0).trans (((Cert.OutIdeal.Own.dats m 0 c).arrAt_in 0 rfl _).trans (Cert.OutIdeal.Gen.V_main_arg0 m c)),
      ((h.1 c).2 Cert.OutIdeal.main_arg1 (Pipeline.mem_restRefs_of Cert.OutIdeal.main_arg1 (by decide) (by decide))).trans (Cert.OutIdeal.Gen.V_main_arg1 m c),
      ((h.1 c).1 2).trans (((Cert.OutIdeal.Own.dats m 0 c).arrAt_in 2 rfl _).trans (Cert.OutIdeal.Gen.V_main_arg2 m c)),
      ((h.1 c).2 Cert.OutIdeal.main_arg3 (Pipeline.mem_restRefs_of Cert.OutIdeal.main_arg3 (by decide) (by decide))).trans (Cert.OutIdeal.Gen.V_main_arg3 m c),
      ((h.1 c).2 Cert.OutIdeal.main_arg4 (Pipeline.mem_restRefs_of Cert.OutIdeal.main_arg4 (by decide) (by decide))).trans (Cert.OutIdeal.Gen.V_main_arg4 m c)⟩, h.2⟩)
    (Cert.OutIdeal.Own.run_main m ρ)

theorem frame_Out_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- Each packing rule the second text was made by, at the shapes it was used at. -/
theorem packing : Cert.preserves_Out_OutIdeal :=
  ⟨IdealRules.bf16_pair.bufferStatement _ _, IdealRules.bf16_pair.bufferStatement _ _, IdealRules.bf16_pair.statement _ _, IdealRules.bf16_pack.statement _⟩

theorem value_out : Cert.algebraic_OutIdeal_OutReferenceIdeal := fun m ρ m' ρ' _ harg => by
  refine ⟨fun c => Cert.OutIdeal.Own.goal m c, ?_, ?_⟩
  · refine (θ_run Cert.OutIdeal.defs _ _).mono (fun r h c => ⟨((h.1 c).1 5).trans (Cert.OutIdeal.Own.final m c),
      ((h.1 c).1 0).trans (((Cert.OutIdeal.Own.dats m 0 c).arrAt_in 0 rfl _).trans (Cert.OutIdeal.Gen.V_main_arg0 m c)),
      ((h.1 c).2 Cert.OutIdeal.main_arg1 (Pipeline.mem_restRefs_of Cert.OutIdeal.main_arg1 (by decide) (by decide))).trans (Cert.OutIdeal.Gen.V_main_arg1 m c),
      ((h.1 c).1 2).trans (((Cert.OutIdeal.Own.dats m 0 c).arrAt_in 2 rfl _).trans (Cert.OutIdeal.Gen.V_main_arg2 m c)),
      ((h.1 c).2 Cert.OutIdeal.main_arg3 (Pipeline.mem_restRefs_of Cert.OutIdeal.main_arg3 (by decide) (by decide))).trans (Cert.OutIdeal.Gen.V_main_arg3 m c),
      ((h.1 c).2 Cert.OutIdeal.main_arg4 (Pipeline.mem_restRefs_of Cert.OutIdeal.main_arg4 (by decide) (by decide))).trans (Cert.OutIdeal.Gen.V_main_arg4 m c)⟩)
      (Cert.OutIdeal.Own.run_main m ρ)
  · refine (θ_run Cert.OutReferenceIdeal.defs _ _).mono (fun r h c => ⟨(h c).1.trans ?_, (h c).2⟩) (Cert.OutReferenceIdeal.Value.run (F := Ideal) m' ρ')
    obtain ⟨a0, a1, a2, a3, a4⟩ := harg c
    rw [a0, a1, a2, a3, a4]
    rfl

theorem frame_Norm_reference : Cert.quiescent_NormReferenceIdeal := fun m ρ _ =>
  (θ_run Cert.NormReferenceIdeal.defs _ _).mono (fun r h => ⟨fun c => (h c).2.2, sem_eq_zero_of_no_sems (by decide) r.2⟩)
    (Cert.NormReferenceIdeal.Value.run (F := Ideal) m ρ)

theorem value_norm : Cert.algebraic_NormIdeal_NormReferenceIdeal := fun m ρ m' ρ' _ harg => by
  refine ⟨fun c => Cert.NormIdeal.Own.goal m c, fun c => Cert.NormIdeal.Own.goalb m c, ?_, ?_⟩
  · exact (θ_run Cert.NormIdeal.defs _ _).mono (fun r h c => ⟨(h c).1.trans (Cert.NormIdeal.Own.final3 m c), (h c).2.1.trans (Cert.NormIdeal.Own.final4 m c), (h c).2.2⟩) (Cert.NormIdeal.Value.run_blocks (F := Ideal) m ρ)
  · refine (θ_run Cert.NormReferenceIdeal.defs _ _).mono (fun r h c => ⟨(h c).1.trans ?_, (h c).2.1.trans ?_, (h c).2.2⟩) (Cert.NormReferenceIdeal.Value.run (F := Ideal) m' ρ')
    all_goals
      obtain ⟨a0, a1, a2⟩ := harg c
      rw [a0, a1, a2]
      rfl

theorem frame_Plan_reference : Cert.quiescent_PlanReferenceIdeal := fun m ρ _ =>
  (θ_run Cert.PlanReferenceIdeal.defs _ _).mono (fun r h => ⟨fun c => (h c).2, sem_eq_zero_of_no_sems (by decide) r.2⟩)
    (Cert.PlanReferenceIdeal.Value.run (F := Ideal) m ρ)

theorem frame_Plan_reference_pre : Cert.quiescent_PlanReferenceIdeal_pre_in_range := fun m ρ _ => frame_Plan_reference m ρ trivial

theorem value_plan : Cert.algebraic_PlanIdeal_PlanReferenceIdeal_pre_in_range := fun m ρ m' ρ' hpre harg => by
  refine ⟨fun c => Cert.PlanIdeal.Own.goal m c, ?_, ?_⟩
  · exact (θ_run Cert.PlanIdeal.defs _ _).mono (fun r h c => ⟨(h c).1.trans (Cert.PlanIdeal.Own.final3 m c (hpre c)), (h c).2⟩) (Cert.PlanIdeal.Value.run_blocks (F := Ideal) m ρ)
  · refine (θ_run Cert.PlanReferenceIdeal.defs _ _).mono (fun r h c => ⟨(h c).1.trans ?_, (h c).2⟩) (Cert.PlanReferenceIdeal.Value.run (F := Ideal) m' ρ')
    obtain ⟨a0, a1, a2⟩ := harg c
    rw [a0, a1, a2]
    rfl

theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts,
  Cert.Mix.Gen.facts, Cert.MixIdeal.Gen.facts, Cert.MixReferenceIdeal.Gen.facts,
  Cert.Out.Gen.facts, Cert.OutIdeal.Gen.facts, Cert.OutReferenceIdeal.Gen.facts,
  Cert.Norm.Gen.facts, Cert.NormIdeal.Gen.facts, Cert.NormReferenceIdeal.Gen.facts,
  Cert.Plan.Gen.facts, Cert.PlanIdeal.Gen.facts, Cert.PlanReferenceIdeal.Gen.facts, Cert.Pre_finite.Gen.facts, Cert.Pre_in_range.Gen.facts,
  frame_P, frame_PI, frame_PI_pre, frame_RI, frame_RI_pre,
  fun m ρ _ => Cert.Proj.Gen.frame m ρ, fun m ρ _ => Cert.ProjIdeal.Gen.frame m ρ, frame_Proj_reference,
  fun m ρ _ => Cert.Mix.Gen.frame m ρ, fun m ρ _ => Cert.MixIdeal.Gen.frame m ρ, frame_Mix_reference,
  frame_Out, frame_OutIdeal, frame_Out_reference,
  fun m ρ _ => Cert.Norm.Gen.frame m ρ, fun m ρ _ => Cert.NormIdeal.Gen.frame m ρ, frame_Norm_reference,
  fun m ρ _ => Cert.Plan.Gen.frame m ρ, fun m ρ _ => Cert.PlanIdeal.Gen.frame m ρ, fun m ρ _ => Cert.PlanIdeal.Gen.frame m ρ,
  frame_Plan_reference, frame_Plan_reference_pre,
  trivial, value, scale_named, value_proj, trivial, value_mix, packing, value_out, trivial, value_norm, trivial, value_plan⟩

end Cert.Proof

end
